-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x6144 : Shape := ⟨3, ![3, 1, 6144]⟩
abbrev S3x1x6x128 : Shape := ⟨4, ![3, 1, 6, 128]⟩
abbrev S3x131072x6x128 : Shape := ⟨4, ![3, 131072, 6, 128]⟩
abbrev S3x6x128 : Shape := ⟨3, ![3, 6, 128]⟩
abbrev S3 : Shape := ⟨1, ![3]⟩
abbrev S3x6144 : Shape := ⟨2, ![3, 6144]⟩
abbrev S3x6x131072x128 : Shape := ⟨4, ![3, 6, 131072, 128]⟩
abbrev S3x48x128 : Shape := ⟨3, ![3, 48, 128]⟩
abbrev S3x6x1088x128 : Shape := ⟨4, ![3, 6, 1088, 128]⟩
abbrev S384x128 : Shape := ⟨2, ![384, 128]⟩
abbrev S_ : Shape := ⟨0, ![]⟩
abbrev S4 : Shape := ⟨1, ![4]⟩
abbrev S3x2 : Shape := ⟨2, ![3, 2]⟩
abbrev S1 : Shape := ⟨1, ![1]⟩
abbrev S1x1 : Shape := ⟨2, ![1, 1]⟩
abbrev S1x6x16x128 : Shape := ⟨4, ![1, 6, 16, 128]⟩
abbrev S6x16x128 : Shape := ⟨3, ![6, 16, 128]⟩
abbrev S1x6x32x128 : Shape := ⟨4, ![1, 6, 32, 128]⟩
abbrev S6x32x128 : Shape := ⟨3, ![6, 32, 128]⟩
abbrev S1x6x1056x128 : Shape := ⟨4, ![1, 6, 1056, 128]⟩
abbrev S6x1056x128 : Shape := ⟨3, ![6, 1056, 128]⟩
abbrev S1x1x128 : Shape := ⟨3, ![1, 1, 128]⟩
abbrev S1x128 : Shape := ⟨2, ![1, 128]⟩
abbrev S16x128 : Shape := ⟨2, ![16, 128]⟩
abbrev S1x1x16x128 : Shape := ⟨4, ![1, 1, 16, 128]⟩
abbrev S3x128 : Shape := ⟨2, ![3, 128]⟩
abbrev S8x128 : Shape := ⟨2, ![8, 128]⟩
abbrev S16x1088 : Shape := ⟨2, ![16, 1088]⟩
abbrev S8x256 : Shape := ⟨2, ![8, 256]⟩
abbrev S16x256 : Shape := ⟨2, ![16, 256]⟩
abbrev S1x1x1088x128 : Shape := ⟨4, ![1, 1, 1088, 128]⟩
abbrev S1088x128 : Shape := ⟨2, ![1088, 128]⟩
abbrev S1088x256 : Shape := ⟨2, ![1088, 256]⟩
abbrev S16 : Shape := ⟨1, ![16]⟩
abbrev S16x1 : Shape := ⟨2, ![16, 1]⟩
abbrev S32x1088 : Shape := ⟨2, ![32, 1088]⟩
abbrev S32x256 : Shape := ⟨2, ![32, 256]⟩
abbrev S8x1 : Shape := ⟨2, ![8, 1]⟩
abbrev S1x8x128 : Shape := ⟨3, ![1, 8, 128]⟩
abbrev S1x48x128 : Shape := ⟨3, ![1, 48, 128]⟩
abbrev S48x128 : Shape := ⟨2, ![48, 128]⟩

abbrev nBuf : Space → Nat
  | .hbm => 16
  | .vmem => 10
  | .smem => 1
  | _ => 0

abbrev bufTy : (tb : Table) → Fin (tcTables nBuf tb) → BufTy
  | .hbm, ⟨0, _⟩ => ⟨S3x1x6144, .bf16⟩
  | .hbm, ⟨1, _⟩ => ⟨S3x1x6x128, .bf16⟩
  | .hbm, ⟨2, _⟩ => ⟨S3x1x6x128, .bf16⟩
  | .hbm, ⟨3, _⟩ => ⟨S3x131072x6x128, .bf16⟩
  | .hbm, ⟨4, _⟩ => ⟨S3x131072x6x128, .fp8e4m3⟩
  | .hbm, ⟨5, _⟩ => ⟨S3x6x128, .f32⟩
  | .hbm, ⟨6, _⟩ => ⟨S3, .i32⟩
  | .hbm, ⟨7, _⟩ => ⟨S3x6144, .bf16⟩
  | .hbm, ⟨8, _⟩ => ⟨S3x6x128, .bf16⟩
  | .hbm, ⟨9, _⟩ => ⟨S3x6x128, .bf16⟩
  | .hbm, ⟨10, _⟩ => ⟨S3x6x131072x128, .bf16⟩
  | .hbm, ⟨11, _⟩ => ⟨S3x6x131072x128, .fp8e4m3⟩
  | .hbm, ⟨12, _⟩ => ⟨S3x6144, .bf16⟩
  | .hbm, ⟨13, _⟩ => ⟨S3x48x128, .f32⟩
  | .hbm, ⟨14, _⟩ => ⟨S3x1x6144, .bf16⟩
  | .hbm, ⟨15, _⟩ => ⟨S3x1x6144, .f32⟩
  | .local _ .vmem, ⟨0, _⟩ => ⟨S3x6144, .bf16⟩
  | .local _ .vmem, ⟨1, _⟩ => ⟨S3x6x128, .bf16⟩
  | .local _ .vmem, ⟨2, _⟩ => ⟨S3x6x128, .bf16⟩
  | .local _ .vmem, ⟨3, _⟩ => ⟨S3x6x128, .f32⟩
  | .local _ .vmem, ⟨4, _⟩ => ⟨S3x6x1088x128, .bf16⟩
  | .local _ .vmem, ⟨5, _⟩ => ⟨S3x6x1088x128, .fp8e4m3⟩
  | .local _ .vmem, ⟨6, _⟩ => ⟨S384x128, .f32⟩
  | .local _ .vmem, ⟨7, _⟩ => ⟨S384x128, .f32⟩
  | .local _ .vmem, ⟨8, _⟩ => ⟨S3x6144, .bf16⟩
  | .local _ .vmem, ⟨9, _⟩ => ⟨S3x48x128, .f32⟩
  | .local _ .smem, ⟨0, _⟩ => ⟨S3, .i32⟩
  | _, _ => ⟨S3x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch0 : Ref sig .tc := ⟨.smem, 0, rfl⟩

abbrev nD : Nat := 1
abbrev τ : Topo := Topo.v7x

variable {F : FTy → Type} [FloatOps F]

abbrev grid0 : Pipeline.Grid := .none

def k0_mult1 (v44 : BitVec 32) : BitVec 32 :=
  let c130016_i32 : BitVec 32 := 130016#32
  let c0_i32_59 : BitVec 32 := 0#32
  let c1024_i32 : BitVec 32 := 1024#32
  let v45 : BitVec 32 := Scalar.subi v44 c1024_i32
  let v46 : BitVec 32 := Scalar.maxsi c0_i32_59 v45
  let v47 : BitVec 32 := Scalar.minsi c130016_i32 v46
  let c_m32_i32 : BitVec 32 := 4294967264#32
  let v48 : BitVec 32 := Scalar.andi v47 c_m32_i32
  v48

def k0_mult2 (v50 : BitVec 32) : BitVec 32 :=
  let c130016_i32_62 : BitVec 32 := 130016#32
  let c0_i32_61 : BitVec 32 := 0#32
  let c1024_i32_60 : BitVec 32 := 1024#32
  let v51 : BitVec 32 := Scalar.subi v50 c1024_i32_60
  let v52 : BitVec 32 := Scalar.maxsi c0_i32_61 v51
  let v53 : BitVec 32 := Scalar.minsi c130016_i32_62 v52
  let c_m32_i32_63 : BitVec 32 := 4294967264#32
  let v54 : BitVec 32 := Scalar.andi v53 c_m32_i32_63
  v54

def k0_mult3 (v56 : BitVec 32) : BitVec 32 :=
  let c130016_i32_66 : BitVec 32 := 130016#32
  let c0_i32_65 : BitVec 32 := 0#32
  let c1024_i32_64 : BitVec 32 := 1024#32
  let v57 : BitVec 32 := Scalar.subi v56 c1024_i32_64
  let v58 : BitVec 32 := Scalar.maxsi c0_i32_65 v57
  let v59 : BitVec 32 := Scalar.minsi c130016_i32_66 v58
  let c_m32_i32_67 : BitVec 32 := 4294967264#32
  let v60 : BitVec 32 := Scalar.andi v59 c_m32_i32_67
  v60

def k0_off1 (v44 : BitVec 32) : Fin 4 → Nat :=
  let c0_i32_68 : BitVec 32 := 0#32
  let c0_i32_75 : BitVec 32 := 0#32
  let c130016_i32 : BitVec 32 := 130016#32
  let c0_i32_59 : BitVec 32 := 0#32
  let c1024_i32 : BitVec 32 := 1024#32
  let v45 : BitVec 32 := Scalar.subi v44 c1024_i32
  let v46 : BitVec 32 := Scalar.maxsi c0_i32_59 v45
  let v47 : BitVec 32 := Scalar.minsi c130016_i32 v46
  let c_m32_i32 : BitVec 32 := 4294967264#32
  let v48 : BitVec 32 := Scalar.andi v47 c_m32_i32
  let v49 : BitVec 32 := v48
  let c0_i32_76 : BitVec 32 := 0#32
  ![0, 0, v49.toNat, 0]
def k0_off2 (v50 : BitVec 32) : Fin 4 → Nat :=
  let c1_i32_77 : BitVec 32 := 1#32
  let c0_i32_84 : BitVec 32 := 0#32
  let c130016_i32_62 : BitVec 32 := 130016#32
  let c0_i32_61 : BitVec 32 := 0#32
  let c1024_i32_60 : BitVec 32 := 1024#32
  let v51 : BitVec 32 := Scalar.subi v50 c1024_i32_60
  let v52 : BitVec 32 := Scalar.maxsi c0_i32_61 v51
  let v53 : BitVec 32 := Scalar.minsi c130016_i32_62 v52
  let c_m32_i32_63 : BitVec 32 := 4294967264#32
  let v54 : BitVec 32 := Scalar.andi v53 c_m32_i32_63
  let v55 : BitVec 32 := v54
  let c0_i32_85 : BitVec 32 := 0#32
  ![1, 0, v55.toNat, 0]
def k0_off3 (v56 : BitVec 32) : Fin 4 → Nat :=
  let c2_i32_86 : BitVec 32 := 2#32
  let c0_i32_93 : BitVec 32 := 0#32
  let c130016_i32_66 : BitVec 32 := 130016#32
  let c0_i32_65 : BitVec 32 := 0#32
  let c1024_i32_64 : BitVec 32 := 1024#32
  let v57 : BitVec 32 := Scalar.subi v56 c1024_i32_64
  let v58 : BitVec 32 := Scalar.maxsi c0_i32_65 v57
  let v59 : BitVec 32 := Scalar.minsi c130016_i32_66 v58
  let c_m32_i32_67 : BitVec 32 := 4294967264#32
  let v60 : BitVec 32 := Scalar.andi v59 c_m32_i32_67
  let v61 : BitVec 32 := v60
  let c0_i32_94 : BitVec 32 := 0#32
  ![2, 0, v61.toNat, 0]

def k0_chk1 (v44 : BitVec 32) : Prop :=
  (32 ∣ (k0_mult1 v44).toNat) ∧
  (∀ a, (k0_off1 v44) a + S1x6x1056x128.size a ≤ S3x6x131072x128.size a) ∧
  (∀ (hinb : ∀ a, (k0_off1 v44) a + S1x6x1056x128.size a ≤ S3x6x131072x128.size a), (Rect.unit (s := S3x6x131072x128) (k0_off1 v44) S1x6x1056x128.size hinb).WholeWords (EltTy.packing .bf16)) ∧
  (∀ (hinb : ∀ a, (k0_off1 v44) a + S1x6x1056x128.size a ≤ S3x6x131072x128.size a), (Rect.unit (s := S3x6x131072x128) (k0_off1 v44) S1x6x1056x128.size hinb).WholeWords (EltTy.packing .fp8e4m3))
theorem k0_mult1_dvd : ∀ (v44 : BitVec 32) (k0_hw1 : k0_chk1 v44), 32 ∣ (k0_mult1 v44).toNat := fun v44 k0_hw1 => k0_hw1.1
theorem k0_off1_inb : ∀ (v44 : BitVec 32) (k0_hw1 : k0_chk1 v44), ∀ a, (k0_off1 v44) a + S1x6x1056x128.size a ≤ S3x6x131072x128.size a := fun v44 k0_hw1 => k0_hw1.2.1
theorem k0_off1_wordsbf16 : ∀ (v44 : BitVec 32) (k0_hw1 : k0_chk1 v44), (Rect.unit (s := S3x6x131072x128) (k0_off1 v44) S1x6x1056x128.size (k0_off1_inb v44 k0_hw1)).WholeWords (EltTy.packing .bf16) := fun v44 k0_hw1 => k0_hw1.2.2.1 (k0_off1_inb v44 k0_hw1)
theorem k0_off1_wordsfp8e4m3 : ∀ (v44 : BitVec 32) (k0_hw1 : k0_chk1 v44), (Rect.unit (s := S3x6x131072x128) (k0_off1 v44) S1x6x1056x128.size (k0_off1_inb v44 k0_hw1)).WholeWords (EltTy.packing .fp8e4m3) := fun v44 k0_hw1 => k0_hw1.2.2.2 (k0_off1_inb v44 k0_hw1)

def k0_chk2 (v50 : BitVec 32) : Prop :=
  (32 ∣ (k0_mult2 v50).toNat) ∧
  (∀ a, (k0_off2 v50) a + S1x6x1056x128.size a ≤ S3x6x131072x128.size a) ∧
  (∀ (hinb : ∀ a, (k0_off2 v50) a + S1x6x1056x128.size a ≤ S3x6x131072x128.size a), (Rect.unit (s := S3x6x131072x128) (k0_off2 v50) S1x6x1056x128.size hinb).WholeWords (EltTy.packing .bf16)) ∧
  (∀ (hinb : ∀ a, (k0_off2 v50) a + S1x6x1056x128.size a ≤ S3x6x131072x128.size a), (Rect.unit (s := S3x6x131072x128) (k0_off2 v50) S1x6x1056x128.size hinb).WholeWords (EltTy.packing .fp8e4m3))
theorem k0_mult2_dvd : ∀ (v50 : BitVec 32) (k0_hw2 : k0_chk2 v50), 32 ∣ (k0_mult2 v50).toNat := fun v50 k0_hw2 => k0_hw2.1
theorem k0_off2_inb : ∀ (v50 : BitVec 32) (k0_hw2 : k0_chk2 v50), ∀ a, (k0_off2 v50) a + S1x6x1056x128.size a ≤ S3x6x131072x128.size a := fun v50 k0_hw2 => k0_hw2.2.1
theorem k0_off2_wordsbf16 : ∀ (v50 : BitVec 32) (k0_hw2 : k0_chk2 v50), (Rect.unit (s := S3x6x131072x128) (k0_off2 v50) S1x6x1056x128.size (k0_off2_inb v50 k0_hw2)).WholeWords (EltTy.packing .bf16) := fun v50 k0_hw2 => k0_hw2.2.2.1 (k0_off2_inb v50 k0_hw2)
theorem k0_off2_wordsfp8e4m3 : ∀ (v50 : BitVec 32) (k0_hw2 : k0_chk2 v50), (Rect.unit (s := S3x6x131072x128) (k0_off2 v50) S1x6x1056x128.size (k0_off2_inb v50 k0_hw2)).WholeWords (EltTy.packing .fp8e4m3) := fun v50 k0_hw2 => k0_hw2.2.2.2 (k0_off2_inb v50 k0_hw2)

def k0_chk3 (v56 : BitVec 32) : Prop :=
  (32 ∣ (k0_mult3 v56).toNat) ∧
  (∀ a, (k0_off3 v56) a + S1x6x1056x128.size a ≤ S3x6x131072x128.size a) ∧
  (∀ (hinb : ∀ a, (k0_off3 v56) a + S1x6x1056x128.size a ≤ S3x6x131072x128.size a), (Rect.unit (s := S3x6x131072x128) (k0_off3 v56) S1x6x1056x128.size hinb).WholeWords (EltTy.packing .bf16)) ∧
  (∀ (hinb : ∀ a, (k0_off3 v56) a + S1x6x1056x128.size a ≤ S3x6x131072x128.size a), (Rect.unit (s := S3x6x131072x128) (k0_off3 v56) S1x6x1056x128.size hinb).WholeWords (EltTy.packing .fp8e4m3))
theorem k0_mult3_dvd : ∀ (v56 : BitVec 32) (k0_hw3 : k0_chk3 v56), 32 ∣ (k0_mult3 v56).toNat := fun v56 k0_hw3 => k0_hw3.1
theorem k0_off3_inb : ∀ (v56 : BitVec 32) (k0_hw3 : k0_chk3 v56), ∀ a, (k0_off3 v56) a + S1x6x1056x128.size a ≤ S3x6x131072x128.size a := fun v56 k0_hw3 => k0_hw3.2.1
theorem k0_off3_wordsbf16 : ∀ (v56 : BitVec 32) (k0_hw3 : k0_chk3 v56), (Rect.unit (s := S3x6x131072x128) (k0_off3 v56) S1x6x1056x128.size (k0_off3_inb v56 k0_hw3)).WholeWords (EltTy.packing .bf16) := fun v56 k0_hw3 => k0_hw3.2.2.1 (k0_off3_inb v56 k0_hw3)
theorem k0_off3_wordsfp8e4m3 : ∀ (v56 : BitVec 32) (k0_hw3 : k0_chk3 v56), (Rect.unit (s := S3x6x131072x128) (k0_off3 v56) S1x6x1056x128.size (k0_off3_inb v56 k0_hw3)).WholeWords (EltTy.packing .fp8e4m3) := fun v56 k0_hw3 => k0_hw3.2.2.2 (k0_off3_inb v56 k0_hw3)
-- ==== ReferenceIdeal.lean ====
abbrev S3x1x6144 : Shape := ⟨3, ![3, 1, 6144]⟩
abbrev S3x1x6x128 : Shape := ⟨4, ![3, 1, 6, 128]⟩
abbrev S3x131072x6x128 : Shape := ⟨4, ![3, 131072, 6, 128]⟩
abbrev S3x6x128 : Shape := ⟨3, ![3, 6, 128]⟩
abbrev S3 : Shape := ⟨1, ![3]⟩
abbrev S3x1x6x8x128 : Shape := ⟨5, ![3, 1, 6, 8, 128]⟩
abbrev S3x6x131072x1x8 : Shape := ⟨5, ![3, 6, 131072, 1, 8]⟩
abbrev S3x1x6x8x131072 : Shape := ⟨5, ![3, 1, 6, 8, 131072]⟩
abbrev S_ : Shape := ⟨0, ![]⟩
abbrev S131072 : Shape := ⟨1, ![131072]⟩
abbrev S1x131072 : Shape := ⟨2, ![1, 131072]⟩
abbrev S3x1 : Shape := ⟨2, ![3, 1]⟩
abbrev S3x131072 : Shape := ⟨2, ![3, 131072]⟩
abbrev S3x1x1x1x131072 : Shape := ⟨5, ![3, 1, 1, 1, 131072]⟩
abbrev S3x1x6x8 : Shape := ⟨4, ![3, 1, 6, 8]⟩
abbrev S3x1x6x8x1 : Shape := ⟨5, ![3, 1, 6, 8, 1]⟩
abbrev S3x6x128x1x8 : Shape := ⟨5, ![3, 6, 128, 1, 8]⟩
abbrev S3x1x6x1x128 : Shape := ⟨5, ![3, 1, 6, 1, 128]⟩

abbrev nBuf : Space → Nat
  | .hbm => 81
  | .vmem => 4
  | .smem => 0
  | _ => 0

abbrev bufTy : (tb : Table) → Fin (tcTables nBuf tb) → BufTy
  | .hbm, ⟨0, _⟩ => ⟨S3x1x6144, .bf16⟩
  | .hbm, ⟨1, _⟩ => ⟨S3x1x6x128, .bf16⟩
  | .hbm, ⟨2, _⟩ => ⟨S3x1x6x128, .bf16⟩
  | .hbm, ⟨3, _⟩ => ⟨S3x131072x6x128, .bf16⟩
  | .hbm, ⟨4, _⟩ => ⟨S3x131072x6x128, .fp8e4m3⟩
  | .hbm, ⟨5, _⟩ => ⟨S3x6x128, .f32⟩
  | .hbm, ⟨6, _⟩ => ⟨S3, .i32⟩
  | .hbm, ⟨7, _⟩ => ⟨S3x1x6x8x128, .bf16⟩
  | .hbm, ⟨8, _⟩ => ⟨S3x6x131072x1x8, .f32⟩
  | .hbm, ⟨9, _⟩ => ⟨S3x1x6x8x131072, .f32⟩
  | .hbm, ⟨10, _⟩ => ⟨S_, .f32⟩
  | .hbm, ⟨11, _⟩ => ⟨S3x1x6x8x131072, .f32⟩
  | .hbm, ⟨12, _⟩ => ⟨S3x1x6x8x131072, .f32⟩
  | .hbm, ⟨13, _⟩ => ⟨S131072, .i32⟩
  | .hbm, ⟨14, _⟩ => ⟨S1x131072, .i32⟩
  | .hbm, ⟨15, _⟩ => ⟨S3x1, .i32⟩
  | .hbm, ⟨16, _⟩ => ⟨S3x131072, .i32⟩
  | .hbm, ⟨17, _⟩ => ⟨S3x131072, .i32⟩
  | .hbm, ⟨18, _⟩ => ⟨S3x131072, .i1⟩
  | .hbm, ⟨19, _⟩ => ⟨S_, .i32⟩
  | .hbm, ⟨20, _⟩ => ⟨S1x131072, .i32⟩
  | .hbm, ⟨21, _⟩ => ⟨S1x131072, .i1⟩
  | .hbm, ⟨22, _⟩ => ⟨S_, .i32⟩
  | .hbm, ⟨23, _⟩ => ⟨S3x1, .i32⟩
  | .hbm, ⟨24, _⟩ => ⟨S3x1, .i32⟩
  | .hbm, ⟨25, _⟩ => ⟨S3x131072, .i32⟩
  | .hbm, ⟨26, _⟩ => ⟨S3x131072, .i32⟩
  | .hbm, ⟨27, _⟩ => ⟨S3x131072, .i1⟩
  | .hbm, ⟨28, _⟩ => ⟨S3x131072, .i1⟩
  | .hbm, ⟨29, _⟩ => ⟨S3x131072, .i1⟩
  | .hbm, ⟨30, _⟩ => ⟨S3x131072, .i1⟩
  | .hbm, ⟨31, _⟩ => ⟨S3x1x1x1x131072, .i1⟩
  | .hbm, ⟨32, _⟩ => ⟨S_, .f32⟩
  | .hbm, ⟨33, _⟩ => ⟨S_, .f32⟩
  | .hbm, ⟨34, _⟩ => ⟨S3x1x6x8x131072, .i1⟩
  | .hbm, ⟨35, _⟩ => ⟨S3x1x6x8x131072, .f32⟩
  | .hbm, ⟨36, _⟩ => ⟨S3x1x6x8x131072, .f32⟩
  | .hbm, ⟨37, _⟩ => ⟨S3x1x6x8, .f32⟩
  | .hbm, ⟨38, _⟩ => ⟨S_, .f32⟩
  | .hbm, ⟨39, _⟩ => ⟨S3x1x6x8, .f32⟩
  | .hbm, ⟨40, _⟩ => ⟨S3x1x6x8, .f32⟩
  | .hbm, ⟨41, _⟩ => ⟨S_, .f32⟩
  | .hbm, ⟨42, _⟩ => ⟨S3x1x6x8, .f32⟩
  | .hbm, ⟨43, _⟩ => ⟨S3x1x6x8, .f32⟩
  | .hbm, ⟨44, _⟩ => ⟨S3x1x6x8x1, .f32⟩
  | .hbm, ⟨45, _⟩ => ⟨S3x1x6x8x131072, .f32⟩
  | .hbm, ⟨46, _⟩ => ⟨S3x1x6x8x131072, .f32⟩
  | .hbm, ⟨47, _⟩ => ⟨S3x1x6x8x131072, .f32⟩
  | .hbm, ⟨48, _⟩ => ⟨S3x1x6x8, .f32⟩
  | .hbm, ⟨49, _⟩ => ⟨S3x1x6x8, .f32⟩
  | .hbm, ⟨50, _⟩ => ⟨S_, .f32⟩
  | .hbm, ⟨51, _⟩ => ⟨S3x1x6x8, .f32⟩
  | .hbm, ⟨52, _⟩ => ⟨S3x1x6x8, .f32⟩
  | .hbm, ⟨53, _⟩ => ⟨S3x1x6x8x131072, .f32⟩
  | .hbm, ⟨54, _⟩ => ⟨S3x131072x6x128, .f32⟩
  | .hbm, ⟨55, _⟩ => ⟨S3x6x128x1x8, .f32⟩
  | .hbm, ⟨56, _⟩ => ⟨S3x1x6x8x128, .f32⟩
  | .hbm, ⟨57, _⟩ => ⟨S_, .f32⟩
  | .hbm, ⟨58, _⟩ => ⟨S3x1x6x8x128, .f32⟩
  | .hbm, ⟨59, _⟩ => ⟨S3x1x6x8x128, .f32⟩
  | .hbm, ⟨60, _⟩ => ⟨S3x1x6x1x128, .f32⟩
  | .hbm, ⟨61, _⟩ => ⟨S3x1x6x8x128, .f32⟩
  | .hbm, ⟨62, _⟩ => ⟨S3x1x6x8x128, .f32⟩
  | .hbm, ⟨63, _⟩ => ⟨S_, .f32⟩
  | .hbm, ⟨64, _⟩ => ⟨S3x1x6x8, .f32⟩
  | .hbm, ⟨65, _⟩ => ⟨S3x1x6x8, .f32⟩
  | .hbm, ⟨66, _⟩ => ⟨S3x1x6x8x1, .f32⟩
  | .hbm, ⟨67, _⟩ => ⟨S3x1x6x8x128, .f32⟩
  | .hbm, ⟨68, _⟩ => ⟨S3x1x6x8x128, .f32⟩
  | .hbm, ⟨69, _⟩ => ⟨S3x1x6x8x1, .f32⟩
  | .hbm, ⟨70, _⟩ => ⟨S3x1x6x128, .f32⟩
  | .hbm, ⟨71, _⟩ => ⟨S3x1x6x1x128, .f32⟩
  | .hbm, ⟨72, _⟩ => ⟨S3x1x6x8x128, .f32⟩
  | .hbm, ⟨73, _⟩ => ⟨S3x1x6x8x128, .f32⟩
  | .hbm, ⟨74, _⟩ => ⟨S3x1x6x8x128, .f32⟩
  | .hbm, ⟨75, _⟩ => ⟨S3x1x6x8x128, .f32⟩
  | .hbm, ⟨76, _⟩ => ⟨S3x1x6x8x128, .f32⟩
  | .hbm, ⟨77, _⟩ => ⟨S3x1x6x8x128, .f32⟩
  | .hbm, ⟨78, _⟩ => ⟨S3x1x6144, .f32⟩
  | .hbm, ⟨79, _⟩ => ⟨S3x1x6144, .bf16⟩
  | .hbm, ⟨80, _⟩ => ⟨S3x1x6144, .f32⟩
  | .local _ .vmem, ⟨0, _⟩ => ⟨S3x1x6x8x131072, .f32⟩
  | .local _ .vmem, ⟨1, _⟩ => ⟨S3x131072x6x128, .fp8e4m3⟩
  | .local _ .vmem, ⟨2, _⟩ => ⟨S3x1x6x8x131072, .f32⟩
  | .local _ .vmem, ⟨3, _⟩ => ⟨S3x131072x6x128, .f32⟩
  | _, _ => ⟨S3x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x1x6x8x131072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x131072x6x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1x6x8x131072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x131072x6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Base.lean ====
/-
  The lengths' words, apart from any program: the first row of the window a length names lies in `[0, 130016]` and is a
  multiple of 32, for EVERY 32-bit length.
-/
module

public import Idealize.ShloMosaic.Lib.WordCmp
public import Idealize.ShloMosaic.Lib.Tactic

@[expose] public section

set_option maxRecDepth 16384

namespace Cert.Hand

open Idealize.ShloMosaic

/-- The length less 1024, clipped to `[0, 130016]`. -/
def clipLen (ln : BitVec 32) : BitVec 32 := Scalar.minsi 130016#32 (Scalar.maxsi 0#32 (Scalar.subi ln 1024#32))

/-- The first row of the window a length names: the clipped length rounded down to a multiple of 32. -/
def base (ln : BitVec 32) : BitVec 32 := Scalar.andi (clipLen ln) 4294967264#32

/-- The clipped length as an integer. -/
theorem clipLen_toNat (ln : BitVec 32) :
    (clipLen ln).toNat = (min (130016 : Int) (max 0 (ln - 1024#32).toInt)).toNat := by
  unfold clipLen Scalar.minsi Scalar.maxsi Scalar.subi IntOp.minsi IntOp.maxsi IntOp.subi
  generalize ln - 1024#32 = x
  have hx := BitVec.toInt_eq_toNat_cond x
  have hl := x.isLt
  have e0 : (0#32 : BitVec 32).toInt = 0 := by decide
  have e1 : (130016#32 : BitVec 32).toInt = 130016 := by decide
  have n0 : (0#32 : BitVec 32).toNat = 0 := by decide
  have n1 : (130016#32 : BitVec 32).toNat = 130016 := by decide
  simp only [BitVec.slt, decide_eq_true_eq]
  rw [e1]
  by_cases h : x.toInt < (0#32 : BitVec 32).toInt
  · rw [if_pos h, e0] ; rw [e0] at h
    rw [if_neg (by decide), n0]; omega
  · rw [if_neg h]; rw [e0] at h
    by_cases h2 : (130016 : Int) < x.toInt
    · rw [if_pos h2, n1]; omega
    · rw [if_neg h2]; split at hx <;> omega

/-- The clipped length leaves room for the window. -/
theorem clipLen_le (ln : BitVec 32) : (clipLen ln).toNat ≤ 130016 := by
  rw [clipLen_toNat]; omega

/-- Clearing the five low bits rounds down to a multiple of 32. -/
theorem and_mask_toNat (y : BitVec 32) : (y &&& 4294967264#32).toNat = y.toNat / 32 * 32 := by
  have hm : ∀ i : Nat, i < 32 → (4294967264#32 : BitVec 32).getLsbD i = decide (5 ≤ i) := by decide
  have : y &&& 4294967264#32 = (y >>> 5) <<< 5 := by
    apply BitVec.eq_of_getLsbD_eq
    intro i hi
    simp only [BitVec.getLsbD_and, BitVec.getLsbD_shiftLeft, BitVec.getLsbD_ushiftRight, hm i hi, hi, decide_true, Bool.true_and]
    by_cases h5 : 5 ≤ i
    · simp [h5, Nat.not_lt.2 h5]
    · simp [h5, Nat.lt_of_not_le h5]
  rw [this]
  have hl := y.isLt
  simp only [BitVec.toNat_shiftLeft, BitVec.toNat_ushiftRight, Nat.shiftLeft_eq, Nat.shiftRight_eq_div_pow]
  omega

/-- The window's first row, as an integer. -/
theorem base_toNat (ln : BitVec 32) : (base ln).toNat = (clipLen ln).toNat / 32 * 32 := and_mask_toNat _

/-- The window's base leaves room for the window. -/
theorem base_le (ln : BitVec 32) : (base ln).toNat ≤ 130016 := by
  have := clipLen_le ln; rw [base_toNat]; omega

/-- The window's base is a multiple of 32. -/
theorem base_dvd (ln : BitVec 32) : 32 ∣ (base ln).toNat := by
  rw [base_toNat]; exact ⟨_, Nat.mul_comm _ _⟩

end Cert.Hand
-- ==== Proof.Body.lean ====
/-
  The kernel body's run, as one memory-for-memory symbolic execution.
-/
module

public import proofs.«01_k».proof.Proof.Base
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The side conditions the body assumes of the three lengths hold of every word -/

/-- The first window's copy is in bounds for every length. -/
theorem chk1 (v : BitVec 32) : k0_chk1 v := by
  have hb : (base v).toNat ≤ 130016 := base_le v
  have hd : 32 ∣ (base v).toNat := base_dvd v
  have ho : k0_off1 v = ![0, 0, (base v).toNat, 0] := rfl
  refine ⟨hd, ?_, fun hinb => .inl (.inr ⟨by decide, rfl, .inl ⟨?_, ?_⟩⟩), fun hinb => .inl (.inr ⟨by decide, rfl, .inl ⟨?_, ?_⟩⟩)⟩
  · intro a; rw [ho]
    fin_cases a
    · show 0 + 1 ≤ 3; omega
    · show 0 + 6 ≤ 6; omega
    · show (base v).toNat + 1056 ≤ 131072; omega
    · show 0 + 128 ≤ 128; omega
  · show 2 ∣ (base v).toNat; omega
  · show 2 ∣ 1056; omega
  · show 4 ∣ (base v).toNat; omega
  · show 4 ∣ 1056; omega

/-- The second window's copy is in bounds for every length. -/
theorem chk2 (v : BitVec 32) : k0_chk2 v := by
  have hb : (base v).toNat ≤ 130016 := base_le v
  have hd : 32 ∣ (base v).toNat := base_dvd v
  have ho : k0_off2 v = ![1, 0, (base v).toNat, 0] := rfl
  refine ⟨hd, ?_, fun hinb => .inl (.inr ⟨by decide, rfl, .inl ⟨?_, ?_⟩⟩), fun hinb => .inl (.inr ⟨by decide, rfl, .inl ⟨?_, ?_⟩⟩)⟩
  · intro a; rw [ho]
    fin_cases a
    · show 1 + 1 ≤ 3; omega
    · show 0 + 6 ≤ 6; omega
    · show (base v).toNat + 1056 ≤ 131072; omega
    · show 0 + 128 ≤ 128; omega
  · show 2 ∣ (base v).toNat; omega
  · show 2 ∣ 1056; omega
  · show 4 ∣ (base v).toNat; omega
  · show 4 ∣ 1056; omega

/-- The third window's copy is in bounds for every length. -/
theorem chk3 (v : BitVec 32) : k0_chk3 v := by
  have hb : (base v).toNat ≤ 130016 := base_le v
  have hd : 32 ∣ (base v).toNat := base_dvd v
  have ho : k0_off3 v = ![2, 0, (base v).toNat, 0] := rfl
  refine ⟨hd, ?_, fun hinb => .inl (.inr ⟨by decide, rfl, .inl ⟨?_, ?_⟩⟩), fun hinb => .inl (.inr ⟨by decide, rfl, .inl ⟨?_, ?_⟩⟩)⟩
  · intro a; rw [ho]
    fin_cases a
    · show 2 + 1 ≤ 3; omega
    · show 0 + 6 ≤ 6; omega
    · show (base v).toNat + 1056 ≤ 131072; omega
    · show 0 + 128 ≤ 128; omega
  · show 2 ∣ (base v).toNat; omega
  · show 2 ∣ 1056; omega
  · show 4 ∣ (base v).toNat; omega
  · show 4 ∣ 1056; omega

/-! ## The body's operands -/

/-- The lengths' array. -/
abbrev hbM0 : Memref sig .tc .hbm S3 .i32 := Memref.whole main_arg6
/-- The queries' array. -/
abbrev hbM1 : Memref sig .tc .hbm S3x6144 .bf16 := Memref.whole main_v0
/-- The new keys' array. -/
abbrev hbM2 : Memref sig .tc .hbm S3x6x128 .bf16 := Memref.whole main_v1
/-- The new values' array. -/
abbrev hbM3 : Memref sig .tc .hbm S3x6x128 .bf16 := Memref.whole main_v2
/-- The value scales' array. -/
abbrev hbM4 : Memref sig .tc .hbm S3x6x128 .f32 := Memref.whole main_arg5
/-- The key cache's array. -/
abbrev hbM5 : Memref sig .tc .hbm S3x6x131072x128 .bf16 := Memref.whole main_v3
/-- The value codes' array. -/
abbrev hbM6 : Memref sig .tc .hbm S3x6x131072x128 .fp8e4m3 := Memref.whole main_v4
/-- The first result's array. -/
abbrev hbM7 : Memref sig .tc .hbm S3x6144 .bf16 := Memref.whole main_v5_0
/-- The second result's array. -/
abbrev hbM8 : Memref sig .tc .hbm S3x48x128 .f32 := Memref.whole main_v5_1
/-- The staged lengths. -/
abbrev scM0 : Memref sig .tc .smem S3 .i32 := Memref.whole cc0_scratch0
/-- The staged queries. -/
abbrev scM1 : Memref sig .tc .vmem S3x6144 .bf16 := Memref.whole cc0_scratch1
/-- The staged new keys. -/
abbrev scM2 : Memref sig .tc .vmem S3x6x128 .bf16 := Memref.whole cc0_scratch2
/-- The staged new values. -/
abbrev scM3 : Memref sig .tc .vmem S3x6x128 .bf16 := Memref.whole cc0_scratch3
/-- The staged value scales. -/
abbrev scM4 : Memref sig .tc .vmem S3x6x128 .f32 := Memref.whole cc0_scratch4
/-- The staged key rows. -/
abbrev scM5 : Memref sig .tc .vmem S3x6x1088x128 .bf16 := Memref.whole cc0_scratch5
/-- The staged value codes. -/
abbrev scM6 : Memref sig .tc .vmem S3x6x1088x128 .fp8e4m3 := Memref.whole cc0_scratch6
/-- The queries, one row a head and a sequence. -/
abbrev scM7 : Memref sig .tc .vmem S384x128 .f32 := Memref.whole cc0_scratch7
/-- The output, one row a head and a sequence. -/
abbrev scM8 : Memref sig .tc .vmem S384x128 .f32 := Memref.whole cc0_scratch8
/-- The first result before its copy out. -/
abbrev scM9 : Memref sig .tc .vmem S3x6144 .bf16 := Memref.whole cc0_scratch9
/-- The second result before its copy out. -/
abbrev scM10 : Memref sig .tc .vmem S3x48x128 .f32 := Memref.whole cc0_scratch10
/-- What the buffer behind a memref holds. -/
abbrev Bf (c : Dev nD) {sp : Space} {S : Shape} {e : EltTy} (M : Memref sig .tc sp S e) : Type := Buf (Elt F) (M.view.loc (c : Thread nD τ))
/-- A memref's buffer held whole at given contents. -/
abbrev pt (c : Dev nD) {sp : Space} {S : Shape} {e : EltTy} (M : Memref sig .tc sp S e) (f : Bf (F := F) c M) : sProp 𝕄 :=
  M.view.loc (c : Thread nD τ) ↦{fullShare} f
/-- A DMA cell of the body at its counter zero. -/
abbrev sv (c : Dev nD) (j : DmaSem sig) : sProp 𝕄 := semVal ((c : Thread nD τ), SemLoc.dma j) 0

/-- A buffer held whole is six shares of it held whole: one for each of the six transfers that read it at once. -/
theorem six (ℓ : Loc nD τ sig) (q : PosShare TreeShare) (f : Buf (Elt F) ℓ) :
    (ℓ ↦{q} f : sProp 𝕄) ⊣⊢ iprop((ℓ ↦{q.left.left} f) ∗ (ℓ ↦{q.left.right.left} f) ∗ (ℓ ↦{q.left.right.right} f)
      ∗ (ℓ ↦{q.right.left} f) ∗ (ℓ ↦{q.right.right.left} f) ∗ (ℓ ↦{q.right.right.right} f)) := by
  have h := fun q : PosShare TreeShare => pointsTo_share (Ix := Unit) (Name := ℕ) (U := Pipeline.UD sig nD τ) (Lvl := ℕ) (ℓ := ℓ) (I := Finset.univ) (f := f) (PosShare.mem_left_op_right q)
  constructor
  · iintro H
    ihave ⟨A, B⟩ := (h q).1 $$ H
    ihave ⟨A0, A1⟩ := (h q.left).1 $$ A
    ihave ⟨A1, A2⟩ := (h q.left.right).1 $$ A1
    ihave ⟨B0, B1⟩ := (h q.right).1 $$ B
    ihave ⟨B1, B2⟩ := (h q.right.right).1 $$ B1
    isplitl [A0]; · iexact A0
    isplitl [A1]; · iexact A1
    isplitl [A2]; · iexact A2
    isplitl [B0]; · iexact B0
    isplitl [B1]; · iexact B1
    iexact B2
  · iintro ⟨A0, A1, A2, B0, B1, B2⟩
    ihave A1 := (h q.left.right).2 $$ [A1 A2]
    · isplitl [A1]; · iexact A1
      iexact A2
    ihave A := (h q.left).2 $$ [A0 A1]
    · isplitl [A0]; · iexact A0
      iexact A1
    ihave B1 := (h q.right.right).2 $$ [B1 B2]
    · isplitl [B1]; · iexact B1
      iexact B2
    ihave B := (h q.right).2 $$ [B0 B1]
    · isplitl [B0]; · iexact B0
      iexact B1
    iapply (h q).2
    isplitl [A]; · iexact A
    iexact B

set_option sl_exec.rejoinFuel 200 in
set_option sl_exec.rejoinHeartbeats 200000 in
set_option sl_exec.dmaWindow true in
set_option sl_exec.resultNames true in
/-- The body's run: from the seven operands whole at their contents, the two results and the eleven scratch buffers at
    anything and the twenty-one cells at zero, the body runs to its return handing everything back, the results at contents the run
    finds. -/
noncomputable def kernelRun (c : Dev nD) (h0 : Bf (F := F) c hbM0) (h1 : Bf (F := F) c hbM1) (h2 : Bf (F := F) c hbM2) (h3 : Bf (F := F) c hbM3) (h4 : Bf (F := F) c hbM4) (h5 : Bf (F := F) c hbM5) (h6 : Bf (F := F) c hbM6) (h7 : Bf (F := F) c hbM7) (h8 : Bf (F := F) c hbM8)
    (s0 : Bf (F := F) c scM0) (s1 : Bf (F := F) c scM1) (s2 : Bf (F := F) c scM2) (s3 : Bf (F := F) c scM3) (s4 : Bf (F := F) c scM4) (s5 : Bf (F := F) c scM5) (s6 : Bf (F := F) c scM6) (s7 : Bf (F := F) c scM7) (s8 : Bf (F := F) c scM8) (s9 : Bf (F := F) c scM9) (s10 : Bf (F := F) c scM10) :
    { L : Bf (F := F) c hbM7 × Bf (F := F) c hbM8 //
      ∀ (W : Waits sig Unit) (K : PUnit → sProp 𝕄),
        iprop(pt c hbM0 h0 ∗ pt c hbM1 h1 ∗ pt c hbM2 h2 ∗ pt c hbM3 h3 ∗ pt c hbM4 h4 ∗ pt c hbM5 h5 ∗ pt c hbM6 h6 ∗ pt c hbM7 h7 ∗ pt c hbM8 h8 ∗ pt c scM0 s0 ∗ pt c scM1 s1 ∗ pt c scM2 s2 ∗ pt c scM3 s3 ∗ pt c scM4 s4 ∗ pt c scM5 s5 ∗ pt c scM6 s6 ∗ pt c scM7 s7 ∗ pt c scM8 s8 ∗ pt c scM9 s9 ∗ pt c scM10 s10 ∗ sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20
            ∗ owes (c : Thread nD τ) 0 W
            ∗ (iprop(pt c hbM0 h0 ∗ pt c hbM1 h1 ∗ pt c hbM2 h2 ∗ pt c hbM3 h3 ∗ pt c hbM4 h4 ∗ pt c hbM5 h5 ∗ pt c hbM6 h6 ∗ pt c hbM7 L.1 ∗ pt c hbM8 L.2 ∗ (∃ f, pt c scM0 f) ∗ (∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f) ∗ sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20
                ∗ (∃ W', owes (c : Thread nD τ) 0 W')) -∗ K ⟨⟩))
          ⊢ wp frame (wpE (defs₀ (F := F)) Variants.none c none) Set.univ
              (cc0_gqa_decode hbM0 (Memref.isWhole_whole _) hbM1 (Memref.isWhole_whole _) hbM2 (Memref.isWhole_whole _) hbM3 (Memref.isWhole_whole _) hbM4 (Memref.isWhole_whole _) hbM5 (Memref.isWhole_whole _) hbM6 (Memref.isWhole_whole _) hbM7 (Memref.isWhole_whole _) hbM8 (Memref.isWhole_whole _) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) cc0_scratch11 cc0_scratch12 cc0_scratch13 cc0_scratch14 cc0_scratch15) K } := by
  refine ⟨⟨?_, ?_⟩, fun W K => ?run⟩
  case run =>
    iintro ⟨H0, H1, H2, H3, H4, H5, H6, H7, H8, S0, S1, S2, S3, S4, S5, S6, S7, S8, S9, S10, Q0, Q1, Q2, Q3, Q4, Q5, Q6, Q7, Q8, Q9, Q10, Q11, Q12, Q13, Q14, Q15, Q16, Q17, Q18, Q19, Q20, HW, Hk⟩
    ihave ⟨K0, K1, K2, K3, K4, K5⟩ := (six _ _ _).1 $$ H5
    ihave ⟨V0, V1, V2, V3, V4, V5⟩ := (six _ _ _).1 $$ H6
    sl_exec_parts! (disch := first | exact chk1 _ | exact chk2 _ | exact chk3 _)
    sl_step
    iapply Hk
    ihave H5 := (six _ _ _).2 $$ [K0 K1 K2 K3 K4 K5]
    · isplitl [K0]; · iexact K0
      isplitl [K1]; · iexact K1
      isplitl [K2]; · iexact K2
      isplitl [K3]; · iexact K3
      isplitl [K4]; · iexact K4
      iexact K5
    ihave H6 := (six _ _ _).2 $$ [V0 V1 V2 V3 V4 V5]
    · isplitl [V0]; · iexact V0
      isplitl [V1]; · iexact V1
      isplitl [V2]; · iexact V2
      isplitl [V3]; · iexact V3
      isplitl [V4]; · iexact V4
      iexact V5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    iexists _; iexact HW

end Cert.KernelIdeal.Hand

end
-- ==== Proof.Views.lean ====
/-
  Reading a buffer back after a list of writes whose every payload is one function of the element it lands on.
-/
module

public import Idealize.ShloMosaic.Lib.ValueLayout
public import Idealize.ShloMosaic.Lib.Pointwise
public import Idealize.ShloMosaic.Lib.Pipeline.FrameSuffixV
public import Idealize.ShloMosaic.Lib.Tactic

@[expose] public section

set_option maxRecDepth 16384

noncomputable section

namespace Cert.Hand

open Idealize.ShloMosaic Idealize.ShloMosaic.TcCoe Idealize.SL.Sem

section Agree
variable {sig : RefSig} {κ : Kind} {sp : Space} {s : Shape} {e : EltTy} {Val : EltTy → Type}

/-- After a list of writes, each of whose payloads is `G` at the element it lands on, an element reads `G` if it does so
    before them or some write covers it. -/
theorem read_writes_agree (v : View sig κ sp s e) (f : v.ty.Contents Val) (G : s.Idx → Val e) (y : s.Idx) :
    ∀ L : List (View.Piece Val s e), (∀ p ∈ L, ∀ x, p.2 x = G (p.1.emb x)) →
      ((∀ p ∈ L, y ∉ p.1.set) → v.read Val f y = G y) → v.read Val (v.writes Val f L) y = G y
  | [], _, h => h (fun _ hp => absurd hp List.not_mem_nil)
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_agree v f G y L (fun q hq => hP q (List.mem_cons_of_mem _ hq)) fun hn => h fun q hq => ?_
      rcases List.mem_cons.mp hq with rfl | hq
      · exact hy
      · exact hn q hq

/-- A covered load of such writes reads `G` at the load's elements. -/
theorem readCov_agree [∀ e, Nonempty (Val e)] (v : View sig κ sp s e) (L : List (View.Piece Val s e)) (B : LoadRect s)
    (G : s.Idx → Val e) (hP : ∀ p ∈ L, ∀ x, p.2 x = G (p.1.emb x)) (j : B.shape.Idx) (hc : ∃ p ∈ L, B.idx j ∈ p.1.set) :
    v.readCov L B j = G (B.idx j) :=
  read_writes_agree v v.junk G (B.idx j) L hP fun h => by obtain ⟨p, hp, hm⟩ := hc; exact absurd hm (h p hp)

/-- One unmasked write through a view whose payload is `G` at the element it lands on. -/
theorem write_agree (v : View sig κ sp s e) (f : v.ty.Contents Val) (w : s.Idx → Val e) (G : v.ty.Contents Val) (i : v.ty.Idx)
    (hw : ∀ x, _root_.cast (congrArg Val v.elt_eq.symm) (w x) = G (v.emb x)) (h : (∀ x, v.emb x ≠ i) → f i = G i) :
    v.write Val f w Finset.univ i = G i := by
  by_cases hi : ∃ x, v.emb x = i
  · obtain ⟨x, rfl⟩ := hi
    rw [View.write_emb_of_mem _ _ (Finset.mem_univ x)]
    exact hw x
  · have hn : ∀ x, v.emb x ≠ i := fun x hx => hi ⟨x, hx⟩
    rw [View.write_of_not_mem _ _ _ (by
      intro hm
      obtain ⟨x, -, hx⟩ := Finset.mem_map.mp hm
      exact hn x hx)]
    exact h hn

/-- The element a squeezed slice of a rank-four array names. -/
theorem emb_sq4 {A B C D C' : ℕ} (v : View sig κ sp (⟨4, ![A, B, C, D]⟩ : Shape) e) (off : Fin 4 → ℕ)
    (inb : ∀ a, off a + (⟨4, ![1, B, C', D]⟩ : Shape).size a ≤ (⟨4, ![A, B, C, D]⟩ : Shape).size a)
    (h : (⟨3, ![B, C', D]⟩ : Shape).numel = (⟨4, ![1, B, C', D]⟩ : Shape).numel) (g : Fin B) (l : Fin C') (d : Fin D)
    (y : (⟨4, ![A, B, C, D]⟩ : Shape).Idx) (h0 : (y 0).val = off 0) (h1 : (y 1).val = off 1 + g.val) (h2 : (y 2).val = off 2 + l.val)
    (h3 : (y 3).val = off 3 + d.val) :
    ((v.slice (Rect.unit off (⟨4, ![1, B, C', D]⟩ : Shape).size inb)).reshape (⟨3, ![B, C', D]⟩ : Shape) h).emb (ix3 g l d) = v.emb y := by
  show v.emb ((Rect.unit (s := (⟨4, ![A, B, C, D]⟩ : Shape)) off (⟨4, ![1, B, C', D]⟩ : Shape).size inb).emb (Shape.reshapeEquiv h (ix3 g l d))) = v.emb y
  have e : Shape.reshapeEquiv h (ix3 g l d) = Idealize.ShloMosaic.ix4 (⟨0, Nat.one_pos⟩ : Fin 1) g l d := by
    refine Shape.reshapeEquiv_eq_of_rowMajor h ?_
    rw [Shape.rowMajor_val_four, Shape.rowMajor_val_three]
    show (((0 * B + g.val) * C' + l.val) * D + d.val) = (g.val * C' + l.val) * D + d.val
    simp only [Nat.zero_mul, Nat.zero_add]
  rw [e]
  refine congrArg v.emb (funext fun a => Fin.ext ?_)
  match a with
  | ⟨0, _⟩ => show off 0 + 1 * 0 = (y 0).val; omega
  | ⟨1, _⟩ => show off 1 + 1 * g.val = (y 1).val; omega
  | ⟨2, _⟩ => show off 2 + 1 * l.val = (y 2).val; omega
  | ⟨3, _⟩ => show off 3 + 1 * d.val = (y 3).val; omega

/-- The element a squeezed slice of a rank-three array names. -/
theorem emb_sq3 {A C D C' : ℕ} (v : View sig κ sp (⟨3, ![A, C, D]⟩ : Shape) e) (off : Fin 3 → ℕ)
    (inb : ∀ a, off a + (⟨3, ![1, C', D]⟩ : Shape).size a ≤ (⟨3, ![A, C, D]⟩ : Shape).size a)
    (h : (⟨2, ![C', D]⟩ : Shape).numel = (⟨3, ![1, C', D]⟩ : Shape).numel) (l : Fin C') (d : Fin D)
    (y : (⟨3, ![A, C, D]⟩ : Shape).Idx) (h0 : (y 0).val = off 0) (h1 : (y 1).val = off 1 + l.val) (h2 : (y 2).val = off 2 + d.val) :
    ((v.slice (Rect.unit off (⟨3, ![1, C', D]⟩ : Shape).size inb)).reshape (⟨2, ![C', D]⟩ : Shape) h).emb (ix2 l d) = v.emb y := by
  show v.emb ((Rect.unit (s := (⟨3, ![A, C, D]⟩ : Shape)) off (⟨3, ![1, C', D]⟩ : Shape).size inb).emb (Shape.reshapeEquiv h (ix2 l d))) = v.emb y
  have e : Shape.reshapeEquiv h (ix2 l d) = Idealize.ShloMosaic.ix3 (⟨0, Nat.one_pos⟩ : Fin 1) l d := by
    refine Shape.reshapeEquiv_eq_of_rowMajor h ?_
    rw [Shape.rowMajor_val_three, Shape.rowMajor_val_two]
    show ((0 * C' + l.val) * D + d.val) = l.val * D + d.val
    simp only [Nat.zero_mul, Nat.zero_add]
  rw [e]
  refine congrArg v.emb (funext fun a => Fin.ext ?_)
  match a with
  | ⟨0, _⟩ => show off 0 + 1 * 0 = (y 0).val; omega
  | ⟨1, _⟩ => show off 1 + 1 * l.val = (y 1).val; omega
  | ⟨2, _⟩ => show off 2 + 1 * d.val = (y 2).val; omega

end Agree

end Cert.Hand
-- ==== Proof.Pieces.lean ====
/-
  What the body's run stores, block by block: every stored piece is one function of the sequence and the head group.
-/
module

public import proofs.«01_k».proof.Proof.Body
public import proofs.«01_k».proof.Proof.Views

@[expose] public section

set_option maxRecDepth 16384

noncomputable section

namespace Cert.KernelIdeal.Hand

open Cert.Hand Cert.KernelIdeal Cert.KernelIdeal.Gen
open Idealize.ShloMosaic Idealize.ShloMosaic.TcCoe Idealize.ShloMosaic.Tactic
open Idealize.SL.Sem

variable {F : FTy → Type} [FloatOps F]

/-! ## The body's arithmetic, once for all blocks -/

/-- The scores of two packed head groups: their queries side by side with zeros, against their keys side by side. -/
def scG (q0 q1 : Vec F S8x128 .f32) (k0 k1 : Vec F S1x1x1088x128 .bf16) : FVec F S16x1088 .f32 :=
  k0_pay79 k0_pay78 q0 q1 k0 k1
/-- Which of the 1088 staged rows are visible for a sequence of length `ln`. -/
def visG (ln : BitVec 32) : IVec S16x1088 1 := k0_pay86 (F := F) ln (base ln) (iota .tc S16x1088 32 [1] iota_S16x1088_d1_w32)
/-- One over the softmax's denominator. -/
def ilG (sc : FVec F S16x1088 .f32) (vis : IVec S16x1088 1) : FVec F S16x1 .f32 := k0_pay89 sc vis (FloatOps.ofBits .f32 0x3DB504F3#32)
/-- The new key's unnormalised probability. -/
def pnG (sc : FVec F S16x1088 .f32) (vis : IVec S16x1088 1) : FVec F S16x1 .f32 := k0_pay88 sc vis (FloatOps.ofBits .f32 0x3DB504F3#32)
/-- The probabilities' codes. -/
def cdG (sc : FVec F S16x1088 .f32) (vis : IVec S16x1088 1) : FVec F S32x1088 .fp8e4m3 :=
  k0_pay90 (iota .tc S16x1088 32 [1] iota_S16x1088_d1_w32) sc vis (FloatOps.ofBits .f32 0x3DB504F3#32)
/-- The codes against the values of two head groups side by side. -/
def accG (cd : FVec F S32x1088 .fp8e4m3) (v0 v1 : Vec F S1x1x1088x128 .fp8e4m3) : FVec F S32x256 .f32 := k0_pay144 cd v0 v1
/-- The cache's part of the output, first head group of the pair. -/
def ocG0 (il : FVec F S16x1 .f32) (cd : FVec F S32x1088 .fp8e4m3) (v0 v1 : Vec F S1x1x1088x128 .fp8e4m3) (vs : Vec F S1x1x128 .f32) :
    FVec F S1x8x128 .f32 := k0_pay149 (k0_pay145 il) (k0_pay147 cd v0 v1) vs
/-- The cache's part of the output, second head group of the pair. -/
def ocG1 (il : FVec F S16x1 .f32) (cd : FVec F S32x1088 .fp8e4m3) (v0 v1 : Vec F S1x1x1088x128 .fp8e4m3) (vs : Vec F S1x1x128 .f32) :
    FVec F S1x8x128 .f32 := k0_pay154 il (accG cd v0 v1) vs
/-- The whole output, first head group of the pair. -/
def oG0 (il pn : FVec F S16x1 .f32) (cd : FVec F S32x1088 .fp8e4m3) (v0 v1 : Vec F S1x1x1088x128 .fp8e4m3) (vs : Vec F S1x1x128 .f32)
    (vn : Vec F S1x1x128 .bf16) : FVec F S8x128 .f32 := k0_pay150 (k0_pay145 il) (k0_pay146 pn) (k0_pay147 cd v0 v1) vs vn
/-- The whole output, second head group of the pair. -/
def oG1 (il pn : FVec F S16x1 .f32) (cd : FVec F S32x1088 .fp8e4m3) (v0 v1 : Vec F S1x1x1088x128 .fp8e4m3) (vs : Vec F S1x1x128 .f32)
    (vn : Vec F S1x1x128 .bf16) : FVec F S8x128 .f32 := k0_pay156 (k0_pay151 il) (k0_pay152 pn) (k0_pay153 il (accG cd v0 v1) vs) (k0_pay155 vn)

/-! ## The staged operands -/

section Run
variable (c : Dev nD) (h0 : Bf (F := F) c hbM0) (h1 : Bf (F := F) c hbM1) (h2 : Bf (F := F) c hbM2) (h3 : Bf (F := F) c hbM3)
  (h4 : Bf (F := F) c hbM4) (h5 : Bf (F := F) c hbM5) (h6 : Bf (F := F) c hbM6)
  (s0 : Bf (F := F) c scM0) (s1 : Bf (F := F) c scM1) (s2 : Bf (F := F) c scM2) (s3 : Bf (F := F) c scM3) (s4 : Bf (F := F) c scM4)
  (s5 : Bf (F := F) c scM5) (s6 : Bf (F := F) c scM6) (s7 : Bf (F := F) c scM7) (s8 : Bf (F := F) c scM8) (s9 : Bf (F := F) c scM9)
  (s10 : Bf (F := F) c scM10)

/-- One row of one block of a [3, 6, 128] array. -/
theorem inbRow (b : Fin 3) (g : ℕ) (hg : g < 6) : ∀ a : Fin 3, (![b.val, g, 0] : Fin 3 → ℕ) a + S1x1x128.size a ≤ S3x6x128.size a := by
  intro a
  match a with
  | ⟨0, _⟩ => show b.val + 1 ≤ 3; omega
  | ⟨1, _⟩ => show g + 1 ≤ 6; omega
  | ⟨2, _⟩ => show 0 + 128 ≤ 128; omega
/-- One plane of a [3, 6, 1088, 128] array. -/
theorem inbPlane (b : Fin 3) (g : ℕ) (hg : g < 6) : ∀ a : Fin 4, (![b.val, g, 0, 0] : Fin 4 → ℕ) a + S1x1x1088x128.size a ≤ S3x6x1088x128.size a := by
  intro a
  match a with
  | ⟨0, _⟩ => show b.val + 1 ≤ 3; omega
  | ⟨1, _⟩ => show g + 1 ≤ 6; omega
  | ⟨2, _⟩ => show 0 + 1088 ≤ 1088; omega
  | ⟨3, _⟩ => show 0 + 128 ≤ 128; omega
/-- Every eighth row of a head group's 64 rows. -/
theorem inbQ (b : Fin 3) (g : ℕ) (hg : g < 6) : ∀ a : Fin 2, (![64 * g + b.val, 0] : Fin 2 → ℕ) a + (![8, 1] : Fin 2 → ℕ) a * (S8x128.size a - 1) < S384x128.size a := by
  intro a
  match a with
  | ⟨0, _⟩ => show 64 * g + b.val + 8 * (8 - 1) < 384; omega
  | ⟨1, _⟩ => show 0 + 1 * (128 - 1) < 128; omega

/-- The head group numbers are in range. -/
theorem g0_lt (p : Fin 3) : 2 * p.val < 6 := by omega
/-- The second group of a pair is a group. -/
theorem g1_lt (p : Fin 3) : 2 * p.val + 1 < 6 := by omega

/-- The length word of sequence `b`, as the body reads it. -/
def lnPre (b : Fin 3) : BitVec 32 :=
  View.readAt (Elt F) scM0.view (Rect.unit (s := S3) ![b.val] S1.size (by intro a; match a with | ⟨0, _⟩ => show b.val + 1 ≤ 3; omega)).toLoadRect
    (View.write (Elt F) scM0.view s0 (kernelRun.sl.dma0 c h0) Finset.univ) (Shape.Idx.first (show 0 < S1.numel by decide))
/-- The eight query rows of head group `g` of sequence `b`, as the body reads them. -/
def qPre (b : Fin 3) (g : ℕ) (hg : g < 6) : Vec F S8x128 .f32 :=
  scM7.view.readCov (kernelRun.sl.S7_48 c h1 s1) { off := ![64 * g + b.val, 0], size := S8x128.size, stride := ![8, 1], inb := fun a => .inr (inbQ b g hg a) }
/-- The key buffer once every transfer has landed and the new keys are stored. -/
def kBuf : Bf (F := F) c scM5 :=
  scM5.view.writes (Elt F)
    (View.write (Elt F) ((scM5.slice (Rect.unit ![2, 0, 0, 0] S1x6x1056x128.size inb_S3x6x1088x128_S1x6x1056x128_2_0_0_0) (fun _ => rfl)).squeeze S6x1056x128 squeezes_S1x6x1056x128_S6x1056x128).view
      (View.write (Elt F) ((scM5.slice (Rect.unit ![1, 0, 0, 0] S1x6x1056x128.size inb_S3x6x1088x128_S1x6x1056x128_1_0_0_0) (fun _ => rfl)).squeeze S6x1056x128 squeezes_S1x6x1056x128_S6x1056x128).view
        (View.write (Elt F) ((scM5.slice (Rect.unit ![0, 0, 0, 0] S1x6x1056x128.size inb_S3x6x1088x128_S1x6x1056x128_0_0_0_0) (fun _ => rfl)).squeeze S6x1056x128 squeezes_S1x6x1056x128_S6x1056x128).view
          (View.write (Elt F) ((scM5.slice (Rect.unit ![2, 0, 1056, 0] S1x6x16x128.size inb_S3x6x1088x128_S1x6x16x128_2_0_1056_0) (fun _ => rfl)).squeeze S6x16x128 squeezes_S1x6x16x128_S6x16x128).view
            (View.write (Elt F) ((scM5.slice (Rect.unit ![1, 0, 1056, 0] S1x6x16x128.size inb_S3x6x1088x128_S1x6x16x128_1_0_1056_0) (fun _ => rfl)).squeeze S6x16x128 squeezes_S1x6x16x128_S6x16x128).view
              (View.write (Elt F) ((scM5.slice (Rect.unit ![0, 0, 1056, 0] S1x6x16x128.size inb_S3x6x1088x128_S1x6x16x128_0_0_1056_0) (fun _ => rfl)).squeeze S6x16x128 squeezes_S1x6x16x128_S6x16x128).view
                s5 (kernelRun.sl.dma0_5 c h5) Finset.univ)
              (kernelRun.sl.dma0_6 c h5) Finset.univ)
            (kernelRun.sl.dma0_7 c h5) Finset.univ)
          (kernelRun.sl.dma3 c h0 h5 s0) Finset.univ)
        (kernelRun.sl.dma3_1 c h0 h5 s0) Finset.univ)
      (kernelRun.sl.dma3_2 c h0 h5 s0) Finset.univ)
    (kernelRun.sl.S5_18 c h2 s2)
/-- The value buffer once every transfer has landed. -/
def vBuf : Bf (F := F) c scM6 :=
    (View.write (Elt F) ((scM6.slice (Rect.unit ![2, 0, 0, 0] S1x6x1056x128.size inb_S3x6x1088x128_S1x6x1056x128_2_0_0_0) (fun _ => rfl)).squeeze S6x1056x128 squeezes_S1x6x1056x128_S6x1056x128).view
      (View.write (Elt F) ((scM6.slice (Rect.unit ![1, 0, 0, 0] S1x6x1056x128.size inb_S3x6x1088x128_S1x6x1056x128_1_0_0_0) (fun _ => rfl)).squeeze S6x1056x128 squeezes_S1x6x1056x128_S6x1056x128).view
        (View.write (Elt F) ((scM6.slice (Rect.unit ![0, 0, 0, 0] S1x6x1056x128.size inb_S3x6x1088x128_S1x6x1056x128_0_0_0_0) (fun _ => rfl)).squeeze S6x1056x128 squeezes_S1x6x1056x128_S6x1056x128).view
          (View.write (Elt F) ((scM6.slice (Rect.unit ![2, 0, 1056, 0] S1x6x32x128.size inb_S3x6x1088x128_S1x6x32x128_2_0_1056_0) (fun _ => rfl)).squeeze S6x32x128 squeezes_S1x6x32x128_S6x32x128).view
            (View.write (Elt F) ((scM6.slice (Rect.unit ![1, 0, 1056, 0] S1x6x32x128.size inb_S3x6x1088x128_S1x6x32x128_1_0_1056_0) (fun _ => rfl)).squeeze S6x32x128 squeezes_S1x6x32x128_S6x32x128).view
              (View.write (Elt F) ((scM6.slice (Rect.unit ![0, 0, 1056, 0] S1x6x32x128.size inb_S3x6x1088x128_S1x6x32x128_0_0_1056_0) (fun _ => rfl)).squeeze S6x32x128 squeezes_S1x6x32x128_S6x32x128).view
                s6 (kernelRun.sl.dma0_8 c h6) Finset.univ)
              (kernelRun.sl.dma0_9 c h6) Finset.univ)
            (kernelRun.sl.dma0_10 c h6) Finset.univ)
          (kernelRun.sl.dma3_3 c h0 h6 s0) Finset.univ)
        (kernelRun.sl.dma3_4 c h0 h6 s0) Finset.univ)
      (kernelRun.sl.dma3_5 c h0 h6 s0) Finset.univ)
/-- The staged key rows of one head group. -/
def kPre (b : Fin 3) (g : ℕ) (hg : g < 6) : Vec F S1x1x1088x128 .bf16 :=
  View.readAt (Elt F) scM5.view (Rect.unit (s := S3x6x1088x128) ![b.val, g, 0, 0] S1x1x1088x128.size (inbPlane b g hg)).toLoadRect (kBuf c h0 h2 h5 s0 s2 s5)
/-- The staged value rows of one head group. -/
def vPre (b : Fin 3) (g : ℕ) (hg : g < 6) : Vec F S1x1x1088x128 .fp8e4m3 :=
  View.readAt (Elt F) scM6.view (Rect.unit (s := S3x6x1088x128) ![b.val, g, 0, 0] S1x1x1088x128.size (inbPlane b g hg)).toLoadRect (vBuf c h0 h6 s0 s6)
/-- The value scales of one head group. -/
def vsPre (b : Fin 3) (g : ℕ) (hg : g < 6) : Vec F S1x1x128 .f32 :=
  View.readAt (Elt F) scM4.view (Rect.unit (s := S3x6x128) ![b.val, g, 0] S1x1x128.size (inbRow b g hg)).toLoadRect (View.write (Elt F) scM4.view s4 (kernelRun.sl.dma0_4 c h4) Finset.univ)
/-- The new value row of one head group. -/
def vnPre (b : Fin 3) (g : ℕ) (hg : g < 6) : Vec F S1x1x128 .bf16 :=
  View.readAt (Elt F) scM3.view (Rect.unit (s := S3x6x128) ![b.val, g, 0] S1x1x128.size (inbRow b g hg)).toLoadRect (View.write (Elt F) scM3.view s3 (kernelRun.sl.dma0_3 c h3) Finset.univ)

/-! ## The stored pieces -/

/-- The scores of pair `p` of sequence `b`. -/
def scPre (b p : Fin 3) : FVec F S16x1088 .f32 :=
  scG (qPre c h1 s1 b (2 * p.val) (g0_lt p)) (qPre c h1 s1 b (2 * p.val + 1) (g1_lt p))
    (kPre c h0 h2 h5 s0 s2 s5 b (2 * p.val) (g0_lt p)) (kPre c h0 h2 h5 s0 s2 s5 b (2 * p.val + 1) (g1_lt p))
/-- The mask of a sequence, as the body computes it. -/
def visPre (b : Fin 3) : IVec S16x1088 1 := visG (F := F) (lnPre c h0 s0 b)
/-- The inverse sums of a pair of groups, as the body computes them. -/
def ilPre (b p : Fin 3) : FVec F S16x1 .f32 := ilG (scPre c h0 h1 h2 h5 s0 s1 s2 s5 b p) (visPre c h0 s0 b)
/-- The new key's weights of a pair of groups, as the body computes them. -/
def pnPre (b p : Fin 3) : FVec F S16x1 .f32 := pnG (scPre c h0 h1 h2 h5 s0 s1 s2 s5 b p) (visPre c h0 s0 b)
/-- The codes of a pair of groups, as the body computes them. -/
def cdPre (b p : Fin 3) : FVec F S32x1088 .fp8e4m3 := cdG (scPre c h0 h1 h2 h5 s0 s1 s2 s5 b p) (visPre c h0 s0 b)

/-- The cache's part of the output, one head group. -/
def ocPre0 (b p : Fin 3) : FVec F S1x8x128 .f32 :=
  ocG0 (ilPre c h0 h1 h2 h5 s0 s1 s2 s5 b p) (cdPre c h0 h1 h2 h5 s0 s1 s2 s5 b p) (vPre c h0 h6 s0 s6 b (2 * p.val) (g0_lt p))
    (vPre c h0 h6 s0 s6 b (2 * p.val + 1) (g1_lt p)) (vsPre c h4 s4 b (2 * p.val) (g0_lt p))
/-- The cache's part of the output, the pair's second group. -/
def ocPre1 (b p : Fin 3) : FVec F S1x8x128 .f32 :=
  ocG1 (ilPre c h0 h1 h2 h5 s0 s1 s2 s5 b p) (cdPre c h0 h1 h2 h5 s0 s1 s2 s5 b p) (vPre c h0 h6 s0 s6 b (2 * p.val) (g0_lt p))
    (vPre c h0 h6 s0 s6 b (2 * p.val + 1) (g1_lt p)) (vsPre c h4 s4 b (2 * p.val + 1) (g1_lt p))
/-- The whole output, one head group. -/
def oPre0 (b p : Fin 3) : FVec F S8x128 .f32 :=
  oG0 (ilPre c h0 h1 h2 h5 s0 s1 s2 s5 b p) (pnPre c h0 h1 h2 h5 s0 s1 s2 s5 b p) (cdPre c h0 h1 h2 h5 s0 s1 s2 s5 b p)
    (vPre c h0 h6 s0 s6 b (2 * p.val) (g0_lt p)) (vPre c h0 h6 s0 s6 b (2 * p.val + 1) (g1_lt p))
    (vsPre c h4 s4 b (2 * p.val) (g0_lt p)) (vnPre c h3 s3 b (2 * p.val) (g0_lt p))
/-- The whole output, the pair's second group. -/
def oPre1 (b p : Fin 3) : FVec F S8x128 .f32 :=
  oG1 (ilPre c h0 h1 h2 h5 s0 s1 s2 s5 b p) (pnPre c h0 h1 h2 h5 s0 s1 s2 s5 b p) (cdPre c h0 h1 h2 h5 s0 s1 s2 s5 b p)
    (vPre c h0 h6 s0 s6 b (2 * p.val) (g0_lt p)) (vPre c h0 h6 s0 s6 b (2 * p.val + 1) (g1_lt p))
    (vsPre c h4 s4 b (2 * p.val + 1) (g1_lt p)) (vnPre c h3 s3 b (2 * p.val + 1) (g1_lt p))

/-- A head's columns are inside the queries. -/
theorem inbX (i : Fin 48) : ∀ a : Fin 2, (![0, 128 * i.val] : Fin 2 → ℕ) a + S3x128.size a ≤ S3x6144.size a := by
  intro a
  match a with
  | ⟨0, _⟩ => show 0 + 3 ≤ 3; omega
  | ⟨1, _⟩ => show 128 * i.val + 128 ≤ 6144; omega
/-- A head's rows are inside the per-head rows. -/
theorem inbR (i : Fin 48) : ∀ a : Fin 2, (![8 * i.val, 0] : Fin 2 → ℕ) a + S3x128.size a ≤ S384x128.size a := by
  intro a
  match a with
  | ⟨0, _⟩ => show 8 * i.val + 3 ≤ 384; omega
  | ⟨1, _⟩ => show 0 + 128 ≤ 128; omega
/-- A group's rows are inside the second result. -/
theorem inbOc (b : Fin 3) (g : ℕ) (hg : g < 6) : ∀ a : Fin 3, (![b.val, 8 * g, 0] : Fin 3 → ℕ) a + S1x8x128.size a ≤ S3x48x128.size a := by
  intro a
  match a with
  | ⟨0, _⟩ => show b.val + 1 ≤ 3; omega
  | ⟨1, _⟩ => show 8 * g + 8 ≤ 48; omega
  | ⟨2, _⟩ => show 0 + 128 ≤ 128; omega
/-- The new key's rows are inside the staged keys. -/
theorem inbKn (b : Fin 3) (g : Fin 6) : ∀ a : Fin 4, (![b.val, g.val, 1072, 0] : Fin 4 → ℕ) a + S1x1x16x128.size a ≤ S3x6x1088x128.size a := by
  intro a
  match a with
  | ⟨0, _⟩ => show b.val + 1 ≤ 3; omega
  | ⟨1, _⟩ => show g.val + 1 ≤ 6; omega
  | ⟨2, _⟩ => show 1072 + 16 ≤ 1088; omega
  | ⟨3, _⟩ => show 0 + 128 ≤ 128; omega

/-- One head's three query rows. -/
def p7 (i : Fin 48) : View.Piece (Elt F) S384x128 .f32 :=
  ⟨Rect.unit (s := S384x128) ![8 * i.val, 0] S3x128.size (inbR i), k0_pay29 (View.readAt (Elt F) scM1.view
    (Rect.unit (s := S3x6144) ![0, 128 * i.val] S3x128.size (inbX i)).toLoadRect (View.write (Elt F) scM1.view s1 (kernelRun.sl.dma0_1 c h1) Finset.univ))⟩
/-- One head group's new key, broadcast over sixteen rows. -/
def p5 (b : Fin 3) (g : Fin 6) : View.Piece (Elt F) S3x6x1088x128 .bf16 :=
  ⟨Rect.unit (s := S3x6x1088x128) ![b.val, g.val, 1072, 0] S1x1x16x128.size (inbKn b g), k0_pay1 (View.readAt (Elt F) scM2.view
    (Rect.unit (s := S3x6x128) ![b.val, g.val, 0] S1x1x128.size (inbRow b g.val g.isLt)).toLoadRect (View.write (Elt F) scM2.view s2 (kernelRun.sl.dma0_2 c h2) Finset.univ))⟩
/-- One head group's part of the cache's output. -/
def p10 (b : Fin 3) (g : ℕ) (hg : g < 6) (w : FVec F S1x8x128 .f32) : View.Piece (Elt F) S3x48x128 .f32 :=
  ⟨Rect.unit (s := S3x48x128) ![b.val, 8 * g, 0] S1x8x128.size (inbOc b g hg), w⟩
/-- One head group's part of the whole output, stored at every eighth row. -/
def p8 (b : Fin 3) (g : ℕ) (hg : g < 6) (w : FVec F S8x128 .f32) : View.Piece (Elt F) S384x128 .f32 :=
  ⟨{ off := ![64 * g + b.val, 0], size := S8x128.size, stride := ![8, 1], inb := fun a => .inr (inbQ b g hg a), stride_pos := spos_8_1 }, w⟩
/-- One head's three output rows, rounded. -/
def p9 (L8 : List (View.Piece (Elt F) S384x128 .f32)) (i : Fin 48) : View.Piece (Elt F) S3x6144 .bf16 :=
  ⟨Rect.unit (s := S3x6144) ![0, 128 * i.val] S3x128.size (inbX i), k0_pay246 (View.readAt (Elt F) scM8.view
    (Rect.unit (s := S384x128) ![8 * i.val, 0] S3x128.size (inbR i)).toLoadRect (scM8.view.writes (Elt F) (if i.val % 8 = 0 then scM8.view.junk else s8) L8))⟩

/-- The pieces of the cache's output stored for sequence `b`, last first. -/
def L10 (b : Fin 3) : List (View.Piece (Elt F) S3x48x128 .f32) :=
  ([2, 1, 0] : List (Fin 3)).flatMap fun p =>
    [p10 b (2 * p.val + 1) (g1_lt p) (ocPre1 c h0 h1 h2 h4 h5 h6 s0 s1 s2 s4 s5 s6 b p), p10 b (2 * p.val) (g0_lt p) (ocPre0 c h0 h1 h2 h4 h5 h6 s0 s1 s2 s4 s5 s6 b p)]
/-- The pieces of the output stored for sequence `b`, last first. -/
def L8 (b : Fin 3) : List (View.Piece (Elt F) S384x128 .f32) :=
  ([2, 1, 0] : List (Fin 3)).flatMap fun p =>
    [p8 b (2 * p.val + 1) (g1_lt p) (oPre1 c h0 h1 h2 h3 h4 h5 h6 s0 s1 s2 s3 s4 s5 s6 b p), p8 b (2 * p.val) (g0_lt p) (oPre0 c h0 h1 h2 h3 h4 h5 h6 s0 s1 s2 s3 s4 s5 s6 b p)]

/-! ## The run's lists are these -/

/-- The stores into the per-head queries, as one list over the heads. -/
theorem S7_eq : kernelRun.sl.S7_48 c h1 s1 = (List.finRange 48).reverse.map (p7 c h1 s1) := by sl_kernel_rfl
/-- The stores of the new keys, as one list over sequences and groups. -/
theorem S5_eq : kernelRun.sl.S5_18 c h2 s2
    = ([2, 1, 0] : List (Fin 3)).flatMap fun b => (List.finRange 6).reverse.map (p5 c h2 s2 b) := by sl_kernel_rfl
/-- The first sequence's stores into the second result. -/
theorem S10_6_eq : kernelRun.sl.S10_6 c h0 h1 h2 h4 h5 h6 s0 s1 s2 s4 s5 s6 = L10 c h0 h1 h2 h4 h5 h6 s0 s1 s2 s4 s5 s6 0 := by sl_kernel_rfl
/-- The second sequence's stores into the second result, after the first's. -/
theorem S10_12_eq : kernelRun.sl.S10_12 c h0 h1 h2 h4 h5 h6 s0 s1 s2 s4 s5 s6
    = L10 c h0 h1 h2 h4 h5 h6 s0 s1 s2 s4 s5 s6 1 ++ kernelRun.sl.S10_6 c h0 h1 h2 h4 h5 h6 s0 s1 s2 s4 s5 s6 := by sl_kernel_rfl
/-- The third sequence's stores into the second result, after the others'. -/
theorem S10_18_eq : kernelRun.sl.S10_18 c h0 h1 h2 h4 h5 h6 s0 s1 s2 s4 s5 s6
    = L10 c h0 h1 h2 h4 h5 h6 s0 s1 s2 s4 s5 s6 2 ++ kernelRun.sl.S10_12 c h0 h1 h2 h4 h5 h6 s0 s1 s2 s4 s5 s6 := by sl_kernel_rfl
/-- The stores into the per-head output, by sequence. -/
theorem S8_18_eq : kernelRun.sl.S8_18 c h0 h1 h2 h3 h4 h5 h6 s0 s1 s2 s3 s4 s5 s6
    = L8 c h0 h1 h2 h3 h4 h5 h6 s0 s1 s2 s3 s4 s5 s6 2 ++ (L8 c h0 h1 h2 h3 h4 h5 h6 s0 s1 s2 s3 s4 s5 s6 1
      ++ L8 c h0 h1 h2 h3 h4 h5 h6 s0 s1 s2 s3 s4 s5 s6 0) := by sl_kernel_rfl
/-- The stores into the first result, as one list over the heads. -/
theorem S9_eq : kernelRun.sl.S9_48 c h0 h1 h2 h3 h4 h5 h6 s0 s1 s2 s3 s4 s5 s6 s8
    = (List.finRange 48).reverse.map (p9 c s8 (kernelRun.sl.S8_18 c h0 h1 h2 h3 h4 h5 h6 s0 s1 s2 s3 s4 s5 s6)) := by sl_kernel_rfl

end Run

end Cert.KernelIdeal.Hand
-- ==== Proof.Reads.lean ====
/-
  What the body reads of its staging buffers, and what it leaves in its two results, as functions of its operands.
-/
module

public import proofs.«01_k».proof.Proof.Pieces

@[expose] public section

set_option maxRecDepth 16384

noncomputable section

namespace Cert.KernelIdeal.Hand

open Cert.Hand Cert.KernelIdeal Cert.KernelIdeal.Gen
open Idealize.ShloMosaic Idealize.ShloMosaic.TcCoe Idealize.ShloMosaic.Tactic
open Idealize.SL.Sem

variable {F : FTy → Type} [FloatOps F]

/-! ## The operands' closed forms -/

section Closed
variable (L : S3.Idx → BitVec 32) (X : S3x6144.Idx → F .bf16) (KN VN : S3x6x128.Idx → F .bf16) (VS : S3x6x128.Idx → F .f32)
  (K : S3x6x131072x128.Idx → F .bf16) (W : S3x6x131072x128.Idx → F .fp8e4m3)

/-- The length of sequence `b`. -/
def lnC (b : Fin 3) : BitVec 32 := L (ix1 b)
/-- A row of the window is a row of the cache. -/
theorem win_lt (ln : BitVec 32) (l : Fin 1088) (h : l.val < 1056) : (base ln).toNat + l.val < 131072 := by have := base_le ln; omega

/-- The queries, staged: row `8 i + b` is head `i` of sequence `b`. -/
def g7 (y : S384x128.Idx) : F .f32 :=
  k0_pay29 (fun z : S3x128.Idx => X (ix2 (z 0) (⟨128 * ((y 0).val / 8) + (z 1).val, by
    have h0 : (y 0).val < 384 := (y 0).isLt
    have h1 : (z 1).val < 128 := (z 1).isLt
    omega⟩ : Fin 6144))) (ix2 (⟨min ((y 0).val % 8) 2, by omega⟩ : Fin 3) (y 1))
/-- The keys, staged: the window's rows, the sink's rows, the new key's rows. -/
def kAt (b : Fin 3) (g : Fin 6) (l : Fin 1088) (d : Fin 128) : F .bf16 :=
  if h : l.val < 1056 then K (ix4 b g (⟨(base (lnC L b)).toNat + l.val, win_lt _ l h⟩ : Fin 131072) d)
  else if l.val < 1072 then K (ix4 b g (⟨l.val - 1056, by omega⟩ : Fin 131072) d)
  else k0_pay1 (fun z : S1x1x128.Idx => KN (ix3 b g (z 2))) (ix4 (0 : Fin 1) (0 : Fin 1) (⟨l.val - 1072, by omega⟩ : Fin 16) d)
/-- The values, staged: the window's rows, the sink's rows. -/
def vAt (b : Fin 3) (g : Fin 6) (l : Fin 1088) (d : Fin 128) : F .fp8e4m3 :=
  if h : l.val < 1056 then W (ix4 b g (⟨(base (lnC L b)).toNat + l.val, win_lt _ l h⟩ : Fin 131072) d)
  else W (ix4 b g (⟨l.val - 1056, by omega⟩ : Fin 131072) d)
/-- The staged keys, entry by entry. -/
def gK (y : S3x6x1088x128.Idx) : F .bf16 := kAt L KN K (y 0) (y 1) (y 2) (y 3)
/-- The staged value codes, entry by entry. -/
def gV (y : S3x6x1088x128.Idx) : F .fp8e4m3 := vAt L W (y 0) (y 1) (y 2) (y 3)

/-- A head's row is inside the per-head rows. -/
theorem row_lt (b : Fin 3) (g : ℕ) (hg : g < 6) (j : Fin 8) : 64 * g + b.val + 8 * j.val < 384 := by omega

/-- The queries of one head group. -/
def qC (b : Fin 3) (g : ℕ) (hg : g < 6) : Vec F S8x128 .f32 := fun y => g7 X (ix2 (⟨64 * g + b.val + 8 * (y 0).val, row_lt b g hg (y 0)⟩ : Fin 384) (y 1))
/-- The staged keys of one head group. -/
def kC (b : Fin 3) (g : ℕ) (hg : g < 6) : Vec F S1x1x1088x128 .bf16 := fun y => kAt L KN K b (⟨g, hg⟩ : Fin 6) (y 2) (y 3)
/-- The staged values of one head group. -/
def vC (b : Fin 3) (g : ℕ) (hg : g < 6) : Vec F S1x1x1088x128 .fp8e4m3 := fun y => vAt L W b (⟨g, hg⟩ : Fin 6) (y 2) (y 3)
/-- The value scales of one head group. -/
def vsC (b : Fin 3) (g : ℕ) (hg : g < 6) : Vec F S1x1x128 .f32 := fun y => VS (ix3 b (⟨g, hg⟩ : Fin 6) (y 2))
/-- The new value of one head group. -/
def vnC (b : Fin 3) (g : ℕ) (hg : g < 6) : Vec F S1x1x128 .bf16 := fun y => VN (ix3 b (⟨g, hg⟩ : Fin 6) (y 2))

/-- The scores of a pair of groups, from the arrays. -/
def scC (b p : Fin 3) : FVec F S16x1088 .f32 :=
  scG (qC X b (2 * p.val) (g0_lt p)) (qC X b (2 * p.val + 1) (g1_lt p)) (kC L KN K b (2 * p.val) (g0_lt p)) (kC L KN K b (2 * p.val + 1) (g1_lt p))
/-- The inverse sums of a pair of groups, from the arrays. -/
def ilC (b p : Fin 3) : FVec F S16x1 .f32 := ilG (scC L X KN K b p) (visG (F := F) (lnC L b))
/-- The new key's weights of a pair of groups, from the arrays. -/
def pnC (b p : Fin 3) : FVec F S16x1 .f32 := pnG (scC L X KN K b p) (visG (F := F) (lnC L b))
/-- The codes of a pair of groups, from the arrays. -/
def cdC (b p : Fin 3) : FVec F S32x1088 .fp8e4m3 := cdG (scC L X KN K b p) (visG (F := F) (lnC L b))
/-- The cache's part of the output for the pair's first group, from the arrays. -/
def ocC0 (b p : Fin 3) : FVec F S1x8x128 .f32 :=
  ocG0 (ilC L X KN K b p) (cdC L X KN K b p) (vC L W b (2 * p.val) (g0_lt p)) (vC L W b (2 * p.val + 1) (g1_lt p)) (vsC VS b (2 * p.val) (g0_lt p))
/-- The cache's part of the output for the pair's second group, from the arrays. -/
def ocC1 (b p : Fin 3) : FVec F S1x8x128 .f32 :=
  ocG1 (ilC L X KN K b p) (cdC L X KN K b p) (vC L W b (2 * p.val) (g0_lt p)) (vC L W b (2 * p.val + 1) (g1_lt p)) (vsC VS b (2 * p.val + 1) (g1_lt p))
/-- The whole output for the pair's first group, from the arrays. -/
def oC0 (b p : Fin 3) : FVec F S8x128 .f32 :=
  oG0 (ilC L X KN K b p) (pnC L X KN K b p) (cdC L X KN K b p) (vC L W b (2 * p.val) (g0_lt p)) (vC L W b (2 * p.val + 1) (g1_lt p))
    (vsC VS b (2 * p.val) (g0_lt p)) (vnC VN b (2 * p.val) (g0_lt p))
/-- The whole output for the pair's second group, from the arrays. -/
def oC1 (b p : Fin 3) : FVec F S8x128 .f32 :=
  oG1 (ilC L X KN K b p) (pnC L X KN K b p) (cdC L X KN K b p) (vC L W b (2 * p.val) (g0_lt p)) (vC L W b (2 * p.val + 1) (g1_lt p))
    (vsC VS b (2 * p.val + 1) (g1_lt p)) (vnC VN b (2 * p.val + 1) (g1_lt p))

/-- The cache's part of the output: sequence `b`, head `i`. -/
def outOc (y : S3x48x128.Idx) : F .f32 :=
  if (y 1).val / 8 % 2 = 0 then
    ocC0 L X KN VS K W (y 0) (⟨(y 1).val / 16, by have h : (y 1).val < 48 := (y 1).isLt; omega⟩ : Fin 3) (ix3 (0 : Fin 1) (⟨(y 1).val % 8, by omega⟩ : Fin 8) (y 2))
  else ocC1 L X KN VS K W (y 0) (⟨(y 1).val / 16, by have h : (y 1).val < 48 := (y 1).isLt; omega⟩ : Fin 3) (ix3 (0 : Fin 1) (⟨(y 1).val % 8, by omega⟩ : Fin 8) (y 2))
/-- The whole output, staged: row `8 i + b` is head `i` of sequence `b`. -/
def g8 (y : S384x128.Idx) : F .f32 :=
  if (y 0).val / 64 % 2 = 0 then
    oC0 L X KN VN VS K W (⟨min ((y 0).val % 8) 2, by omega⟩ : Fin 3) (⟨(y 0).val / 128, by have h : (y 0).val < 384 := (y 0).isLt; omega⟩ : Fin 3) (ix2 (⟨(y 0).val / 8 % 8, by omega⟩ : Fin 8) (y 1))
  else oC1 L X KN VN VS K W (⟨min ((y 0).val % 8) 2, by omega⟩ : Fin 3) (⟨(y 0).val / 128, by have h : (y 0).val < 384 := (y 0).isLt; omega⟩ : Fin 3) (ix2 (⟨(y 0).val / 8 % 8, by omega⟩ : Fin 8) (y 1))
/-- The whole output: sequence `b`, lane `128 i + d` for head `i`. -/
def outO (y : S3x6144.Idx) : F .bf16 :=
  k0_pay246 (fun z : S3x128.Idx => g8 L X KN VN VS K W (ix2 (⟨8 * ((y 1).val / 128) + (z 0).val, by
    have h0 : (y 1).val < 6144 := (y 1).isLt
    have h1 : (z 0).val < 3 := (z 0).isLt
    omega⟩ : Fin 384) (z 1))) (ix2 (y 0) (⟨(y 1).val % 128, by omega⟩ : Fin 128))
end Closed

/-! ## The reads are these -/

section Run
variable (c : Dev nD) (h0 : Bf (F := F) c hbM0) (h1 : Bf (F := F) c hbM1) (h2 : Bf (F := F) c hbM2) (h3 : Bf (F := F) c hbM3)
  (h4 : Bf (F := F) c hbM4) (h5 : Bf (F := F) c hbM5) (h6 : Bf (F := F) c hbM6)
  (s0 : Bf (F := F) c scM0) (s1 : Bf (F := F) c scM1) (s2 : Bf (F := F) c scM2) (s3 : Bf (F := F) c scM3) (s4 : Bf (F := F) c scM4)
  (s5 : Bf (F := F) c scM5) (s6 : Bf (F := F) c scM6) (s7 : Bf (F := F) c scM7) (s8 : Bf (F := F) c scM8) (s9 : Bf (F := F) c scM9)
  (s10 : Bf (F := F) c scM10)

/-- The length that the body reads is the array's. -/
theorem lnPre_eq (b : Fin 3) : lnPre c h0 s0 b = lnC h0 b := by
  unfold lnPre
  rw [show View.write (Elt F) scM0.view s0 (kernelRun.sl.dma0 c h0) Finset.univ = h0 from View.write_whole_univ _ _ _]
  refine congrArg h0 (funext fun a => Fin.ext ?_)
  match a with
  | ⟨0, _⟩ => show b.val + 1 * 0 = b.val; omega

/-- The value scales that the body reads are the array's. -/
theorem vsPre_eq (b : Fin 3) (g : ℕ) (hg : g < 6) : vsPre c h4 s4 b g hg = vsC h4 b g hg := by
  unfold vsPre
  rw [show View.write (Elt F) scM4.view s4 (kernelRun.sl.dma0_4 c h4) Finset.univ = h4 from View.write_whole_univ _ _ _]
  refine funext fun y => congrArg h4 (funext fun a => Fin.ext ?_)
  match a with
  | ⟨0, _⟩ => have h : (y 0).val < 1 := (y 0).isLt; show b.val + 1 * (y 0).val = b.val; omega
  | ⟨1, _⟩ => have h : (y 1).val < 1 := (y 1).isLt; show g + 1 * (y 1).val = g; omega
  | ⟨2, _⟩ => show 0 + 1 * (y 2).val = (y 2).val; omega
/-- The new values that the body reads are the array's. -/
theorem vnPre_eq (b : Fin 3) (g : ℕ) (hg : g < 6) : vnPre c h3 s3 b g hg = vnC h3 b g hg := by
  unfold vnPre
  rw [show View.write (Elt F) scM3.view s3 (kernelRun.sl.dma0_3 c h3) Finset.univ = h3 from View.write_whole_univ _ _ _]
  refine funext fun y => congrArg h3 (funext fun a => Fin.ext ?_)
  match a with
  | ⟨0, _⟩ => have h : (y 0).val < 1 := (y 0).isLt; show b.val + 1 * (y 0).val = b.val; omega
  | ⟨1, _⟩ => have h : (y 1).val < 1 := (y 1).isLt; show g + 1 * (y 1).val = g; omega
  | ⟨2, _⟩ => show 0 + 1 * (y 2).val = (y 2).val; omega

/-- A stored query piece is the staged queries at the rows it lands on. -/
theorem p7_agree (i : Fin 48) (x : S3x128.Idx) : (p7 c h1 s1 i).2 x = g7 h1 ((p7 c h1 s1 i).1.emb x) := by
  have hx0 : (x 0).val < 3 := (x 0).isLt
  have hx1 : (x 1).val < 128 := (x 1).isLt
  have e0 : (((p7 c h1 s1 i).1.emb x) 0).val = 8 * i.val + 1 * (x 0).val := rfl
  have e1 : (((p7 c h1 s1 i).1.emb x) 1).val = 0 + 1 * (x 1).val := rfl
  unfold g7
  unfold p7
  dsimp only
  rw [show View.write (Elt F) scM1.view s1 (kernelRun.sl.dma0_1 c h1) Finset.univ = h1 from View.write_whole_univ _ _ _]
  refine congr (congrArg k0_pay29 (funext fun z => congrArg h1 (funext fun a => Fin.ext ?_))) (funext fun a => Fin.ext ?_)
  · match a with
    | ⟨0, _⟩ => show 0 + 1 * (z 0).val = (z 0).val; omega
    | ⟨1, _⟩ => show 128 * i.val + 1 * (z 1).val = 128 * ((((p7 c h1 s1 i).1.emb x) 0).val / 8) + (z 1).val; rw [e0]; omega
  · match a with
    | ⟨0, _⟩ => show (x 0).val = min ((((p7 c h1 s1 i).1.emb x) 0).val % 8) 2; rw [e0]; omega
    | ⟨1, _⟩ => show (x 1).val = (((p7 c h1 s1 i).1.emb x) 1).val; rw [e1]; omega

/-- The queries that the body reads are the array's. -/
theorem qPre_eq (b : Fin 3) (g : ℕ) (hg : g < 6) : qPre c h1 s1 b g hg = qC h1 b g hg := by
  funext y
  have hy : (y 0).val < 8 := (y 0).isLt
  have hy1 : (y 1).val < 128 := (y 1).isLt
  unfold qPre qC
  rw [S7_eq]
  refine (readCov_agree (Val := Elt F) scM7.view _ { off := ![64 * g + b.val, 0], size := S8x128.size, stride := ![8, 1], inb := fun a => .inr (inbQ b g hg a) }
    (g7 h1) ?_ y ?_).trans (congrArg (g7 h1) (funext fun a => Fin.ext ?_))
  · intro p hp x
    obtain ⟨i, -, rfl⟩ := List.mem_map.mp hp
    exact p7_agree c h1 s1 i x
  · refine ⟨p7 c h1 s1 (⟨8 * g + (y 0).val, by omega⟩ : Fin 48), List.mem_map.mpr ⟨_, List.mem_reverse.mpr (List.mem_finRange _), rfl⟩, ?_⟩
    refine (LoadRect.mem_set _).mpr fun a => ?_
    match a with
    | ⟨0, _⟩ => refine ⟨b.val, b.isLt, ?_⟩; show 64 * g + b.val + 8 * (y 0).val = 8 * (8 * g + (y 0).val) + 1 * b.val; omega
    | ⟨1, _⟩ => refine ⟨(y 1).val, hy1, ?_⟩; show 0 + 1 * (y 1).val = 0 + 1 * (y 1).val; rfl
  · match a with
    | ⟨0, _⟩ => show 64 * g + b.val + 8 * (y 0).val = 64 * g + b.val + 8 * (y 0).val; rfl
    | ⟨1, _⟩ => show 0 + 1 * (y 1).val = (y 1).val; omega

/-- A stored new-key piece is the staged keys at the rows it lands on. -/
theorem p5_agree (b : Fin 3) (g : Fin 6) (x : S1x1x16x128.Idx) : (p5 c h2 s2 b g).2 x = gK h0 h2 h5 ((p5 c h2 s2 b g).1.emb x) := by
  have hx0 : (x 0).val < 1 := (x 0).isLt
  have hx1 : (x 1).val < 1 := (x 1).isLt
  have hx2 : (x 2).val < 16 := (x 2).isLt
  have hx3 : (x 3).val < 128 := (x 3).isLt
  have e0 : (((p5 c h2 s2 b g).1.emb x) 0).val = b.val + 1 * (x 0).val := rfl
  have e1 : (((p5 c h2 s2 b g).1.emb x) 1).val = g.val + 1 * (x 1).val := rfl
  have e2 : (((p5 c h2 s2 b g).1.emb x) 2).val = 1072 + 1 * (x 2).val := rfl
  have e3 : (((p5 c h2 s2 b g).1.emb x) 3).val = 0 + 1 * (x 3).val := rfl
  unfold gK kAt
  rw [dif_neg (by rw [e2]; omega), if_neg (by rw [e2]; omega)]
  unfold p5
  dsimp only
  rw [show View.write (Elt F) scM2.view s2 (kernelRun.sl.dma0_2 c h2) Finset.univ = h2 from View.write_whole_univ _ _ _]
  refine congr (congrArg k0_pay1 (funext fun z => congrArg h2 (funext fun a => Fin.ext ?_))) (funext fun a => Fin.ext ?_)
  · have z0 : (z 0).val < 1 := (z 0).isLt
    have z1 : (z 1).val < 1 := (z 1).isLt
    match a with
    | ⟨0, _⟩ => show b.val + 1 * (z 0).val = (((p5 c h2 s2 b g).1.emb x) 0).val; rw [e0]; omega
    | ⟨1, _⟩ => show g.val + 1 * (z 1).val = (((p5 c h2 s2 b g).1.emb x) 1).val; rw [e1]; omega
    | ⟨2, _⟩ => show 0 + 1 * (z 2).val = (z 2).val; omega
  · match a with
    | ⟨0, _⟩ => show (x 0).val = 0; omega
    | ⟨1, _⟩ => show (x 1).val = 0; omega
    | ⟨2, _⟩ => show (x 2).val = (((p5 c h2 s2 b g).1.emb x) 2).val - 1072; rw [e2]; omega
    | ⟨3, _⟩ => show (x 3).val = (((p5 c h2 s2 b g).1.emb x) 3).val; rw [e3]; omega

/-- The first window's offset. -/
theorem off1_eq (v : BitVec 32) : k0_off1 v = ![0, 0, (base v).toNat, 0] := rfl
/-- The second window's offset. -/
theorem off2_eq (v : BitVec 32) : k0_off2 v = ![1, 0, (base v).toNat, 0] := rfl
/-- The third window's offset. -/
theorem off3_eq (v : BitVec 32) : k0_off3 v = ![2, 0, (base v).toNat, 0] := rfl
/-- The first length the body reads. -/
theorem v44_eq : kernelRun.sl.v44 c h0 s0 = lnC h0 0 := lnPre_eq c h0 s0 0
/-- The second length the body reads. -/
theorem v50_eq : kernelRun.sl.v50 c h0 s0 = lnC h0 1 := lnPre_eq c h0 s0 1
/-- The third length the body reads. -/
theorem v56_eq : kernelRun.sl.v56 c h0 s0 = lnC h0 2 := lnPre_eq c h0 s0 2
/-- The window's transfer of sequence `b` lands the staged keys. -/
theorem kw_agree (b : Fin 3) (off : Fin 4 → ℕ) (inb) (inb') (hq : S1x6x1056x128.Squeezes S6x1056x128)
    (hoff : off = ![b.val, 0, (base (lnC h0 b)).toNat, 0]) (x : S6x1056x128.Idx) :
    ((hbM5.slice (Rect.unit off S1x6x1056x128.size inb) (fun _ => rfl)).squeeze S6x1056x128 hq).view.read (Elt F) h5 x
      = gK h0 h2 h5 (((scM5.slice (Rect.unit (s := S3x6x1088x128) ![b.val, 0, 0, 0] S1x6x1056x128.size inb') (fun _ => rfl)).squeeze S6x1056x128 hq).view.emb x) := by
  subst hoff
  obtain ⟨g, l, d, rfl⟩ : ∃ (g : Fin 6) (l : Fin 1056) (d : Fin 128), x = ix3 g l d := ⟨x 0, x 1, x 2, eq_ix3 x⟩
  have hb := base_le (lnC h0 b)
  rw [show ((scM5.slice (Rect.unit (s := S3x6x1088x128) ![b.val, 0, 0, 0] S1x6x1056x128.size inb') (fun _ => rfl)).squeeze S6x1056x128 hq).view.emb (ix3 g l d)
      = ix4 b g (⟨l.val, by omega⟩ : Fin 1088) d from
    emb_sq4 scM5.view ![b.val, 0, 0, 0] inb' _ g l d (ix4 b g (⟨l.val, by omega⟩ : Fin 1088) d) rfl (Nat.zero_add _).symm (Nat.zero_add _).symm (Nat.zero_add _).symm]
  refine (congrArg h5 (emb_sq4 hbM5.view _ inb _ g l d (ix4 b g (⟨(base (lnC h0 b)).toNat + l.val, by omega⟩ : Fin 131072) d) rfl (Nat.zero_add _).symm rfl (Nat.zero_add _).symm)).trans ?_
  show _ = kAt h0 h2 h5 b g (⟨l.val, by omega⟩ : Fin 1088) d
  unfold kAt
  refine Eq.symm ?_
  rw [dif_pos (show (⟨l.val, by omega⟩ : Fin 1088).val < 1056 from l.isLt)]
  first | done | rfl

/-- The sink's transfer of sequence `b` lands the staged keys. -/
theorem ks_agree (b : Fin 3) (inb) (inb') (hq : S1x6x16x128.Squeezes S6x16x128) (x : S6x16x128.Idx) :
    ((hbM5.slice (Rect.unit (s := S3x6x131072x128) ![b.val, 0, 0, 0] S1x6x16x128.size inb) (fun _ => rfl)).squeeze S6x16x128 hq).view.read (Elt F) h5 x
      = gK h0 h2 h5 (((scM5.slice (Rect.unit (s := S3x6x1088x128) ![b.val, 0, 1056, 0] S1x6x16x128.size inb') (fun _ => rfl)).squeeze S6x16x128 hq).view.emb x) := by
  obtain ⟨g, l, d, rfl⟩ : ∃ (g : Fin 6) (l : Fin 16) (d : Fin 128), x = ix3 g l d := ⟨x 0, x 1, x 2, eq_ix3 x⟩
  rw [show ((scM5.slice (Rect.unit (s := S3x6x1088x128) ![b.val, 0, 1056, 0] S1x6x16x128.size inb') (fun _ => rfl)).squeeze S6x16x128 hq).view.emb (ix3 g l d)
      = ix4 b g (⟨1056 + l.val, by omega⟩ : Fin 1088) d from
    emb_sq4 scM5.view ![b.val, 0, 1056, 0] inb' _ g l d (ix4 b g (⟨1056 + l.val, by omega⟩ : Fin 1088) d) rfl (Nat.zero_add _).symm rfl (Nat.zero_add _).symm]
  refine (congrArg h5 (emb_sq4 hbM5.view _ inb _ g l d (ix4 b g (⟨l.val, by omega⟩ : Fin 131072) d) rfl (Nat.zero_add _).symm (Nat.zero_add _).symm (Nat.zero_add _).symm)).trans ?_
  show _ = kAt h0 h2 h5 b g (⟨1056 + l.val, by omega⟩ : Fin 1088) d
  unfold kAt
  rw [dif_neg (show ¬ (1056 + l.val < 1056) by omega), if_pos (show 1056 + l.val < 1072 by omega)]
  refine congrArg h5 (funext fun a => Fin.ext ?_)
  match a with
  | ⟨0, _⟩ => rfl
  | ⟨1, _⟩ => rfl
  | ⟨2, _⟩ => show l.val = 1056 + l.val - 1056; omega
  | ⟨3, _⟩ => rfl

/-- The window's transfer of sequence `b` lands the staged values. -/
theorem vw_agree (b : Fin 3) (off : Fin 4 → ℕ) (inb) (inb') (hq : S1x6x1056x128.Squeezes S6x1056x128)
    (hoff : off = ![b.val, 0, (base (lnC h0 b)).toNat, 0]) (x : S6x1056x128.Idx) :
    ((hbM6.slice (Rect.unit off S1x6x1056x128.size inb) (fun _ => rfl)).squeeze S6x1056x128 hq).view.read (Elt F) h6 x
      = gV h0 h6 (((scM6.slice (Rect.unit (s := S3x6x1088x128) ![b.val, 0, 0, 0] S1x6x1056x128.size inb') (fun _ => rfl)).squeeze S6x1056x128 hq).view.emb x) := by
  subst hoff
  obtain ⟨g, l, d, rfl⟩ : ∃ (g : Fin 6) (l : Fin 1056) (d : Fin 128), x = ix3 g l d := ⟨x 0, x 1, x 2, eq_ix3 x⟩
  have hb := base_le (lnC h0 b)
  rw [show ((scM6.slice (Rect.unit (s := S3x6x1088x128) ![b.val, 0, 0, 0] S1x6x1056x128.size inb') (fun _ => rfl)).squeeze S6x1056x128 hq).view.emb (ix3 g l d)
      = ix4 b g (⟨l.val, by omega⟩ : Fin 1088) d from
    emb_sq4 scM6.view ![b.val, 0, 0, 0] inb' _ g l d (ix4 b g (⟨l.val, by omega⟩ : Fin 1088) d) rfl (Nat.zero_add _).symm (Nat.zero_add _).symm (Nat.zero_add _).symm]
  refine (congrArg h6 (emb_sq4 hbM6.view _ inb _ g l d (ix4 b g (⟨(base (lnC h0 b)).toNat + l.val, by omega⟩ : Fin 131072) d) rfl (Nat.zero_add _).symm rfl (Nat.zero_add _).symm)).trans ?_
  show _ = vAt h0 h6 b g (⟨l.val, by omega⟩ : Fin 1088) d
  unfold vAt
  refine Eq.symm ?_
  rw [dif_pos (show (⟨l.val, by omega⟩ : Fin 1088).val < 1056 from l.isLt)]
  first | done | rfl

/-- The sink's transfer of sequence `b` lands the staged values. -/
theorem vs_agree (b : Fin 3) (inb) (inb') (hq : S1x6x32x128.Squeezes S6x32x128) (x : S6x32x128.Idx) :
    ((hbM6.slice (Rect.unit (s := S3x6x131072x128) ![b.val, 0, 0, 0] S1x6x32x128.size inb) (fun _ => rfl)).squeeze S6x32x128 hq).view.read (Elt F) h6 x
      = gV h0 h6 (((scM6.slice (Rect.unit (s := S3x6x1088x128) ![b.val, 0, 1056, 0] S1x6x32x128.size inb') (fun _ => rfl)).squeeze S6x32x128 hq).view.emb x) := by
  obtain ⟨g, l, d, rfl⟩ : ∃ (g : Fin 6) (l : Fin 32) (d : Fin 128), x = ix3 g l d := ⟨x 0, x 1, x 2, eq_ix3 x⟩
  rw [show ((scM6.slice (Rect.unit (s := S3x6x1088x128) ![b.val, 0, 1056, 0] S1x6x32x128.size inb') (fun _ => rfl)).squeeze S6x32x128 hq).view.emb (ix3 g l d)
      = ix4 b g (⟨1056 + l.val, by omega⟩ : Fin 1088) d from
    emb_sq4 scM6.view ![b.val, 0, 1056, 0] inb' _ g l d (ix4 b g (⟨1056 + l.val, by omega⟩ : Fin 1088) d) rfl (Nat.zero_add _).symm rfl (Nat.zero_add _).symm]
  refine (congrArg h6 (emb_sq4 hbM6.view _ inb _ g l d (ix4 b g (⟨l.val, by omega⟩ : Fin 131072) d) rfl (Nat.zero_add _).symm (Nat.zero_add _).symm (Nat.zero_add _).symm)).trans ?_
  show _ = vAt h0 h6 b g (⟨1056 + l.val, by omega⟩ : Fin 1088) d
  unfold vAt
  rw [dif_neg (show ¬ (1056 + l.val < 1056) by omega)]
  refine congrArg h6 (funext fun a => Fin.ext ?_)
  match a with
  | ⟨0, _⟩ => rfl
  | ⟨1, _⟩ => rfl
  | ⟨2, _⟩ => show l.val = 1056 + l.val - 1056; omega
  | ⟨3, _⟩ => rfl

/-- Reading the staged keys whole. -/
theorem read5 (f : Bf (F := F) c scM5) (z : S3x6x1088x128.Idx) : View.read (Elt F) scM5.view f z = f z := rfl
/-- The window's keys arrive: an entry is right after the copy, if it was right before or the copy covers it. -/
theorem kw_step (b : Fin 3) (off : Fin 4 → ℕ) (inb) (inb') (hq : S1x6x1056x128.Squeezes S6x1056x128) (hoff : off = ![b.val, 0, (base (lnC h0 b)).toNat, 0]) (f : Bf (F := F) c scM5)
    (w : S6x1056x128.Idx → F .bf16) (i : S3x6x1088x128.Idx)
    (hw : ∀ x, w x = ((hbM5.slice (Rect.unit off S1x6x1056x128.size inb) (fun _ => rfl)).squeeze S6x1056x128 hq).view.read (Elt F) h5 x)
    (hf : (∀ x, ((scM5.slice (Rect.unit (s := S3x6x1088x128) ![b.val, 0, 0, 0] S1x6x1056x128.size inb') (fun _ => rfl)).squeeze S6x1056x128 hq).view.emb x ≠ i) → f i = gK h0 h2 h5 i) :
    View.write (Elt F) ((scM5.slice (Rect.unit (s := S3x6x1088x128) ![b.val, 0, 0, 0] S1x6x1056x128.size inb') (fun _ => rfl)).squeeze S6x1056x128 hq).view f w Finset.univ i = gK h0 h2 h5 i :=
  write_agree ((scM5.slice (Rect.unit (s := S3x6x1088x128) ![b.val, 0, 0, 0] S1x6x1056x128.size inb') (fun _ => rfl)).squeeze S6x1056x128 hq).view f w (gK h0 h2 h5) i (fun x => (hw x).trans (kw_agree c h0 h2 h5 b off inb inb' hq hoff x)) hf
/-- The sinks' keys arrive: an entry is right after the copy, if it was right before or the copy covers it. -/
theorem ks_step (b : Fin 3) (inb) (inb') (hq : S1x6x16x128.Squeezes S6x16x128) (f : Bf (F := F) c scM5)
    (w : S6x16x128.Idx → F .bf16) (i : S3x6x1088x128.Idx)
    (hw : ∀ x, w x = ((hbM5.slice (Rect.unit (s := S3x6x131072x128) ![b.val, 0, 0, 0] S1x6x16x128.size inb) (fun _ => rfl)).squeeze S6x16x128 hq).view.read (Elt F) h5 x)
    (hf : (∀ x, ((scM5.slice (Rect.unit (s := S3x6x1088x128) ![b.val, 0, 1056, 0] S1x6x16x128.size inb') (fun _ => rfl)).squeeze S6x16x128 hq).view.emb x ≠ i) → f i = gK h0 h2 h5 i) :
    View.write (Elt F) ((scM5.slice (Rect.unit (s := S3x6x1088x128) ![b.val, 0, 1056, 0] S1x6x16x128.size inb') (fun _ => rfl)).squeeze S6x16x128 hq).view f w Finset.univ i = gK h0 h2 h5 i :=
  write_agree ((scM5.slice (Rect.unit (s := S3x6x1088x128) ![b.val, 0, 1056, 0] S1x6x16x128.size inb') (fun _ => rfl)).squeeze S6x16x128 hq).view f w (gK h0 h2 h5) i (fun x => (hw x).trans (ks_agree c h0 h2 h5 b inb inb' hq x)) hf
/-- The window's value codes arrive: an entry is right after the copy, if it was right before or the copy covers it. -/
theorem vw_step (b : Fin 3) (off : Fin 4 → ℕ) (inb) (inb') (hq : S1x6x1056x128.Squeezes S6x1056x128) (hoff : off = ![b.val, 0, (base (lnC h0 b)).toNat, 0]) (f : Bf (F := F) c scM6)
    (w : S6x1056x128.Idx → F .fp8e4m3) (i : S3x6x1088x128.Idx)
    (hw : ∀ x, w x = ((hbM6.slice (Rect.unit off S1x6x1056x128.size inb) (fun _ => rfl)).squeeze S6x1056x128 hq).view.read (Elt F) h6 x)
    (hf : (∀ x, ((scM6.slice (Rect.unit (s := S3x6x1088x128) ![b.val, 0, 0, 0] S1x6x1056x128.size inb') (fun _ => rfl)).squeeze S6x1056x128 hq).view.emb x ≠ i) → f i = gV h0 h6 i) :
    View.write (Elt F) ((scM6.slice (Rect.unit (s := S3x6x1088x128) ![b.val, 0, 0, 0] S1x6x1056x128.size inb') (fun _ => rfl)).squeeze S6x1056x128 hq).view f w Finset.univ i = gV h0 h6 i :=
  write_agree ((scM6.slice (Rect.unit (s := S3x6x1088x128) ![b.val, 0, 0, 0] S1x6x1056x128.size inb') (fun _ => rfl)).squeeze S6x1056x128 hq).view f w (gV h0 h6) i (fun x => (hw x).trans (vw_agree c h0 h6 b off inb inb' hq hoff x)) hf
/-- The sinks' value codes arrive: an entry is right after the copy, if it was right before or the copy covers it. -/
theorem vs_step (b : Fin 3) (inb) (inb') (hq : S1x6x32x128.Squeezes S6x32x128) (f : Bf (F := F) c scM6)
    (w : S6x32x128.Idx → F .fp8e4m3) (i : S3x6x1088x128.Idx)
    (hw : ∀ x, w x = ((hbM6.slice (Rect.unit (s := S3x6x131072x128) ![b.val, 0, 0, 0] S1x6x32x128.size inb) (fun _ => rfl)).squeeze S6x32x128 hq).view.read (Elt F) h6 x)
    (hf : (∀ x, ((scM6.slice (Rect.unit (s := S3x6x1088x128) ![b.val, 0, 1056, 0] S1x6x32x128.size inb') (fun _ => rfl)).squeeze S6x32x128 hq).view.emb x ≠ i) → f i = gV h0 h6 i) :
    View.write (Elt F) ((scM6.slice (Rect.unit (s := S3x6x1088x128) ![b.val, 0, 1056, 0] S1x6x32x128.size inb') (fun _ => rfl)).squeeze S6x32x128 hq).view f w Finset.univ i = gV h0 h6 i :=
  write_agree ((scM6.slice (Rect.unit (s := S3x6x1088x128) ![b.val, 0, 1056, 0] S1x6x32x128.size inb') (fun _ => rfl)).squeeze S6x32x128 hq).view f w (gV h0 h6) i (fun x => (hw x).trans (vs_agree c h0 h6 b inb inb' hq x)) hf
set_option maxHeartbeats 2000000 in
/-- Once the transfers have landed and the new keys are stored, the key buffer holds the staged keys. -/
theorem kBuf_eq (y : S3x6x1088x128.Idx) : kBuf c h0 h2 h5 s0 s2 s5 y = gK h0 h2 h5 y := by
  obtain ⟨b, g, l, d, rfl⟩ : ∃ (b : Fin 3) (g : Fin 6) (l : Fin 1088) (d : Fin 128), y = ix4 b g l d := ⟨y 0, y 1, y 2, y 3, eq_ix4 y⟩
  unfold kBuf
  refine (read5 c _ _).symm.trans ?_
  refine read_writes_agree (Val := Elt F) scM5.view _ (gK h0 h2 h5) (ix4 b g l d) _ ?_ fun hn => ?_
  · intro p hp x
    rw [S5_eq] at hp
    obtain ⟨b', -, hp⟩ := List.mem_flatMap.mp hp
    obtain ⟨g', -, rfl⟩ := List.mem_map.mp hp
    exact p5_agree c h0 h2 h5 s2 b' g' x
  · refine kw_step c h0 h2 h5 2 _ _ _ _ ((off3_eq _).trans (by rw [v56_eq]; rfl)) _ _ _ (fun _ => rfl) fun n2 => ?_
    refine kw_step c h0 h2 h5 1 _ _ _ _ ((off2_eq _).trans (by rw [v50_eq]; rfl)) _ _ _ (fun _ => rfl) fun n1 => ?_
    refine kw_step c h0 h2 h5 0 _ _ _ _ ((off1_eq _).trans (by rw [v44_eq]; rfl)) _ _ _ (fun _ => rfl) fun n0 => ?_
    refine ks_step c h0 h2 h5 2 _ _ _ _ _ _ (fun _ => rfl) fun m2 => ?_
    refine ks_step c h0 h2 h5 1 _ _ _ _ _ _ (fun _ => rfl) fun m1 => ?_
    refine ks_step c h0 h2 h5 0 _ _ _ _ _ _ (fun _ => rfl) fun m0 => ?_
    exfalso
    by_cases hw : l.val < 1056
    · have e : ∀ b : Fin 3, ∀ inb h, ((scM5.slice (Rect.unit (s := S3x6x1088x128) ![b.val, 0, 0, 0] S1x6x1056x128.size inb) (fun _ => rfl)).squeeze S6x1056x128 h).view.emb
          (ix3 g (⟨l.val, hw⟩ : Fin 1056) d) = ix4 b g l d := fun b inb h =>
        emb_sq4 scM5.view ![b.val, 0, 0, 0] inb _ g (⟨l.val, hw⟩ : Fin 1056) d (ix4 b g l d) rfl (Nat.zero_add _).symm (Nat.zero_add _).symm (Nat.zero_add _).symm
      match b with
      | 0 => exact n0 _ (e 0 _ _)
      | 1 => exact n1 _ (e 1 _ _)
      | 2 => exact n2 _ (e 2 _ _)
    · by_cases hs : l.val < 1072
      · have e : ∀ b : Fin 3, ∀ inb h, ((scM5.slice (Rect.unit (s := S3x6x1088x128) ![b.val, 0, 1056, 0] S1x6x16x128.size inb) (fun _ => rfl)).squeeze S6x16x128 h).view.emb
            (ix3 g (⟨l.val - 1056, by omega⟩ : Fin 16) d) = ix4 b g l d := fun b inb h =>
          emb_sq4 scM5.view ![b.val, 0, 1056, 0] inb _ g (⟨l.val - 1056, by omega⟩ : Fin 16) d (ix4 b g l d) rfl (Nat.zero_add _).symm
            (show l.val = 1056 + (l.val - 1056) by omega) (Nat.zero_add _).symm
        match b with
        | 0 => exact m0 _ (e 0 _ _)
        | 1 => exact m1 _ (e 1 _ _)
        | 2 => exact m2 _ (e 2 _ _)
      · refine hn (p5 c h2 s2 b g) ?_ ?_
        · rw [S5_eq]
          refine List.mem_flatMap.mpr ⟨b, by fin_cases b <;> simp, List.mem_map.mpr ⟨g, List.mem_reverse.mpr (List.mem_finRange _), rfl⟩⟩
        · refine (LoadRect.mem_set _).mpr fun a => ?_
          match a with
          | ⟨0, _⟩ => exact ⟨0, Nat.one_pos, rfl⟩
          | ⟨1, _⟩ => exact ⟨0, Nat.one_pos, rfl⟩
          | ⟨2, _⟩ => refine ⟨l.val - 1072, show l.val - 1072 < 16 by omega, ?_⟩; show l.val = 1072 + 1 * (l.val - 1072); omega
          | ⟨3, _⟩ => refine ⟨d.val, d.isLt, ?_⟩; show d.val = 0 + 1 * d.val; omega

set_option maxHeartbeats 2000000 in
/-- Once the transfers have landed, the value buffer holds the staged values. -/
theorem vBuf_eq (y : S3x6x1088x128.Idx) : vBuf c h0 h6 s0 s6 y = gV h0 h6 y := by
  obtain ⟨b, g, l, d, rfl⟩ : ∃ (b : Fin 3) (g : Fin 6) (l : Fin 1088) (d : Fin 128), y = ix4 b g l d := ⟨y 0, y 1, y 2, y 3, eq_ix4 y⟩
  unfold vBuf
  refine vw_step c h0 h6 2 _ _ _ _ ((off3_eq _).trans (by rw [v56_eq]; rfl)) _ _ _ (fun _ => rfl) fun n2 => ?_
  refine vw_step c h0 h6 1 _ _ _ _ ((off2_eq _).trans (by rw [v50_eq]; rfl)) _ _ _ (fun _ => rfl) fun n1 => ?_
  refine vw_step c h0 h6 0 _ _ _ _ ((off1_eq _).trans (by rw [v44_eq]; rfl)) _ _ _ (fun _ => rfl) fun n0 => ?_
  refine vs_step c h0 h6 2 _ _ _ _ _ _ (fun _ => rfl) fun m2 => ?_
  refine vs_step c h0 h6 1 _ _ _ _ _ _ (fun _ => rfl) fun m1 => ?_
  refine vs_step c h0 h6 0 _ _ _ _ _ _ (fun _ => rfl) fun m0 => ?_
  exfalso
  by_cases hw : l.val < 1056
  · have e : ∀ b : Fin 3, ∀ inb h, ((scM6.slice (Rect.unit (s := S3x6x1088x128) ![b.val, 0, 0, 0] S1x6x1056x128.size inb) (fun _ => rfl)).squeeze S6x1056x128 h).view.emb
        (ix3 g (⟨l.val, hw⟩ : Fin 1056) d) = ix4 b g l d := fun b inb h =>
      emb_sq4 scM6.view ![b.val, 0, 0, 0] inb _ g (⟨l.val, hw⟩ : Fin 1056) d (ix4 b g l d) rfl (Nat.zero_add _).symm (Nat.zero_add _).symm (Nat.zero_add _).symm
    match b with
    | 0 => exact n0 _ (e 0 _ _)
    | 1 => exact n1 _ (e 1 _ _)
    | 2 => exact n2 _ (e 2 _ _)
  · have e : ∀ b : Fin 3, ∀ inb h, ((scM6.slice (Rect.unit (s := S3x6x1088x128) ![b.val, 0, 1056, 0] S1x6x32x128.size inb) (fun _ => rfl)).squeeze S6x32x128 h).view.emb
        (ix3 g (⟨l.val - 1056, by omega⟩ : Fin 32) d) = ix4 b g l d := fun b inb h =>
      emb_sq4 scM6.view ![b.val, 0, 1056, 0] inb _ g (⟨l.val - 1056, by omega⟩ : Fin 32) d (ix4 b g l d) rfl (Nat.zero_add _).symm
        (show l.val = 1056 + (l.val - 1056) by omega) (Nat.zero_add _).symm
    match b with
    | 0 => exact m0 _ (e 0 _ _)
    | 1 => exact m1 _ (e 1 _ _)
    | 2 => exact m2 _ (e 2 _ _)

/-- One sequence's and group's plane, at coordinates. -/
theorem plane_idx (b : Fin 3) (g : ℕ) (hg : g < 6) (y : S1x1x1088x128.Idx) :
    (Rect.unit (s := S3x6x1088x128) ![b.val, g, 0, 0] S1x1x1088x128.size (inbPlane b g hg)).toLoadRect.idx y = ix4 b (⟨g, hg⟩ : Fin 6) (y 2) (y 3) := by
  refine funext fun a => Fin.ext ?_
  match a with
  | ⟨0, _⟩ => have h : (y 0).val < 1 := (y 0).isLt; show b.val + 1 * (y 0).val = b.val; omega
  | ⟨1, _⟩ => have h : (y 1).val < 1 := (y 1).isLt; show g + 1 * (y 1).val = g; omega
  | ⟨2, _⟩ => show 0 + 1 * (y 2).val = (y 2).val; omega
  | ⟨3, _⟩ => show 0 + 1 * (y 3).val = (y 3).val; omega

/-- Reading a rectangle of the staged keys. -/
theorem readAt5 (r : LoadRect S3x6x1088x128) (f : Bf (F := F) c scM5) (y : r.shape.Idx) : View.readAt (Elt F) scM5.view r f y = f (r.idx y) := rfl
/-- Reading a rectangle of the staged value codes. -/
theorem readAt6 (r : LoadRect S3x6x1088x128) (f : Bf (F := F) c scM6) (y : r.shape.Idx) : View.readAt (Elt F) scM6.view r f y = f (r.idx y) := rfl
/-- The keys that the body reads, from the arrays. -/
theorem kPre_eq (b : Fin 3) (g : ℕ) (hg : g < 6) : kPre c h0 h2 h5 s0 s2 s5 b g hg = kC h0 h2 h5 b g hg := by
  funext y
  unfold kPre
  exact (readAt5 c (Rect.unit (s := S3x6x1088x128) ![b.val, g, 0, 0] S1x1x1088x128.size (inbPlane b g hg)).toLoadRect (kBuf c h0 h2 h5 s0 s2 s5) y).trans
    ((kBuf_eq c h0 h2 h5 s0 s2 s5 _).trans (congrArg (gK h0 h2 h5) (plane_idx b g hg y)))
/-- The value codes that the body reads, from the arrays. -/
theorem vPre_eq (b : Fin 3) (g : ℕ) (hg : g < 6) : vPre c h0 h6 s0 s6 b g hg = vC h0 h6 b g hg := by
  funext y
  unfold vPre
  exact (readAt6 c (Rect.unit (s := S3x6x1088x128) ![b.val, g, 0, 0] S1x1x1088x128.size (inbPlane b g hg)).toLoadRect (vBuf c h0 h6 s0 s6) y).trans
    ((vBuf_eq c h0 h6 s0 s6 _).trans (congrArg (gV h0 h6) (plane_idx b g hg y)))

/-- The body's scores, from the arrays. -/
theorem scPre_eq (b p : Fin 3) : scPre c h0 h1 h2 h5 s0 s1 s2 s5 b p = scC h0 h1 h2 h5 b p := by
  unfold scPre scC; rw [qPre_eq, qPre_eq, kPre_eq, kPre_eq]
/-- The body's cache part for the pair's first group, from the arrays. -/
theorem ocPre0_eq (b p : Fin 3) : ocPre0 c h0 h1 h2 h4 h5 h6 s0 s1 s2 s4 s5 s6 b p = ocC0 h0 h1 h2 h4 h5 h6 b p := by
  unfold ocPre0 ocC0 ilPre ilC cdPre cdC visPre; rw [scPre_eq, lnPre_eq, vPre_eq, vPre_eq, vsPre_eq]
/-- The body's cache part for the pair's second group, from the arrays. -/
theorem ocPre1_eq (b p : Fin 3) : ocPre1 c h0 h1 h2 h4 h5 h6 s0 s1 s2 s4 s5 s6 b p = ocC1 h0 h1 h2 h4 h5 h6 b p := by
  unfold ocPre1 ocC1 ilPre ilC cdPre cdC visPre; rw [scPre_eq, lnPre_eq, vPre_eq, vPre_eq, vsPre_eq]
/-- The body's output for the pair's first group, from the arrays. -/
theorem oPre0_eq (b p : Fin 3) : oPre0 c h0 h1 h2 h3 h4 h5 h6 s0 s1 s2 s3 s4 s5 s6 b p = oC0 h0 h1 h2 h3 h4 h5 h6 b p := by
  unfold oPre0 oC0 ilPre ilC pnPre pnC cdPre cdC visPre; rw [scPre_eq, lnPre_eq, vPre_eq, vPre_eq, vsPre_eq, vnPre_eq]
/-- The body's output for the pair's second group, from the arrays. -/
theorem oPre1_eq (b p : Fin 3) : oPre1 c h0 h1 h2 h3 h4 h5 h6 s0 s1 s2 s3 s4 s5 s6 b p = oC1 h0 h1 h2 h3 h4 h5 h6 b p := by
  unfold oPre1 oC1 ilPre ilC pnPre pnC cdPre cdC visPre; rw [scPre_eq, lnPre_eq, vPre_eq, vPre_eq, vsPre_eq, vnPre_eq]

end Run

end Cert.KernelIdeal.Hand
-- ==== Proof.Result.lean ====
/-
  The two results the body leaves, as functions of its operands alone.
-/
module

public import proofs.«01_k».proof.Proof.Reads

@[expose] public section

set_option maxRecDepth 16384

noncomputable section

namespace Cert.KernelIdeal.Hand

open Cert.Hand Cert.KernelIdeal Cert.KernelIdeal.Gen
open Idealize.ShloMosaic Idealize.ShloMosaic.TcCoe Idealize.ShloMosaic.Tactic
open Idealize.SL.Sem

variable {F : FTy → Type} [FloatOps F]

section Run
variable (c : Dev nD) (h0 : Bf (F := F) c hbM0) (h1 : Bf (F := F) c hbM1) (h2 : Bf (F := F) c hbM2) (h3 : Bf (F := F) c hbM3)
  (h4 : Bf (F := F) c hbM4) (h5 : Bf (F := F) c hbM5) (h6 : Bf (F := F) c hbM6) (h7 : Bf (F := F) c hbM7) (h8 : Bf (F := F) c hbM8)
  (s0 : Bf (F := F) c scM0) (s1 : Bf (F := F) c scM1) (s2 : Bf (F := F) c scM2) (s3 : Bf (F := F) c scM3) (s4 : Bf (F := F) c scM4)
  (s5 : Bf (F := F) c scM5) (s6 : Bf (F := F) c scM6) (s7 : Bf (F := F) c scM7) (s8 : Bf (F := F) c scM8) (s9 : Bf (F := F) c scM9)
  (s10 : Bf (F := F) c scM10)

/-! ## The cache's part of the output -/

/-- An index whose first axis has length one. -/
theorem ix3_eq1 {n k : ℕ} (x : (⟨3, ![1, n, k]⟩ : Shape).Idx) : x = Idealize.ShloMosaic.ix3 (0 : Fin 1) (x 1) (x 2) := by
  refine funext fun a => Fin.ext ?_
  match a with
  | ⟨0, _⟩ => have h : (x 0).val < 1 := (x 0).isLt; show (x 0).val = 0; omega
  | ⟨1, _⟩ => rfl
  | ⟨2, _⟩ => rfl

/-- The value of the cache's output at a row named by its head group. -/
theorem outOc_row (b : Fin 3) (p : Fin 3) (q : ℕ) (hq : q < 2) (j : Fin 8) (d : Fin 128) (y : S3x48x128.Idx) (y0 : (y 0).val = b.val)
    (y1 : (y 1).val = 8 * (2 * p.val + q) + j.val) (y2 : (y 2).val = d.val) :
    outOc h0 h1 h2 h4 h5 h6 y = if q = 0 then ocC0 h0 h1 h2 h4 h5 h6 b p (ix3 (0 : Fin 1) j d) else ocC1 h0 h1 h2 h4 h5 h6 b p (ix3 (0 : Fin 1) j d) := by
  have e : y = ix3 b (⟨8 * (2 * p.val + q) + j.val, by omega⟩ : Fin 48) d := by
    refine funext fun a => Fin.ext ?_
    match a with
    | ⟨0, _⟩ => exact y0
    | ⟨1, _⟩ => exact y1
    | ⟨2, _⟩ => exact y2
  rw [e]
  unfold outOc
  have ep : (⟨(8 * (2 * p.val + q) + j.val) / 16, by omega⟩ : Fin 3) = p := Fin.ext (by show (8 * (2 * p.val + q) + j.val) / 16 = p.val; omega)
  have ej : (⟨(8 * (2 * p.val + q) + j.val) % 8, by omega⟩ : Fin 8) = j := Fin.ext (by show (8 * (2 * p.val + q) + j.val) % 8 = j.val; omega)
  show (if (8 * (2 * p.val + q) + j.val) / 8 % 2 = 0 then
      ocC0 h0 h1 h2 h4 h5 h6 b (⟨(8 * (2 * p.val + q) + j.val) / 16, by omega⟩ : Fin 3) (ix3 (0 : Fin 1) (⟨(8 * (2 * p.val + q) + j.val) % 8, by omega⟩ : Fin 8) d)
    else ocC1 h0 h1 h2 h4 h5 h6 b (⟨(8 * (2 * p.val + q) + j.val) / 16, by omega⟩ : Fin 3) (ix3 (0 : Fin 1) (⟨(8 * (2 * p.val + q) + j.val) % 8, by omega⟩ : Fin 8) d)) = _
  rw [ep, ej]
  by_cases h : q = 0
  · rw [if_pos h, if_pos (by omega)]
  · rw [if_neg h, if_neg (by omega)]

/-- What each store leaves in the second result is the stated entry. -/
theorem L10_agree (b : Fin 3) (P : View.Piece (Elt F) S3x48x128 .f32) (hP : P ∈ L10 c h0 h1 h2 h4 h5 h6 s0 s1 s2 s4 s5 s6 b) (x : P.1.shape.Idx) :
    P.2 x = outOc h0 h1 h2 h4 h5 h6 (P.1.emb x) := by
  obtain ⟨p, -, hP⟩ := List.mem_flatMap.mp hP
  rcases List.mem_cons.mp hP with rfl | hP
  · have x0 : (x 0).val < 1 := (x 0).isLt
    refine Eq.trans ?_ (outOc_row c h0 h1 h2 h4 h5 h6 b p 1 (by omega) (x 1) (x 2) _ (show b.val + 1 * (x 0).val = b.val by omega)
      (show 8 * (2 * p.val + 1) + 1 * (x 1).val = 8 * (2 * p.val + 1) + (x 1).val by omega) (show 0 + 1 * (x 2).val = (x 2).val by omega)).symm
    rw [if_neg Nat.one_ne_zero]
    exact (congrFun (ocPre1_eq c h0 h1 h2 h4 h5 h6 s0 s1 s2 s4 s5 s6 b p) x).trans (congrArg _ (ix3_eq1 x))
  · rcases List.mem_cons.mp hP with rfl | hP
    · have x0 : (x 0).val < 1 := (x 0).isLt
      refine Eq.trans ?_ (outOc_row c h0 h1 h2 h4 h5 h6 b p 0 (by omega) (x 1) (x 2) _ (show b.val + 1 * (x 0).val = b.val by omega)
        (show 8 * (2 * p.val) + 1 * (x 1).val = 8 * (2 * p.val + 0) + (x 1).val by omega) (show 0 + 1 * (x 2).val = (x 2).val by omega)).symm
      rw [if_pos rfl]
      exact (congrFun (ocPre0_eq c h0 h1 h2 h4 h5 h6 s0 s1 s2 s4 s5 s6 b p) x).trans (congrArg _ (ix3_eq1 x))
    · exact absurd hP List.not_mem_nil

/-- The stores of one sequence reach every entry of the second result. -/
theorem L10_cover (b : Fin 3) (i : Fin 48) (d : Fin 128) : ∃ P ∈ L10 c h0 h1 h2 h4 h5 h6 s0 s1 s2 s4 s5 s6 b, (ix3 b i d : S3x48x128.Idx) ∈ P.1.set := by
  have hp : ∀ p : Fin 3, p ∈ ([2, 1, 0] : List (Fin 3)) := by decide
  have key : ∀ (g : ℕ) (hg : g < 6) (w : FVec F S1x8x128 .f32), i.val / 8 = g → (ix3 b i d : S3x48x128.Idx) ∈ (p10 b g hg w).1.set := by
    intro g hg w hi
    refine (LoadRect.mem_set _).mpr fun a => ?_
    match a with
    | ⟨0, _⟩ => exact ⟨0, Nat.one_pos, rfl⟩
    | ⟨1, _⟩ => refine ⟨i.val % 8, show i.val % 8 < 8 by omega, ?_⟩; show i.val = 8 * g + 1 * (i.val % 8); omega
    | ⟨2, _⟩ => refine ⟨d.val, d.isLt, ?_⟩; show d.val = 0 + 1 * d.val; omega
  by_cases h : i.val / 8 % 2 = 0
  · exact ⟨_, List.mem_flatMap.mpr ⟨(⟨i.val / 16, by omega⟩ : Fin 3), hp _, List.mem_cons_of_mem _ List.mem_cons_self⟩,
      key _ _ _ (show i.val / 8 = 2 * (i.val / 16) by omega)⟩
  · exact ⟨_, List.mem_flatMap.mpr ⟨(⟨i.val / 16, by omega⟩ : Fin 3), hp _, List.mem_cons_self⟩,
      key _ _ _ (show i.val / 8 = 2 * (i.val / 16) + 1 by omega)⟩

/-- One sequence's transfer of the cache's output. -/
theorem oc_step (b : Fin 3) (inb) (inb') (hq : S1x48x128.Squeezes S48x128) (f : Bf (F := F) c hbM8) (w : S48x128.Idx → F .f32) (i : S3x48x128.Idx)
    (Ls : List (View.Piece (Elt F) S3x48x128 .f32))
    (hw : ∀ x, w x = ((scM10.slice (Rect.unit (s := S3x48x128) ![b.val, 0, 0] S1x48x128.size inb) (fun _ => rfl)).squeeze S48x128 hq).view.read (Elt F) (scM10.view.writes (Elt F) s10 Ls) x)
    (hL : ∀ P ∈ Ls, ∃ b', P ∈ L10 c h0 h1 h2 h4 h5 h6 s0 s1 s2 s4 s5 s6 b') (hb : ∀ P ∈ L10 c h0 h1 h2 h4 h5 h6 s0 s1 s2 s4 s5 s6 b, P ∈ Ls)
    (hf : (∀ x, ((hbM8.slice (Rect.unit (s := S3x48x128) ![b.val, 0, 0] S1x48x128.size inb') (fun _ => rfl)).squeeze S48x128 hq).view.emb x ≠ i) → f i = outOc h0 h1 h2 h4 h5 h6 i) :
    View.write (Elt F) ((hbM8.slice (Rect.unit (s := S3x48x128) ![b.val, 0, 0] S1x48x128.size inb') (fun _ => rfl)).squeeze S48x128 hq).view f w Finset.univ i = outOc h0 h1 h2 h4 h5 h6 i := by
  refine write_agree ((hbM8.slice (Rect.unit (s := S3x48x128) ![b.val, 0, 0] S1x48x128.size inb') (fun _ => rfl)).squeeze S48x128 hq).view f w (outOc h0 h1 h2 h4 h5 h6) i (fun x => (hw x).trans ?_) hf
  obtain ⟨j, d, rfl⟩ : ∃ (j : Fin 48) (d : Fin 128), x = ix2 j d := ⟨x 0, x 1, eq_ix2 x⟩
  rw [show ((hbM8.slice (Rect.unit (s := S3x48x128) ![b.val, 0, 0] S1x48x128.size inb') (fun _ => rfl)).squeeze S48x128 hq).view.emb (ix2 j d) = ix3 b j d from
    emb_sq3 hbM8.view ![b.val, 0, 0] inb' _ j d (ix3 b j d) rfl (Nat.zero_add _).symm (Nat.zero_add _).symm]
  refine (congrArg (scM10.view.writes (Elt F) s10 Ls) (emb_sq3 scM10.view ![b.val, 0, 0] inb _ j d (ix3 b j d) rfl (Nat.zero_add _).symm (Nat.zero_add _).symm)).trans ?_
  refine read_writes_agree (Val := Elt F) scM10.view s10 (outOc h0 h1 h2 h4 h5 h6) (ix3 b j d) Ls ?_ fun hn => ?_
  · intro P hP y
    obtain ⟨b', hP⟩ := hL P hP
    exact L10_agree c h0 h1 h2 h4 h5 h6 s0 s1 s2 s4 s5 s6 b' P hP y
  · obtain ⟨P, hP, hy⟩ := L10_cover c h0 h1 h2 h4 h5 h6 s0 s1 s2 s4 s5 s6 b j d
    exact absurd hy (hn P (hb P hP))

set_option maxHeartbeats 2000000 in
/-- The second result of the body's run. -/
theorem run_oc : (kernelRun c h0 h1 h2 h3 h4 h5 h6 h7 h8 s0 s1 s2 s3 s4 s5 s6 s7 s8 s9 s10).1.2 = outOc h0 h1 h2 h4 h5 h6 := by
  funext y
  obtain ⟨b, i, d, rfl⟩ : ∃ (b : Fin 3) (i : Fin 48) (d : Fin 128), y = ix3 b i d := ⟨y 0, y 1, y 2, eq_ix3 y⟩
  unfold kernelRun
  refine oc_step c h0 h1 h2 h4 h5 h6 s0 s1 s2 s4 s5 s6 s10 2 _ _ _ _ _ _ _ (fun _ => rfl) ?_ ?_ fun n2 => ?_
  · intro P hP
    rw [S10_18_eq, S10_12_eq, S10_6_eq] at hP
    rcases List.mem_append.mp hP with h | h
    · exact ⟨_, h⟩
    · rcases List.mem_append.mp h with h | h
      · exact ⟨_, h⟩
      · exact ⟨_, h⟩
  · intro P hP; rw [S10_18_eq]; exact List.mem_append.mpr (Or.inl hP)
  refine oc_step c h0 h1 h2 h4 h5 h6 s0 s1 s2 s4 s5 s6 s10 1 _ _ _ _ _ _ _ (fun _ => rfl) ?_ ?_ fun n1 => ?_
  · intro P hP
    rw [S10_12_eq, S10_6_eq] at hP
    rcases List.mem_append.mp hP with h | h
    · exact ⟨_, h⟩
    · exact ⟨_, h⟩
  · intro P hP; rw [S10_12_eq]; exact List.mem_append.mpr (Or.inl hP)
  refine oc_step c h0 h1 h2 h4 h5 h6 s0 s1 s2 s4 s5 s6 s10 0 _ _ _ _ _ _ _ (fun _ => rfl) ?_ ?_ fun n0 => ?_
  · intro P hP
    rw [S10_6_eq] at hP
    exact ⟨_, hP⟩
  · intro P hP; rw [S10_6_eq]; exact hP
  exfalso
  have e : ∀ b : Fin 3, ∀ inb h, ((hbM8.slice (Rect.unit (s := S3x48x128) ![b.val, 0, 0] S1x48x128.size inb) (fun _ => rfl)).squeeze S48x128 h).view.emb (ix2 i d) = ix3 b i d :=
    fun b inb h => emb_sq3 hbM8.view ![b.val, 0, 0] inb _ i d (ix3 b i d) rfl (Nat.zero_add _).symm (Nat.zero_add _).symm
  match b with
  | 0 => exact n0 _ (e 0 _ _)
  | 1 => exact n1 _ (e 1 _ _)
  | 2 => exact n2 _ (e 2 _ _)

/-! ## The whole output -/

/-- The staged output at a row named by its sequence and head. -/
theorem g8_row (b : Fin 3) (p : Fin 3) (q : ℕ) (hq : q < 2) (j : Fin 8) (d : Fin 128) (y : S384x128.Idx)
    (y0 : (y 0).val = 64 * (2 * p.val + q) + b.val + 8 * j.val) (y1 : (y 1).val = d.val) :
    g8 h0 h1 h2 h3 h4 h5 h6 y = if q = 0 then oC0 h0 h1 h2 h3 h4 h5 h6 b p (ix2 j d) else oC1 h0 h1 h2 h3 h4 h5 h6 b p (ix2 j d) := by
  have e : y = ix2 (⟨64 * (2 * p.val + q) + b.val + 8 * j.val, by omega⟩ : Fin 384) d := by
    refine funext fun a => Fin.ext ?_
    match a with
    | ⟨0, _⟩ => exact y0
    | ⟨1, _⟩ => exact y1
  rw [e]
  unfold g8
  have eb : (⟨min ((64 * (2 * p.val + q) + b.val + 8 * j.val) % 8) 2, by omega⟩ : Fin 3) = b := Fin.ext (by show min ((64 * (2 * p.val + q) + b.val + 8 * j.val) % 8) 2 = b.val; omega)
  have ep : (⟨(64 * (2 * p.val + q) + b.val + 8 * j.val) / 128, by omega⟩ : Fin 3) = p := Fin.ext (by show (64 * (2 * p.val + q) + b.val + 8 * j.val) / 128 = p.val; omega)
  have ej : (⟨(64 * (2 * p.val + q) + b.val + 8 * j.val) / 8 % 8, by omega⟩ : Fin 8) = j := Fin.ext (by show (64 * (2 * p.val + q) + b.val + 8 * j.val) / 8 % 8 = j.val; omega)
  show (if (64 * (2 * p.val + q) + b.val + 8 * j.val) / 64 % 2 = 0 then
      oC0 h0 h1 h2 h3 h4 h5 h6 (⟨min ((64 * (2 * p.val + q) + b.val + 8 * j.val) % 8) 2, by omega⟩ : Fin 3) (⟨(64 * (2 * p.val + q) + b.val + 8 * j.val) / 128, by omega⟩ : Fin 3)
        (ix2 (⟨(64 * (2 * p.val + q) + b.val + 8 * j.val) / 8 % 8, by omega⟩ : Fin 8) d)
    else oC1 h0 h1 h2 h3 h4 h5 h6 (⟨min ((64 * (2 * p.val + q) + b.val + 8 * j.val) % 8) 2, by omega⟩ : Fin 3) (⟨(64 * (2 * p.val + q) + b.val + 8 * j.val) / 128, by omega⟩ : Fin 3)
        (ix2 (⟨(64 * (2 * p.val + q) + b.val + 8 * j.val) / 8 % 8, by omega⟩ : Fin 8) d)) = _
  rw [eb, ep, ej]
  by_cases h : q = 0
  · rw [if_pos h, if_pos (by omega)]
  · rw [if_neg h, if_neg (by omega)]

/-- What each store leaves in the per-head output is the stated entry. -/
theorem L8_agree (b : Fin 3) (P : View.Piece (Elt F) S384x128 .f32) (hP : P ∈ L8 c h0 h1 h2 h3 h4 h5 h6 s0 s1 s2 s3 s4 s5 s6 b) (x : P.1.shape.Idx) :
    P.2 x = g8 h0 h1 h2 h3 h4 h5 h6 (P.1.emb x) := by
  obtain ⟨p, -, hP⟩ := List.mem_flatMap.mp hP
  rcases List.mem_cons.mp hP with rfl | hP
  · refine Eq.trans ?_ (g8_row c h0 h1 h2 h3 h4 h5 h6 b p 1 (by omega) (x 0) (x 1) _
      (show 64 * (2 * p.val + 1) + b.val + 8 * (x 0).val = 64 * (2 * p.val + 1) + b.val + 8 * (x 0).val from rfl) (show 0 + 1 * (x 1).val = (x 1).val by omega)).symm
    rw [if_neg Nat.one_ne_zero]
    exact (congrFun (oPre1_eq c h0 h1 h2 h3 h4 h5 h6 s0 s1 s2 s3 s4 s5 s6 b p) x).trans (congrArg _ (eq_ix2 x))
  · rcases List.mem_cons.mp hP with rfl | hP
    · refine Eq.trans ?_ (g8_row c h0 h1 h2 h3 h4 h5 h6 b p 0 (by omega) (x 0) (x 1) _
        (show 64 * (2 * p.val) + b.val + 8 * (x 0).val = 64 * (2 * p.val + 0) + b.val + 8 * (x 0).val from rfl) (show 0 + 1 * (x 1).val = (x 1).val by omega)).symm
      rw [if_pos rfl]
      exact (congrFun (oPre0_eq c h0 h1 h2 h3 h4 h5 h6 s0 s1 s2 s3 s4 s5 s6 b p) x).trans (congrArg _ (eq_ix2 x))
    · exact absurd hP List.not_mem_nil

/-- The stores of one sequence reach each of its rows of the per-head output. -/
theorem L8_cover (b : Fin 3) (i : Fin 48) (y : S384x128.Idx) (y0 : (y 0).val = 8 * i.val + b.val) :
    ∃ P ∈ L8 c h0 h1 h2 h3 h4 h5 h6 s0 s1 s2 s3 s4 s5 s6 b, y ∈ P.1.set := by
  have hp : ∀ p : Fin 3, p ∈ ([2, 1, 0] : List (Fin 3)) := by decide
  have key : ∀ (g : ℕ) (hg : g < 6) (w : FVec F S8x128 .f32), i.val / 8 = g → y ∈ (p8 b g hg w).1.set := by
    intro g hg w hi
    refine (LoadRect.mem_set _).mpr fun a => ?_
    match a with
    | ⟨0, _⟩ => refine ⟨i.val % 8, show i.val % 8 < 8 by omega, ?_⟩; show (y 0).val = 64 * g + b.val + 8 * (i.val % 8); omega
    | ⟨1, _⟩ => refine ⟨(y 1).val, (y 1).isLt, ?_⟩; show (y 1).val = 0 + 1 * (y 1).val; omega
  by_cases h : i.val / 8 % 2 = 0
  · exact ⟨_, List.mem_flatMap.mpr ⟨(⟨i.val / 16, by omega⟩ : Fin 3), hp _, List.mem_cons_of_mem _ List.mem_cons_self⟩,
      key _ _ _ (show i.val / 8 = 2 * (i.val / 16) by omega)⟩
  · exact ⟨_, List.mem_flatMap.mpr ⟨(⟨i.val / 16, by omega⟩ : Fin 3), hp _, List.mem_cons_self⟩,
      key _ _ _ (show i.val / 8 = 2 * (i.val / 16) + 1 by omega)⟩

/-- The staged output at a row of one head, whatever the buffer held. -/
theorem buf8_eq (f : Bf (F := F) c scM8) (b : Fin 3) (i : Fin 48) (y : S384x128.Idx) (y0 : (y 0).val = 8 * i.val + b.val) :
    View.read (Elt F) scM8.view (scM8.view.writes (Elt F) f (kernelRun.sl.S8_18 c h0 h1 h2 h3 h4 h5 h6 s0 s1 s2 s3 s4 s5 s6)) y = g8 h0 h1 h2 h3 h4 h5 h6 y := by
  rw [S8_18_eq]
  refine read_writes_agree (Val := Elt F) scM8.view f (g8 h0 h1 h2 h3 h4 h5 h6) y _ ?_ fun hn => ?_
  · intro P hP x
    rcases List.mem_append.mp hP with h | h
    · exact L8_agree c h0 h1 h2 h3 h4 h5 h6 s0 s1 s2 s3 s4 s5 s6 2 P h x
    · rcases List.mem_append.mp h with h | h
      · exact L8_agree c h0 h1 h2 h3 h4 h5 h6 s0 s1 s2 s3 s4 s5 s6 1 P h x
      · exact L8_agree c h0 h1 h2 h3 h4 h5 h6 s0 s1 s2 s3 s4 s5 s6 0 P h x
  · obtain ⟨P, hP, hy⟩ := L8_cover c h0 h1 h2 h3 h4 h5 h6 s0 s1 s2 s3 s4 s5 s6 b i y y0
    refine absurd hy (hn P ?_)
    match b with
    | 0 => exact List.mem_append.mpr (Or.inr (List.mem_append.mpr (Or.inr hP)))
    | 1 => exact List.mem_append.mpr (Or.inr (List.mem_append.mpr (Or.inl hP)))
    | 2 => exact List.mem_append.mpr (Or.inl hP)

/-- A stored piece of the whole output. -/
theorem p9_agree (i : Fin 48) (x : S3x128.Idx) :
    (p9 c s8 (kernelRun.sl.S8_18 c h0 h1 h2 h3 h4 h5 h6 s0 s1 s2 s3 s4 s5 s6) i).2 x
      = outO h0 h1 h2 h3 h4 h5 h6 ((p9 c s8 (kernelRun.sl.S8_18 c h0 h1 h2 h3 h4 h5 h6 s0 s1 s2 s3 s4 s5 s6) i).1.emb x) := by
  have hx1 : (x 1).val < 128 := (x 1).isLt
  have e0 : (((p9 c s8 (kernelRun.sl.S8_18 c h0 h1 h2 h3 h4 h5 h6 s0 s1 s2 s3 s4 s5 s6) i).1.emb x) 0).val = 0 + 1 * (x 0).val := rfl
  have e1 : (((p9 c s8 (kernelRun.sl.S8_18 c h0 h1 h2 h3 h4 h5 h6 s0 s1 s2 s3 s4 s5 s6) i).1.emb x) 1).val = 128 * i.val + 1 * (x 1).val := rfl
  unfold outO
  refine congr (congrArg k0_pay246 (funext fun z => ?_)) (funext fun a => Fin.ext ?_)
  · have hz : (z 0).val < 3 := (z 0).isLt
    refine (buf8_eq c h0 h1 h2 h3 h4 h5 h6 s0 s1 s2 s3 s4 s5 s6 _ (⟨(z 0).val, hz⟩ : Fin 3) i _
      (show 8 * i.val + 1 * (z 0).val = 8 * i.val + (z 0).val by omega)).trans (congrArg _ (funext fun a => Fin.ext ?_))
    match a with
    | ⟨0, _⟩ =>
      show 8 * i.val + 1 * (z 0).val = 8 * ((((p9 c s8 (kernelRun.sl.S8_18 c h0 h1 h2 h3 h4 h5 h6 s0 s1 s2 s3 s4 s5 s6) i).1.emb x) 1).val / 128) + (z 0).val
      rw [e1]; omega
    | ⟨1, _⟩ => show 0 + 1 * (z 1).val = (z 1).val; omega
  · match a with
    | ⟨0, _⟩ => show (x 0).val = (((p9 c s8 (kernelRun.sl.S8_18 c h0 h1 h2 h3 h4 h5 h6 s0 s1 s2 s3 s4 s5 s6) i).1.emb x) 0).val; rw [e0]; omega
    | ⟨1, _⟩ => show (x 1).val = (((p9 c s8 (kernelRun.sl.S8_18 c h0 h1 h2 h3 h4 h5 h6 s0 s1 s2 s3 s4 s5 s6) i).1.emb x) 1).val % 128; rw [e1]; omega

/-- The whole output's staging buffer. -/
theorem buf9_eq (y : S3x6144.Idx) :
    View.read (Elt F) scM9.view (scM9.view.writes (Elt F) s9 (kernelRun.sl.S9_48 c h0 h1 h2 h3 h4 h5 h6 s0 s1 s2 s3 s4 s5 s6 s8)) y = outO h0 h1 h2 h3 h4 h5 h6 y := by
  rw [S9_eq]
  refine read_writes_agree (Val := Elt F) scM9.view s9 (outO h0 h1 h2 h3 h4 h5 h6) y _ ?_ fun hn => ?_
  · intro P hP x
    obtain ⟨i, -, rfl⟩ := List.mem_map.mp hP
    exact p9_agree c h0 h1 h2 h3 h4 h5 h6 s0 s1 s2 s3 s4 s5 s6 s8 i x
  · have hy0 : (y 0).val < 3 := (y 0).isLt
    have hy1 : (y 1).val < 6144 := (y 1).isLt
    refine absurd ?_ (hn _ (List.mem_map.mpr ⟨(⟨(y 1).val / 128, by omega⟩ : Fin 48), List.mem_reverse.mpr (List.mem_finRange _), rfl⟩))
    refine (LoadRect.mem_set _).mpr fun a => ?_
    match a with
    | ⟨0, _⟩ => refine ⟨(y 0).val, hy0, ?_⟩; show (y 0).val = 0 + 1 * (y 0).val; omega
    | ⟨1, _⟩ => refine ⟨(y 1).val % 128, show (y 1).val % 128 < 128 by omega, ?_⟩; show (y 1).val = 128 * ((y 1).val / 128) + 1 * ((y 1).val % 128); omega

/-- The first result of the body's run. -/
theorem run_o : (kernelRun c h0 h1 h2 h3 h4 h5 h6 h7 h8 s0 s1 s2 s3 s4 s5 s6 s7 s8 s9 s10).1.1 = outO h0 h1 h2 h3 h4 h5 h6 := by
  unfold kernelRun
  show View.write (Elt F) hbM7.view h7 (kernelRun.sl.dma507 c h0 h1 h2 h3 h4 h5 h6 s0 s1 s2 s3 s4 s5 s6 s8 s9) Finset.univ = _
  refine (View.write_whole_univ _ _ _).trans (funext fun y => ?_)
  exact buf9_eq c h0 h1 h2 h3 h4 h5 h6 s0 s1 s2 s3 s4 s5 s6 s8 s9 y

end Run

end Cert.KernelIdeal.Hand
-- ==== Proof.Launch.lean ====
/-
  The launch: the program terminates, nothing faults, its arguments end unchanged, every semaphore counter ends at zero, and
  its results hold what the body leaves.
-/
module

public import proofs.«01_k».proof.Proof.Result
public import proofs.«01_k».proof.Proof.Gen.KernelIdeal.Frame
public import Idealize.ShloMosaic.Lib.Pipeline.FrameSuffixV

@[expose] public section

set_option maxRecDepth 16384

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands the body reads, left in HBM. -/
def H0 : Finset (Ref sig .tc) := {main_arg6, main_v0, main_v1, main_v2, main_arg5, main_v3, main_v4}
/-- The results the body writes, left in HBM. -/
def R0 : Finset (Ref sig .tc) := {main_v5_0, main_v5_1}
/-- The arrays the body reads are no window's. -/
theorem H0_sub : H0 ⊆ Pipeline.restRefs sig (cfg0.spec) := by decide
/-- The arrays the body writes are no window's and none of those it reads. -/
theorem R0_sub : R0 ⊆ Pipeline.restRefs sig (cfg0.spec) \ H0 := by decide

set_option maxHeartbeats 800000 in
/-- @main around the region at this proof's algebra. -/
theorem hmainD (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the body leaves in the two results (and, elsewhere, what the region finds). -/
def G (c : Dev nD) (b : Ref sig .tc) : Buf (Elt F) ((c : Thread nD τ).loc b) :=
  if e : b = main_v5_0 then e ▸ (outO (V m c main_arg6) (V m c main_v0) (V m c main_v1) (V m c main_v2) (V m c main_arg5) (V m c main_v3) (V m c main_v4) : Buf (Elt F) ((c : Thread nD τ).loc main_v5_0))
  else if e : b = main_v5_1 then e ▸ (outOc (V m c main_arg6) (V m c main_v0) (V m c main_v1) (V m c main_arg5) (V m c main_v3) (V m c main_v4) : Buf (Elt F) ((c : Thread nD τ).loc main_v5_1))
  else V m c b
/-- The region's first result array. -/
theorem G_0 (c : Dev nD) : G m c main_v5_0 = (outO (V m c main_arg6) (V m c main_v0) (V m c main_v1) (V m c main_v2) (V m c main_arg5) (V m c main_v3) (V m c main_v4) : Buf (Elt F) ((c : Thread nD τ).loc main_v5_0)) := by
  unfold G; rw [dif_pos rfl]
/-- The region's second result array. -/
theorem G_1 (c : Dev nD) : G m c main_v5_1 = (outOc (V m c main_arg6) (V m c main_v0) (V m c main_v1) (V m c main_arg5) (V m c main_v3) (V m c main_v4) : Buf (Elt F) ((c : Thread nD τ).loc main_v5_1)) := by
  unfold G; rw [dif_neg (by decide), dif_pos rfl]

/-- The body's twenty-one DMA cells. -/
abbrev osem0 : Fin 21 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20] : Fin 21 → SemLoc sig) j
/-- The body's semaphores are distinct and its own. -/
theorem ownSemFacts0 : Pipeline.OwnSemFacts (cfg0.spec) osem0 := by decide
/-- The body's semaphores, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20) := by
  rw [Pipeline.ownSems0_eq_of_list c osem0 [0, 1, 2, 3, 4, 5, 6, 7, 8, 9, 10, 11, 12, 13, 14, 15, 16, 17, 18, 19, 20] (by decide) (by decide)]; rfl
/-- The arrays the body reads, one by one. -/
theorem hbmPts0_eq (c : Dev nD) :
    (bigSep H0 (fun b => ((c : Thread nD τ).loc b) ↦{fullShare} V m c b) : sProp 𝕄)
      = iprop(pt c hbM0 (V m c main_arg6) ∗ pt c hbM1 (V m c main_v0) ∗ pt c hbM2 (V m c main_v1) ∗ pt c hbM3 (V m c main_v2) ∗ pt c hbM4 (V m c main_arg5) ∗ pt c hbM5 (V m c main_v3) ∗ pt c hbM6 (V m c main_v4)) := by
  rw [BI.bigSep_eq_bigSepL_of_eq [main_arg6, main_v0, main_v1, main_v2, main_arg5, main_v3, main_v4] (by decide) (by decide)]; rfl
/-- The arrays the body writes, one by one. -/
theorem resPts0_eq (c : Dev nD) (g : (b : Ref sig .tc) → Buf (Elt F) ((c : Thread nD τ).loc b)) :
    (bigSep R0 (fun b => ((c : Thread nD τ).loc b) ↦{fullShare} g b) : sProp 𝕄)
      = iprop(pt c hbM7 (g main_v5_0) ∗ pt c hbM8 (g main_v5_1)) := by
  rw [BI.bigSep_eq_bigSepL_of_eq [main_v5_0, main_v5_1] (by decide) (by decide)]; rfl
/-- The scratch buffers, one by one. -/
theorem scoped0_eq (c : Dev nD) : (Pipeline.scopedRest (cfg0.spec) c : sProp 𝕄)
      = iprop((∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f) ∗ (∃ f, pt c scM0 f)) := scopedRest0_eq c

/-- The invariant the body is run in: the two results' contents are `g`. -/
def Inv (g : (c : Dev nD) → (b : Ref sig .tc) → Buf (Elt F) ((c : Thread nD τ).loc b)) (c : Dev nD) : sProp 𝕄 :=
  Pipeline.ΦDRV osem0 (cfg0.spec) H0 R0 (V m) g c
/-- The invariant, written out buffer by buffer. -/
theorem Inv_eq (g : (c : Dev nD) → (b : Ref sig .tc) → Buf (Elt F) ((c : Thread nD τ).loc b)) (c : Dev nD) :
    Inv m g c = iprop(iprop((∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f) ∗ (∃ f, pt c scM0 f))
      ∗ iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20)
      ∗ iprop(pt c hbM0 (V m c main_arg6) ∗ pt c hbM1 (V m c main_v0) ∗ pt c hbM2 (V m c main_v1) ∗ pt c hbM3 (V m c main_v2) ∗ pt c hbM4 (V m c main_arg5) ∗ pt c hbM5 (V m c main_v3) ∗ pt c hbM6 (V m c main_v4))
      ∗ iprop(pt c hbM7 (g c main_v5_0) ∗ pt c hbM8 (g c main_v5_1))) := by
  unfold Inv
  unfold Pipeline.ΦDRV
  rw [scoped0_eq, ownSems00_eq, hbmPts0_eq, resPts0_eq]

/-- The proof data of the one region on core `c`: no window; before the step the results are as found, after it as the body leaves them. -/
def dats (_ : Fin 1) (c : Dev nD) : Dat τ (Elt F) Unit ℕ (Pipeline.UD sig nD τ) ℕ cfg0 c where
  A w := V m c (Pipeline.arrRef (cfg0.spec) w)
  after w t := w.elim0
  Φ t := if t.val = 0 then Inv m (V m) c else Inv m (G m) c
  q _ := fullShare
  owed _ := 0

/-- The region has no pipelined window to start from. -/
theorem A_eq (c : Dev nD) (w : Fin cfg0.W) : (dats m 0 c).A w = V m c (Pipeline.arrRef (cfg0.spec) w) := w.elim0

/-- The invariant before and after the one point. -/
theorem Phi_eq (c : Dev nD) (t : Fin (cfg0.N + 1)) : (dats m 0 c).Φ t = if t.val = 0 then Inv m (V m) c else Inv m (G m) c := by dsimp only [dats]
/-- The invariant before the one point. -/
theorem Phi_first (c : Dev nD) : (dats m 0 c).Φ t0_0.castSucc = Inv m (V m) c := (Phi_eq m c _).trans (if_pos rfl)
/-- The invariant at the start. -/
theorem Phi_zero (c : Dev nD) : (dats m 0 c).Φ 0 = Inv m (V m) c := (Phi_eq m c _).trans (if_pos rfl)
/-- The invariant after the one point. -/
theorem Phi_next (c : Dev nD) : (dats m 0 c).Φ t0_0.succ = Inv m (G m) c := (Phi_eq m c _).trans (if_neg (Nat.succ_ne_zero _))
/-- The invariant at the end. -/
theorem Phi_last (c : Dev nD) : (dats m 0 c).Φ (Fin.last cfg0.N) = Inv m (G m) c :=
  (Phi_eq m c _).trans (if_neg (show ¬ grid0.N = 0 by rw [N_0]; decide))
/-- The region's resources give the invariant at the start. -/
theorem hin0 (c : Dev nD) : Pipeline.ΦDRV osem0 (cfg0.spec) H0 R0 (V m) (V m) c ⊢ (dats m 0 c).Φ 0 := by rw [Phi_zero]; exact .rfl
/-- The invariant at the end gives the region's resources back. -/
theorem hout0 (c : Dev nD) : (dats m 0 c).Φ (Fin.last cfg0.N) ⊢ Pipeline.ΦDRV osem0 (cfg0.spec) H0 R0 (V m) (G m) c := by rw [Phi_last]; exact .rfl
/-- There is no pipelined window. -/
theorem noWindow (Φ : Fin cfg0.W → sProp 𝕄) : bigSep Finset.univ Φ = (iprop(emp) : sProp 𝕄) := by
  rw [show (Finset.univ : Finset (Fin cfg0.W)) = ∅ from rfl]; exact bigSep_empty

/-- What the body starts from. -/
def bodyPre (c : Dev nD) : sProp 𝕄 := iprop(Inv m (V m) c ∗ (dats m 0 c).owesAt () t0_0.castSucc ∗ emp)
/-- What the body ends with. -/
def bodyPost (c : Dev nD) : sProp 𝕄 := iprop(Inv m (G m) c ∗ (dats m 0 c).owesAt () t0_0.succ ∗ emp)

set_option maxHeartbeats 4000000 in
theorem sound_body (c : Dev nD) (t : Fin cfg0.N) :
    bodyPre m c ⊢ wp frame (wpE (defs₀ (F := F)) Variants.none c none) Set.univ (bodyAt0 t) (fun _ => bodyPost m c) := by
  unfold bodyPre bodyPost bodyAt0
  rw [Inv_eq, Inv_eq, G_0, G_1]
  unfold Dat.owesAt Pipeline.owesWithin
  rw [show (dats m 0 c).owed t0_0.castSucc = 0 from rfl, show (dats m 0 c).owed t0_0.succ = 0 from rfl]
  iintro ⟨⟨⟨⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s0, S0⟩⟩, ⟨Q0, Q1, Q2, Q3, Q4, Q5, Q6, Q7, Q8, Q9, Q10, Q11, Q12, Q13, Q14, Q15, Q16, Q17, Q18, Q19, Q20⟩, ⟨H0, H1, H2, H3, H4, H5, H6⟩, ⟨H7, H8⟩⟩, ⟨%W, -, HW⟩, He⟩
  rw [← run_o c (V m c main_arg6) (V m c main_v0) (V m c main_v1) (V m c main_v2) (V m c main_arg5) (V m c main_v3) (V m c main_v4) (V m c main_v5_0) (V m c main_v5_1) s0 s1 s2 s3 s4 s5 s6 s7 s8 s9 s10, ← run_oc c (V m c main_arg6) (V m c main_v0) (V m c main_v1) (V m c main_v2) (V m c main_arg5) (V m c main_v3) (V m c main_v4) (V m c main_v5_0) (V m c main_v5_1) s0 s1 s2 s3 s4 s5 s6 s7 s8 s9 s10]
  iapply ((kernelRun c (V m c main_arg6) (V m c main_v0) (V m c main_v1) (V m c main_v2) (V m c main_arg5) (V m c main_v3) (V m c main_v4) (V m c main_v5_0) (V m c main_v5_1) s0 s1 s2 s3 s4 s5 s6 s7 s8 s9 s10).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [HW]; · iexact HW
  iintro ⟨H0, H1, H2, H3, H4, H5, H6, H7, H8, S0, S1, S2, S3, S4, S5, S6, S7, S8, S9, S10, Q0, Q1, Q2, Q3, Q4, Q5, Q6, Q7, Q8, Q9, Q10, Q11, Q12, Q13, Q14, Q15, Q16, Q17, Q18, Q19, Q20, ⟨%W', HW'⟩⟩
  isplitl [H0 H1 H2 H3 H4 H5 H6 H7 H8 S0 S1 S2 S3 S4 S5 S6 S7 S8 S9 S10 Q0 Q1 Q2 Q3 Q4 Q5 Q6 Q7 Q8 Q9 Q10 Q11 Q12 Q13 Q14 Q15 Q16 Q17 Q18 Q19 Q20]
  · isplitl [S1 S2 S3 S4 S5 S6 S7 S8 S9 S10 S0]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S0
    isplitl [Q0 Q1 Q2 Q3 Q4 Q5 Q6 Q7 Q8 Q9 Q10 Q11 Q12 Q13 Q14 Q15 Q16 Q17 Q18 Q19 Q20]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      iexact Q20
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  isplitl [HW']
  · iexists W'; isplitr; · ipureintro; exact fun _ _ => Or.inl trivial
    iexact HW'
  iexact He

/-- The body that the region calls. -/
theorem defs₀_row (t : Fin cfg0.N) :
    defs₀ (F := F) .tc cfg0.body (cfg0.bodyArgs t (cfg0.slots t)) = bodyAt0 t := by
  unfold defs₀; rw [Defs.onTc_tc]

/-- The body meets its obligation at the one point. -/
theorem body_obligation (c : Dev nD) : BodyObligation (dats (F := F) m 0 c) (defs₀ (F := F)) Variants.none () Set.univ := fun t => by
  obtain rfl : t = t0_0 := fin_N0 t
  rw [noWindow, noWindow, defs₀_row, Phi_first, Phi_next]
  exact triple_restated (sound_body m c t0_0) rfl .rfl fun _ => .rfl

/-- What the region and the host lines after it leave in core `c`'s buffers. -/
def final (c : Dev nD) : Valuation τ sig (Elt F) :=
  StableHlo.after (List.flatten [hostOps1]) (Pipeline.withArrays cfg0.spec c (Pipeline.withR (V0 m c) R0 c (G m c)) fun w => (dats m 0 c).arrAt w cfg0.N)

set_option backward.isDefEq.respectTransparency.types false in
/-- The run: every buffer of the region's rest ends at `final`, every counter at zero. -/
theorem run_main : θ_run defs (onTc (τ := τ) (main (F := F))) (s₀ m ρ) (fun r => (∀ c : Dev nD,
      ∀ b ∈ Pipeline.restRefs sig (cfg0.spec), r.2.mem ((c.tc : Thread nD τ).loc b) = final m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m) (hin := hin0 m) (hout := hout0 m)
    (Q' := _) (hQ' := fun r h => ⟨fun c b hb => (h.1 c).2 b hb, h.2⟩)

/-- The host lines and the region leave `main_arg0` as launched. -/
theorem final_main_arg0 (c : Dev nD) : final m c (Proc.devRef .tc main_arg0) = m ((c : Thread nD τ).loc main_arg0) := by
  unfold final
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg0 (by exact (by decide : ∀ w, Pipeline.arrRef (cfg0.spec) w ≠ main_arg0)),
    Pipeline.withR_of_not_mem _ _ _ _ main_arg0 (by decide)]
  exact V_main_arg0 m c

/-- The host lines and the region leave `main_arg1` as launched. -/
theorem final_main_arg1 (c : Dev nD) : final m c (Proc.devRef .tc main_arg1) = m ((c : Thread nD τ).loc main_arg1) := by
  unfold final
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg1 (by exact (by decide : ∀ w, Pipeline.arrRef (cfg0.spec) w ≠ main_arg1)),
    Pipeline.withR_of_not_mem _ _ _ _ main_arg1 (by decide)]
  exact V_main_arg1 m c

/-- The host lines and the region leave `main_arg2` as launched. -/
theorem final_main_arg2 (c : Dev nD) : final m c (Proc.devRef .tc main_arg2) = m ((c : Thread nD τ).loc main_arg2) := by
  unfold final
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg2 (by exact (by decide : ∀ w, Pipeline.arrRef (cfg0.spec) w ≠ main_arg2)),
    Pipeline.withR_of_not_mem _ _ _ _ main_arg2 (by decide)]
  exact V_main_arg2 m c

/-- The host lines and the region leave `main_arg3` as launched. -/
theorem final_main_arg3 (c : Dev nD) : final m c (Proc.devRef .tc main_arg3) = m ((c : Thread nD τ).loc main_arg3) := by
  unfold final
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg3 (by exact (by decide : ∀ w, Pipeline.arrRef (cfg0.spec) w ≠ main_arg3)),
    Pipeline.withR_of_not_mem _ _ _ _ main_arg3 (by decide)]
  exact V_main_arg3 m c

/-- The host lines and the region leave `main_arg4` as launched. -/
theorem final_main_arg4 (c : Dev nD) : final m c (Proc.devRef .tc main_arg4) = m ((c : Thread nD τ).loc main_arg4) := by
  unfold final
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg4 (by exact (by decide : ∀ w, Pipeline.arrRef (cfg0.spec) w ≠ main_arg4)),
    Pipeline.withR_of_not_mem _ _ _ _ main_arg4 (by decide)]
  exact V_main_arg4 m c

/-- The host lines and the region leave `main_arg5` as launched. -/
theorem final_main_arg5 (c : Dev nD) : final m c (Proc.devRef .tc main_arg5) = m ((c : Thread nD τ).loc main_arg5) := by
  unfold final
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg5 (by exact (by decide : ∀ w, Pipeline.arrRef (cfg0.spec) w ≠ main_arg5)),
    Pipeline.withR_of_not_mem _ _ _ _ main_arg5 (by decide)]
  exact V_main_arg5 m c

/-- The host lines and the region leave `main_arg6` as launched. -/
theorem final_main_arg6 (c : Dev nD) : final m c (Proc.devRef .tc main_arg6) = m ((c : Thread nD τ).loc main_arg6) := by
  unfold final
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg6 (by exact (by decide : ∀ w, Pipeline.arrRef (cfg0.spec) w ≠ main_arg6)),
    Pipeline.withR_of_not_mem _ _ _ _ main_arg6 (by decide)]
  exact V_main_arg6 m c

/-- The frame: the program terminates, nothing faults, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c main_arg0 (Pipeline.mem_restRefs_of main_arg0 (by decide) (by decide))).trans (final_main_arg0 m c), (h.1 c main_arg1 (Pipeline.mem_restRefs_of main_arg1 (by decide) (by decide))).trans (final_main_arg1 m c), (h.1 c main_arg2 (Pipeline.mem_restRefs_of main_arg2 (by decide) (by decide))).trans (final_main_arg2 m c), (h.1 c main_arg3 (Pipeline.mem_restRefs_of main_arg3 (by decide) (by decide))).trans (final_main_arg3 m c), (h.1 c main_arg4 (Pipeline.mem_restRefs_of main_arg4 (by decide) (by decide))).trans (final_main_arg4 m c), (h.1 c main_arg5 (Pipeline.mem_restRefs_of main_arg5 (by decide) (by decide))).trans (final_main_arg5 m c), (h.1 c main_arg6 (Pipeline.mem_restRefs_of main_arg6 (by decide) (by decide))).trans (final_main_arg6 m c)⟩, h.2⟩) (run_main m ρ)

end Cert.KernelIdeal.Hand

end
-- ==== Proof.BodyK.lean ====
/-
  The kernel body's run, as one memory-for-memory symbolic execution.
-/
module

public import proofs.«01_k».proof.Proof.Base
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.Kernel.Hand

open Cert.Hand Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The side conditions the body assumes of the three lengths hold of every word -/

/-- The first window's copy is in bounds for every length. -/
theorem chk1 (v : BitVec 32) : k0_chk1 v := by
  have hb : (base v).toNat ≤ 130016 := base_le v
  have hd : 32 ∣ (base v).toNat := base_dvd v
  have ho : k0_off1 v = ![0, 0, (base v).toNat, 0] := rfl
  refine ⟨hd, ?_, fun hinb => .inl (.inr ⟨by decide, rfl, .inl ⟨?_, ?_⟩⟩), fun hinb => .inl (.inr ⟨by decide, rfl, .inl ⟨?_, ?_⟩⟩)⟩
  · intro a; rw [ho]
    fin_cases a
    · show 0 + 1 ≤ 3; omega
    · show 0 + 6 ≤ 6; omega
    · show (base v).toNat + 1056 ≤ 131072; omega
    · show 0 + 128 ≤ 128; omega
  · show 2 ∣ (base v).toNat; omega
  · show 2 ∣ 1056; omega
  · show 4 ∣ (base v).toNat; omega
  · show 4 ∣ 1056; omega

/-- The second window's copy is in bounds for every length. -/
theorem chk2 (v : BitVec 32) : k0_chk2 v := by
  have hb : (base v).toNat ≤ 130016 := base_le v
  have hd : 32 ∣ (base v).toNat := base_dvd v
  have ho : k0_off2 v = ![1, 0, (base v).toNat, 0] := rfl
  refine ⟨hd, ?_, fun hinb => .inl (.inr ⟨by decide, rfl, .inl ⟨?_, ?_⟩⟩), fun hinb => .inl (.inr ⟨by decide, rfl, .inl ⟨?_, ?_⟩⟩)⟩
  · intro a; rw [ho]
    fin_cases a
    · show 1 + 1 ≤ 3; omega
    · show 0 + 6 ≤ 6; omega
    · show (base v).toNat + 1056 ≤ 131072; omega
    · show 0 + 128 ≤ 128; omega
  · show 2 ∣ (base v).toNat; omega
  · show 2 ∣ 1056; omega
  · show 4 ∣ (base v).toNat; omega
  · show 4 ∣ 1056; omega

/-- The third window's copy is in bounds for every length. -/
theorem chk3 (v : BitVec 32) : k0_chk3 v := by
  have hb : (base v).toNat ≤ 130016 := base_le v
  have hd : 32 ∣ (base v).toNat := base_dvd v
  have ho : k0_off3 v = ![2, 0, (base v).toNat, 0] := rfl
  refine ⟨hd, ?_, fun hinb => .inl (.inr ⟨by decide, rfl, .inl ⟨?_, ?_⟩⟩), fun hinb => .inl (.inr ⟨by decide, rfl, .inl ⟨?_, ?_⟩⟩)⟩
  · intro a; rw [ho]
    fin_cases a
    · show 2 + 1 ≤ 3; omega
    · show 0 + 6 ≤ 6; omega
    · show (base v).toNat + 1056 ≤ 131072; omega
    · show 0 + 128 ≤ 128; omega
  · show 2 ∣ (base v).toNat; omega
  · show 2 ∣ 1056; omega
  · show 4 ∣ (base v).toNat; omega
  · show 4 ∣ 1056; omega

/-! ## The body's operands -/

/-- The lengths' array. -/
abbrev hbM0 : Memref sig .tc .hbm S3 .i32 := Memref.whole main_arg6
/-- The queries' array. -/
abbrev hbM1 : Memref sig .tc .hbm S3x6144 .bf16 := Memref.whole main_v0
/-- The new keys' array. -/
abbrev hbM2 : Memref sig .tc .hbm S3x6x128 .bf16 := Memref.whole main_v1
/-- The new values' array. -/
abbrev hbM3 : Memref sig .tc .hbm S3x6x128 .bf16 := Memref.whole main_v2
/-- The value scales' array. -/
abbrev hbM4 : Memref sig .tc .hbm S3x6x128 .f32 := Memref.whole main_arg5
/-- The key cache's array. -/
abbrev hbM5 : Memref sig .tc .hbm S3x6x131072x128 .bf16 := Memref.whole main_v3
/-- The value codes' array. -/
abbrev hbM6 : Memref sig .tc .hbm S3x6x131072x128 .fp8e4m3 := Memref.whole main_v4
/-- The first result's array. -/
abbrev hbM7 : Memref sig .tc .hbm S3x6144 .bf16 := Memref.whole main_v5_0
/-- The second result's array. -/
abbrev hbM8 : Memref sig .tc .hbm S3x48x128 .f32 := Memref.whole main_v5_1
/-- The staged lengths. -/
abbrev scM0 : Memref sig .tc .smem S3 .i32 := Memref.whole cc0_scratch0
/-- The staged queries. -/
abbrev scM1 : Memref sig .tc .vmem S3x6144 .bf16 := Memref.whole cc0_scratch1
/-- The staged new keys. -/
abbrev scM2 : Memref sig .tc .vmem S3x6x128 .bf16 := Memref.whole cc0_scratch2
/-- The staged new values. -/
abbrev scM3 : Memref sig .tc .vmem S3x6x128 .bf16 := Memref.whole cc0_scratch3
/-- The staged value scales. -/
abbrev scM4 : Memref sig .tc .vmem S3x6x128 .f32 := Memref.whole cc0_scratch4
/-- The staged key rows. -/
abbrev scM5 : Memref sig .tc .vmem S3x6x1088x128 .bf16 := Memref.whole cc0_scratch5
/-- The staged value codes. -/
abbrev scM6 : Memref sig .tc .vmem S3x6x1088x128 .fp8e4m3 := Memref.whole cc0_scratch6
/-- The queries, one row a head and a sequence. -/
abbrev scM7 : Memref sig .tc .vmem S384x128 .f32 := Memref.whole cc0_scratch7
/-- The output, one row a head and a sequence. -/
abbrev scM8 : Memref sig .tc .vmem S384x128 .f32 := Memref.whole cc0_scratch8
/-- The first result before its copy out. -/
abbrev scM9 : Memref sig .tc .vmem S3x6144 .bf16 := Memref.whole cc0_scratch9
/-- The second result before its copy out. -/
abbrev scM10 : Memref sig .tc .vmem S3x48x128 .f32 := Memref.whole cc0_scratch10
/-- What the buffer behind a memref holds. -/
abbrev Bf (c : Dev nD) {sp : Space} {S : Shape} {e : EltTy} (M : Memref sig .tc sp S e) : Type := Buf (Elt F) (M.view.loc (c : Thread nD τ))
/-- A memref's buffer held whole at given contents. -/
abbrev pt (c : Dev nD) {sp : Space} {S : Shape} {e : EltTy} (M : Memref sig .tc sp S e) (f : Bf (F := F) c M) : sProp 𝕄 :=
  M.view.loc (c : Thread nD τ) ↦{fullShare} f
/-- A DMA cell of the body at its counter zero. -/
abbrev sv (c : Dev nD) (j : DmaSem sig) : sProp 𝕄 := semVal ((c : Thread nD τ), SemLoc.dma j) 0

/-- A buffer held whole is six shares of it held whole: one for each of the six transfers that read it at once. -/
theorem six (ℓ : Loc nD τ sig) (q : PosShare TreeShare) (f : Buf (Elt F) ℓ) :
    (ℓ ↦{q} f : sProp 𝕄) ⊣⊢ iprop((ℓ ↦{q.left.left} f) ∗ (ℓ ↦{q.left.right.left} f) ∗ (ℓ ↦{q.left.right.right} f)
      ∗ (ℓ ↦{q.right.left} f) ∗ (ℓ ↦{q.right.right.left} f) ∗ (ℓ ↦{q.right.right.right} f)) := by
  have h := fun q : PosShare TreeShare => pointsTo_share (Ix := Unit) (Name := ℕ) (U := Pipeline.UD sig nD τ) (Lvl := ℕ) (ℓ := ℓ) (I := Finset.univ) (f := f) (PosShare.mem_left_op_right q)
  constructor
  · iintro H
    ihave ⟨A, B⟩ := (h q).1 $$ H
    ihave ⟨A0, A1⟩ := (h q.left).1 $$ A
    ihave ⟨A1, A2⟩ := (h q.left.right).1 $$ A1
    ihave ⟨B0, B1⟩ := (h q.right).1 $$ B
    ihave ⟨B1, B2⟩ := (h q.right.right).1 $$ B1
    isplitl [A0]; · iexact A0
    isplitl [A1]; · iexact A1
    isplitl [A2]; · iexact A2
    isplitl [B0]; · iexact B0
    isplitl [B1]; · iexact B1
    iexact B2
  · iintro ⟨A0, A1, A2, B0, B1, B2⟩
    ihave A1 := (h q.left.right).2 $$ [A1 A2]
    · isplitl [A1]; · iexact A1
      iexact A2
    ihave A := (h q.left).2 $$ [A0 A1]
    · isplitl [A0]; · iexact A0
      iexact A1
    ihave B1 := (h q.right.right).2 $$ [B1 B2]
    · isplitl [B1]; · iexact B1
      iexact B2
    ihave B := (h q.right).2 $$ [B0 B1]
    · isplitl [B0]; · iexact B0
      iexact B1
    iapply (h q).2
    isplitl [A]; · iexact A
    iexact B

set_option sl_exec.rejoinFuel 200 in
set_option sl_exec.rejoinHeartbeats 200000 in
set_option sl_exec.dmaWindow true in
set_option sl_exec.resultNames true in
/-- The body's run: from the seven operands whole at their contents, the two results and the eleven scratch buffers at
    anything and the twenty-one cells at zero, the body runs to its return handing everything back, the results at contents the run
    finds. -/
noncomputable def kernelRun (c : Dev nD) (h0 : Bf (F := F) c hbM0) (h1 : Bf (F := F) c hbM1) (h2 : Bf (F := F) c hbM2) (h3 : Bf (F := F) c hbM3) (h4 : Bf (F := F) c hbM4) (h5 : Bf (F := F) c hbM5) (h6 : Bf (F := F) c hbM6) (h7 : Bf (F := F) c hbM7) (h8 : Bf (F := F) c hbM8)
    (s0 : Bf (F := F) c scM0) (s1 : Bf (F := F) c scM1) (s2 : Bf (F := F) c scM2) (s3 : Bf (F := F) c scM3) (s4 : Bf (F := F) c scM4) (s5 : Bf (F := F) c scM5) (s6 : Bf (F := F) c scM6) (s7 : Bf (F := F) c scM7) (s8 : Bf (F := F) c scM8) (s9 : Bf (F := F) c scM9) (s10 : Bf (F := F) c scM10) :
    { L : Bf (F := F) c hbM7 × Bf (F := F) c hbM8 //
      ∀ (W : Waits sig Unit) (K : PUnit → sProp 𝕄),
        iprop(pt c hbM0 h0 ∗ pt c hbM1 h1 ∗ pt c hbM2 h2 ∗ pt c hbM3 h3 ∗ pt c hbM4 h4 ∗ pt c hbM5 h5 ∗ pt c hbM6 h6 ∗ pt c hbM7 h7 ∗ pt c hbM8 h8 ∗ pt c scM0 s0 ∗ pt c scM1 s1 ∗ pt c scM2 s2 ∗ pt c scM3 s3 ∗ pt c scM4 s4 ∗ pt c scM5 s5 ∗ pt c scM6 s6 ∗ pt c scM7 s7 ∗ pt c scM8 s8 ∗ pt c scM9 s9 ∗ pt c scM10 s10 ∗ sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20
            ∗ owes (c : Thread nD τ) 0 W
            ∗ (iprop(pt c hbM0 h0 ∗ pt c hbM1 h1 ∗ pt c hbM2 h2 ∗ pt c hbM3 h3 ∗ pt c hbM4 h4 ∗ pt c hbM5 h5 ∗ pt c hbM6 h6 ∗ pt c hbM7 L.1 ∗ pt c hbM8 L.2 ∗ (∃ f, pt c scM0 f) ∗ (∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f) ∗ sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20
                ∗ (∃ W', owes (c : Thread nD τ) 0 W')) -∗ K ⟨⟩))
          ⊢ wp frame (wpE (defs₀ (F := F)) Variants.none c none) Set.univ
              (cc0_gqa_decode hbM0 (Memref.isWhole_whole _) hbM1 (Memref.isWhole_whole _) hbM2 (Memref.isWhole_whole _) hbM3 (Memref.isWhole_whole _) hbM4 (Memref.isWhole_whole _) hbM5 (Memref.isWhole_whole _) hbM6 (Memref.isWhole_whole _) hbM7 (Memref.isWhole_whole _) hbM8 (Memref.isWhole_whole _) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) cc0_scratch11 cc0_scratch12 cc0_scratch13 cc0_scratch14 cc0_scratch15) K } := by
  refine ⟨⟨?_, ?_⟩, fun W K => ?run⟩
  case run =>
    iintro ⟨H0, H1, H2, H3, H4, H5, H6, H7, H8, S0, S1, S2, S3, S4, S5, S6, S7, S8, S9, S10, Q0, Q1, Q2, Q3, Q4, Q5, Q6, Q7, Q8, Q9, Q10, Q11, Q12, Q13, Q14, Q15, Q16, Q17, Q18, Q19, Q20, HW, Hk⟩
    ihave ⟨K0, K1, K2, K3, K4, K5⟩ := (six _ _ _).1 $$ H5
    ihave ⟨V0, V1, V2, V3, V4, V5⟩ := (six _ _ _).1 $$ H6
    sl_exec_parts! (disch := first | exact chk1 _ | exact chk2 _ | exact chk3 _)
    sl_step
    iapply Hk
    ihave H5 := (six _ _ _).2 $$ [K0 K1 K2 K3 K4 K5]
    · isplitl [K0]; · iexact K0
      isplitl [K1]; · iexact K1
      isplitl [K2]; · iexact K2
      isplitl [K3]; · iexact K3
      isplitl [K4]; · iexact K4
      iexact K5
    ihave H6 := (six _ _ _).2 $$ [V0 V1 V2 V3 V4 V5]
    · isplitl [V0]; · iexact V0
      isplitl [V1]; · iexact V1
      isplitl [V2]; · iexact V2
      isplitl [V3]; · iexact V3
      isplitl [V4]; · iexact V4
      iexact V5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    iexists _; iexact HW

end Cert.Kernel.Hand

end
-- ==== Proof.PiecesK.lean ====
/-
  What the body's run stores, block by block: every stored piece is one function of the sequence and the head group.
-/
module

public import proofs.«01_k».proof.Proof.BodyK
public import proofs.«01_k».proof.Proof.Views

@[expose] public section

set_option maxRecDepth 16384

noncomputable section

namespace Cert.Kernel.Hand

open Cert.Hand Cert.Kernel Cert.Kernel.Gen
open Idealize.ShloMosaic Idealize.ShloMosaic.TcCoe Idealize.ShloMosaic.Tactic
open Idealize.SL.Sem

variable {F : FTy → Type} [FloatOps F]

/-! ## The body's arithmetic, once for all blocks -/

/-- The scores of two packed head groups: their queries side by side with zeros, against their keys side by side. -/
def scG (q0 q1 : Vec F S8x128 .f32) (k0 k1 : Vec F S1x1x1088x128 .bf16) : FVec F S16x1088 .f32 :=
  k0_pay79 k0_pay78 q0 q1 k0 k1
/-- Which of the 1088 staged rows are visible for a sequence of length `ln`. -/
def visG (ln : BitVec 32) : IVec S16x1088 1 := k0_pay86 (F := F) ln (base ln) (iota .tc S16x1088 32 [1] iota_S16x1088_d1_w32)
/-- One over the softmax's denominator. -/
def ilG (sc : FVec F S16x1088 .f32) (vis : IVec S16x1088 1) : FVec F S16x1 .f32 := k0_pay89 sc vis (FloatOps.ofBits .f32 0x3DB504F3#32)
/-- The new key's unnormalised probability. -/
def pnG (sc : FVec F S16x1088 .f32) (vis : IVec S16x1088 1) : FVec F S16x1 .f32 := k0_pay88 sc vis (FloatOps.ofBits .f32 0x3DB504F3#32)
/-- The probabilities' codes. -/
def cdG (sc : FVec F S16x1088 .f32) (vis : IVec S16x1088 1) : FVec F S32x1088 .fp8e4m3 :=
  k0_pay90 (iota .tc S16x1088 32 [1] iota_S16x1088_d1_w32) sc vis (FloatOps.ofBits .f32 0x3DB504F3#32)
/-- The codes against the values of two head groups side by side. -/
def accG (cd : FVec F S32x1088 .fp8e4m3) (v0 v1 : Vec F S1x1x1088x128 .fp8e4m3) : FVec F S32x256 .f32 := k0_pay144 cd v0 v1
/-- The cache's part of the output, first head group of the pair. -/
def ocG0 (il : FVec F S16x1 .f32) (cd : FVec F S32x1088 .fp8e4m3) (v0 v1 : Vec F S1x1x1088x128 .fp8e4m3) (vs : Vec F S1x1x128 .f32) :
    FVec F S1x8x128 .f32 := k0_pay149 (k0_pay145 il) (k0_pay147 cd v0 v1) vs
/-- The cache's part of the output, second head group of the pair. -/
def ocG1 (il : FVec F S16x1 .f32) (cd : FVec F S32x1088 .fp8e4m3) (v0 v1 : Vec F S1x1x1088x128 .fp8e4m3) (vs : Vec F S1x1x128 .f32) :
    FVec F S1x8x128 .f32 := k0_pay154 il (accG cd v0 v1) vs
/-- The whole output, first head group of the pair. -/
def oG0 (il pn : FVec F S16x1 .f32) (cd : FVec F S32x1088 .fp8e4m3) (v0 v1 : Vec F S1x1x1088x128 .fp8e4m3) (vs : Vec F S1x1x128 .f32)
    (vn : Vec F S1x1x128 .bf16) : FVec F S8x128 .f32 := k0_pay150 (k0_pay145 il) (k0_pay146 pn) (k0_pay147 cd v0 v1) vs vn
/-- The whole output, second head group of the pair. -/
def oG1 (il pn : FVec F S16x1 .f32) (cd : FVec F S32x1088 .fp8e4m3) (v0 v1 : Vec F S1x1x1088x128 .fp8e4m3) (vs : Vec F S1x1x128 .f32)
    (vn : Vec F S1x1x128 .bf16) : FVec F S8x128 .f32 := k0_pay156 (k0_pay151 il) (k0_pay152 pn) (k0_pay153 il (accG cd v0 v1) vs) (k0_pay155 vn)

/-! ## The staged operands -/

section Run
variable (c : Dev nD) (h0 : Bf (F := F) c hbM0) (h1 : Bf (F := F) c hbM1) (h2 : Bf (F := F) c hbM2) (h3 : Bf (F := F) c hbM3)
  (h4 : Bf (F := F) c hbM4) (h5 : Bf (F := F) c hbM5) (h6 : Bf (F := F) c hbM6)
  (s0 : Bf (F := F) c scM0) (s1 : Bf (F := F) c scM1) (s2 : Bf (F := F) c scM2) (s3 : Bf (F := F) c scM3) (s4 : Bf (F := F) c scM4)
  (s5 : Bf (F := F) c scM5) (s6 : Bf (F := F) c scM6) (s7 : Bf (F := F) c scM7) (s8 : Bf (F := F) c scM8) (s9 : Bf (F := F) c scM9)
  (s10 : Bf (F := F) c scM10)

/-- One row of one block of a [3, 6, 128] array. -/
theorem inbRow (b : Fin 3) (g : ℕ) (hg : g < 6) : ∀ a : Fin 3, (![b.val, g, 0] : Fin 3 → ℕ) a + S1x1x128.size a ≤ S3x6x128.size a := by
  intro a
  match a with
  | ⟨0, _⟩ => show b.val + 1 ≤ 3; omega
  | ⟨1, _⟩ => show g + 1 ≤ 6; omega
  | ⟨2, _⟩ => show 0 + 128 ≤ 128; omega
/-- One plane of a [3, 6, 1088, 128] array. -/
theorem inbPlane (b : Fin 3) (g : ℕ) (hg : g < 6) : ∀ a : Fin 4, (![b.val, g, 0, 0] : Fin 4 → ℕ) a + S1x1x1088x128.size a ≤ S3x6x1088x128.size a := by
  intro a
  match a with
  | ⟨0, _⟩ => show b.val + 1 ≤ 3; omega
  | ⟨1, _⟩ => show g + 1 ≤ 6; omega
  | ⟨2, _⟩ => show 0 + 1088 ≤ 1088; omega
  | ⟨3, _⟩ => show 0 + 128 ≤ 128; omega
/-- Every eighth row of a head group's 64 rows. -/
theorem inbQ (b : Fin 3) (g : ℕ) (hg : g < 6) : ∀ a : Fin 2, (![64 * g + b.val, 0] : Fin 2 → ℕ) a + (![8, 1] : Fin 2 → ℕ) a * (S8x128.size a - 1) < S384x128.size a := by
  intro a
  match a with
  | ⟨0, _⟩ => show 64 * g + b.val + 8 * (8 - 1) < 384; omega
  | ⟨1, _⟩ => show 0 + 1 * (128 - 1) < 128; omega

/-- The head group numbers are in range. -/
theorem g0_lt (p : Fin 3) : 2 * p.val < 6 := by omega
/-- The second group of a pair is a group. -/
theorem g1_lt (p : Fin 3) : 2 * p.val + 1 < 6 := by omega

/-- The length word of sequence `b`, as the body reads it. -/
def lnPre (b : Fin 3) : BitVec 32 :=
  View.readAt (Elt F) scM0.view (Rect.unit (s := S3) ![b.val] S1.size (by intro a; match a with | ⟨0, _⟩ => show b.val + 1 ≤ 3; omega)).toLoadRect
    (View.write (Elt F) scM0.view s0 (kernelRun.sl.dma0 c h0) Finset.univ) (Shape.Idx.first (show 0 < S1.numel by decide))
/-- The eight query rows of head group `g` of sequence `b`, as the body reads them. -/
def qPre (b : Fin 3) (g : ℕ) (hg : g < 6) : Vec F S8x128 .f32 :=
  scM7.view.readCov (kernelRun.sl.S7_48 c h1 s1) { off := ![64 * g + b.val, 0], size := S8x128.size, stride := ![8, 1], inb := fun a => .inr (inbQ b g hg a) }
/-- The key buffer once every transfer has landed and the new keys are stored. -/
def kBuf : Bf (F := F) c scM5 :=
  scM5.view.writes (Elt F)
    (View.write (Elt F) ((scM5.slice (Rect.unit ![2, 0, 0, 0] S1x6x1056x128.size inb_S3x6x1088x128_S1x6x1056x128_2_0_0_0) (fun _ => rfl)).squeeze S6x1056x128 squeezes_S1x6x1056x128_S6x1056x128).view
      (View.write (Elt F) ((scM5.slice (Rect.unit ![1, 0, 0, 0] S1x6x1056x128.size inb_S3x6x1088x128_S1x6x1056x128_1_0_0_0) (fun _ => rfl)).squeeze S6x1056x128 squeezes_S1x6x1056x128_S6x1056x128).view
        (View.write (Elt F) ((scM5.slice (Rect.unit ![0, 0, 0, 0] S1x6x1056x128.size inb_S3x6x1088x128_S1x6x1056x128_0_0_0_0) (fun _ => rfl)).squeeze S6x1056x128 squeezes_S1x6x1056x128_S6x1056x128).view
          (View.write (Elt F) ((scM5.slice (Rect.unit ![2, 0, 1056, 0] S1x6x16x128.size inb_S3x6x1088x128_S1x6x16x128_2_0_1056_0) (fun _ => rfl)).squeeze S6x16x128 squeezes_S1x6x16x128_S6x16x128).view
            (View.write (Elt F) ((scM5.slice (Rect.unit ![1, 0, 1056, 0] S1x6x16x128.size inb_S3x6x1088x128_S1x6x16x128_1_0_1056_0) (fun _ => rfl)).squeeze S6x16x128 squeezes_S1x6x16x128_S6x16x128).view
              (View.write (Elt F) ((scM5.slice (Rect.unit ![0, 0, 1056, 0] S1x6x16x128.size inb_S3x6x1088x128_S1x6x16x128_0_0_1056_0) (fun _ => rfl)).squeeze S6x16x128 squeezes_S1x6x16x128_S6x16x128).view
                s5 (kernelRun.sl.dma0_5 c h5) Finset.univ)
              (kernelRun.sl.dma0_6 c h5) Finset.univ)
            (kernelRun.sl.dma0_7 c h5) Finset.univ)
          (kernelRun.sl.dma3 c h0 h5 s0) Finset.univ)
        (kernelRun.sl.dma3_1 c h0 h5 s0) Finset.univ)
      (kernelRun.sl.dma3_2 c h0 h5 s0) Finset.univ)
    (kernelRun.sl.S5_18 c h2 s2)
/-- The value buffer once every transfer has landed. -/
def vBuf : Bf (F := F) c scM6 :=
    (View.write (Elt F) ((scM6.slice (Rect.unit ![2, 0, 0, 0] S1x6x1056x128.size inb_S3x6x1088x128_S1x6x1056x128_2_0_0_0) (fun _ => rfl)).squeeze S6x1056x128 squeezes_S1x6x1056x128_S6x1056x128).view
      (View.write (Elt F) ((scM6.slice (Rect.unit ![1, 0, 0, 0] S1x6x1056x128.size inb_S3x6x1088x128_S1x6x1056x128_1_0_0_0) (fun _ => rfl)).squeeze S6x1056x128 squeezes_S1x6x1056x128_S6x1056x128).view
        (View.write (Elt F) ((scM6.slice (Rect.unit ![0, 0, 0, 0] S1x6x1056x128.size inb_S3x6x1088x128_S1x6x1056x128_0_0_0_0) (fun _ => rfl)).squeeze S6x1056x128 squeezes_S1x6x1056x128_S6x1056x128).view
          (View.write (Elt F) ((scM6.slice (Rect.unit ![2, 0, 1056, 0] S1x6x32x128.size inb_S3x6x1088x128_S1x6x32x128_2_0_1056_0) (fun _ => rfl)).squeeze S6x32x128 squeezes_S1x6x32x128_S6x32x128).view
            (View.write (Elt F) ((scM6.slice (Rect.unit ![1, 0, 1056, 0] S1x6x32x128.size inb_S3x6x1088x128_S1x6x32x128_1_0_1056_0) (fun _ => rfl)).squeeze S6x32x128 squeezes_S1x6x32x128_S6x32x128).view
              (View.write (Elt F) ((scM6.slice (Rect.unit ![0, 0, 1056, 0] S1x6x32x128.size inb_S3x6x1088x128_S1x6x32x128_0_0_1056_0) (fun _ => rfl)).squeeze S6x32x128 squeezes_S1x6x32x128_S6x32x128).view
                s6 (kernelRun.sl.dma0_8 c h6) Finset.univ)
              (kernelRun.sl.dma0_9 c h6) Finset.univ)
            (kernelRun.sl.dma0_10 c h6) Finset.univ)
          (kernelRun.sl.dma3_3 c h0 h6 s0) Finset.univ)
        (kernelRun.sl.dma3_4 c h0 h6 s0) Finset.univ)
      (kernelRun.sl.dma3_5 c h0 h6 s0) Finset.univ)
/-- The staged key rows of one head group. -/
def kPre (b : Fin 3) (g : ℕ) (hg : g < 6) : Vec F S1x1x1088x128 .bf16 :=
  View.readAt (Elt F) scM5.view (Rect.unit (s := S3x6x1088x128) ![b.val, g, 0, 0] S1x1x1088x128.size (inbPlane b g hg)).toLoadRect (kBuf c h0 h2 h5 s0 s2 s5)
/-- The staged value rows of one head group. -/
def vPre (b : Fin 3) (g : ℕ) (hg : g < 6) : Vec F S1x1x1088x128 .fp8e4m3 :=
  View.readAt (Elt F) scM6.view (Rect.unit (s := S3x6x1088x128) ![b.val, g, 0, 0] S1x1x1088x128.size (inbPlane b g hg)).toLoadRect (vBuf c h0 h6 s0 s6)
/-- The value scales of one head group. -/
def vsPre (b : Fin 3) (g : ℕ) (hg : g < 6) : Vec F S1x1x128 .f32 :=
  View.readAt (Elt F) scM4.view (Rect.unit (s := S3x6x128) ![b.val, g, 0] S1x1x128.size (inbRow b g hg)).toLoadRect (View.write (Elt F) scM4.view s4 (kernelRun.sl.dma0_4 c h4) Finset.univ)
/-- The new value row of one head group. -/
def vnPre (b : Fin 3) (g : ℕ) (hg : g < 6) : Vec F S1x1x128 .bf16 :=
  View.readAt (Elt F) scM3.view (Rect.unit (s := S3x6x128) ![b.val, g, 0] S1x1x128.size (inbRow b g hg)).toLoadRect (View.write (Elt F) scM3.view s3 (kernelRun.sl.dma0_3 c h3) Finset.univ)

/-! ## The stored pieces -/

/-- The scores of pair `p` of sequence `b`. -/
def scPre (b p : Fin 3) : FVec F S16x1088 .f32 :=
  scG (qPre c h1 s1 b (2 * p.val) (g0_lt p)) (qPre c h1 s1 b (2 * p.val + 1) (g1_lt p))
    (kPre c h0 h2 h5 s0 s2 s5 b (2 * p.val) (g0_lt p)) (kPre c h0 h2 h5 s0 s2 s5 b (2 * p.val + 1) (g1_lt p))
/-- The mask of a sequence, as the body computes it. -/
def visPre (b : Fin 3) : IVec S16x1088 1 := visG (F := F) (lnPre c h0 s0 b)
/-- The inverse sums of a pair of groups, as the body computes them. -/
def ilPre (b p : Fin 3) : FVec F S16x1 .f32 := ilG (scPre c h0 h1 h2 h5 s0 s1 s2 s5 b p) (visPre c h0 s0 b)
/-- The new key's weights of a pair of groups, as the body computes them. -/
def pnPre (b p : Fin 3) : FVec F S16x1 .f32 := pnG (scPre c h0 h1 h2 h5 s0 s1 s2 s5 b p) (visPre c h0 s0 b)
/-- The codes of a pair of groups, as the body computes them. -/
def cdPre (b p : Fin 3) : FVec F S32x1088 .fp8e4m3 := cdG (scPre c h0 h1 h2 h5 s0 s1 s2 s5 b p) (visPre c h0 s0 b)

/-- The cache's part of the output, one head group. -/
def ocPre0 (b p : Fin 3) : FVec F S1x8x128 .f32 :=
  ocG0 (ilPre c h0 h1 h2 h5 s0 s1 s2 s5 b p) (cdPre c h0 h1 h2 h5 s0 s1 s2 s5 b p) (vPre c h0 h6 s0 s6 b (2 * p.val) (g0_lt p))
    (vPre c h0 h6 s0 s6 b (2 * p.val + 1) (g1_lt p)) (vsPre c h4 s4 b (2 * p.val) (g0_lt p))
/-- The cache's part of the output, the pair's second group. -/
def ocPre1 (b p : Fin 3) : FVec F S1x8x128 .f32 :=
  ocG1 (ilPre c h0 h1 h2 h5 s0 s1 s2 s5 b p) (cdPre c h0 h1 h2 h5 s0 s1 s2 s5 b p) (vPre c h0 h6 s0 s6 b (2 * p.val) (g0_lt p))
    (vPre c h0 h6 s0 s6 b (2 * p.val + 1) (g1_lt p)) (vsPre c h4 s4 b (2 * p.val + 1) (g1_lt p))
/-- The whole output, one head group. -/
def oPre0 (b p : Fin 3) : FVec F S8x128 .f32 :=
  oG0 (ilPre c h0 h1 h2 h5 s0 s1 s2 s5 b p) (pnPre c h0 h1 h2 h5 s0 s1 s2 s5 b p) (cdPre c h0 h1 h2 h5 s0 s1 s2 s5 b p)
    (vPre c h0 h6 s0 s6 b (2 * p.val) (g0_lt p)) (vPre c h0 h6 s0 s6 b (2 * p.val + 1) (g1_lt p))
    (vsPre c h4 s4 b (2 * p.val) (g0_lt p)) (vnPre c h3 s3 b (2 * p.val) (g0_lt p))
/-- The whole output, the pair's second group. -/
def oPre1 (b p : Fin 3) : FVec F S8x128 .f32 :=
  oG1 (ilPre c h0 h1 h2 h5 s0 s1 s2 s5 b p) (pnPre c h0 h1 h2 h5 s0 s1 s2 s5 b p) (cdPre c h0 h1 h2 h5 s0 s1 s2 s5 b p)
    (vPre c h0 h6 s0 s6 b (2 * p.val) (g0_lt p)) (vPre c h0 h6 s0 s6 b (2 * p.val + 1) (g1_lt p))
    (vsPre c h4 s4 b (2 * p.val + 1) (g1_lt p)) (vnPre c h3 s3 b (2 * p.val + 1) (g1_lt p))

/-- A head's columns are inside the queries. -/
theorem inbX (i : Fin 48) : ∀ a : Fin 2, (![0, 128 * i.val] : Fin 2 → ℕ) a + S3x128.size a ≤ S3x6144.size a := by
  intro a
  match a with
  | ⟨0, _⟩ => show 0 + 3 ≤ 3; omega
  | ⟨1, _⟩ => show 128 * i.val + 128 ≤ 6144; omega
/-- A head's rows are inside the per-head rows. -/
theorem inbR (i : Fin 48) : ∀ a : Fin 2, (![8 * i.val, 0] : Fin 2 → ℕ) a + S3x128.size a ≤ S384x128.size a := by
  intro a
  match a with
  | ⟨0, _⟩ => show 8 * i.val + 3 ≤ 384; omega
  | ⟨1, _⟩ => show 0 + 128 ≤ 128; omega
/-- A group's rows are inside the second result. -/
theorem inbOc (b : Fin 3) (g : ℕ) (hg : g < 6) : ∀ a : Fin 3, (![b.val, 8 * g, 0] : Fin 3 → ℕ) a + S1x8x128.size a ≤ S3x48x128.size a := by
  intro a
  match a with
  | ⟨0, _⟩ => show b.val + 1 ≤ 3; omega
  | ⟨1, _⟩ => show 8 * g + 8 ≤ 48; omega
  | ⟨2, _⟩ => show 0 + 128 ≤ 128; omega
/-- The new key's rows are inside the staged keys. -/
theorem inbKn (b : Fin 3) (g : Fin 6) : ∀ a : Fin 4, (![b.val, g.val, 1072, 0] : Fin 4 → ℕ) a + S1x1x16x128.size a ≤ S3x6x1088x128.size a := by
  intro a
  match a with
  | ⟨0, _⟩ => show b.val + 1 ≤ 3; omega
  | ⟨1, _⟩ => show g.val + 1 ≤ 6; omega
  | ⟨2, _⟩ => show 1072 + 16 ≤ 1088; omega
  | ⟨3, _⟩ => show 0 + 128 ≤ 128; omega

/-- One head's three query rows. -/
def p7 (i : Fin 48) : View.Piece (Elt F) S384x128 .f32 :=
  ⟨Rect.unit (s := S384x128) ![8 * i.val, 0] S3x128.size (inbR i), k0_pay29 (View.readAt (Elt F) scM1.view
    (Rect.unit (s := S3x6144) ![0, 128 * i.val] S3x128.size (inbX i)).toLoadRect (View.write (Elt F) scM1.view s1 (kernelRun.sl.dma0_1 c h1) Finset.univ))⟩
/-- One head group's new key, broadcast over sixteen rows. -/
def p5 (b : Fin 3) (g : Fin 6) : View.Piece (Elt F) S3x6x1088x128 .bf16 :=
  ⟨Rect.unit (s := S3x6x1088x128) ![b.val, g.val, 1072, 0] S1x1x16x128.size (inbKn b g), k0_pay1 (View.readAt (Elt F) scM2.view
    (Rect.unit (s := S3x6x128) ![b.val, g.val, 0] S1x1x128.size (inbRow b g.val g.isLt)).toLoadRect (View.write (Elt F) scM2.view s2 (kernelRun.sl.dma0_2 c h2) Finset.univ))⟩
/-- One head group's part of the cache's output. -/
def p10 (b : Fin 3) (g : ℕ) (hg : g < 6) (w : FVec F S1x8x128 .f32) : View.Piece (Elt F) S3x48x128 .f32 :=
  ⟨Rect.unit (s := S3x48x128) ![b.val, 8 * g, 0] S1x8x128.size (inbOc b g hg), w⟩
/-- One head group's part of the whole output, stored at every eighth row. -/
def p8 (b : Fin 3) (g : ℕ) (hg : g < 6) (w : FVec F S8x128 .f32) : View.Piece (Elt F) S384x128 .f32 :=
  ⟨{ off := ![64 * g + b.val, 0], size := S8x128.size, stride := ![8, 1], inb := fun a => .inr (inbQ b g hg a), stride_pos := spos_8_1 }, w⟩
/-- One head's three output rows, rounded. -/
def p9 (L8 : List (View.Piece (Elt F) S384x128 .f32)) (i : Fin 48) : View.Piece (Elt F) S3x6144 .bf16 :=
  ⟨Rect.unit (s := S3x6144) ![0, 128 * i.val] S3x128.size (inbX i), k0_pay246 (View.readAt (Elt F) scM8.view
    (Rect.unit (s := S384x128) ![8 * i.val, 0] S3x128.size (inbR i)).toLoadRect (scM8.view.writes (Elt F) (if i.val % 8 = 0 then scM8.view.junk else s8) L8))⟩

/-- The pieces of the cache's output stored for sequence `b`, last first. -/
def L10 (b : Fin 3) : List (View.Piece (Elt F) S3x48x128 .f32) :=
  ([2, 1, 0] : List (Fin 3)).flatMap fun p =>
    [p10 b (2 * p.val + 1) (g1_lt p) (ocPre1 c h0 h1 h2 h4 h5 h6 s0 s1 s2 s4 s5 s6 b p), p10 b (2 * p.val) (g0_lt p) (ocPre0 c h0 h1 h2 h4 h5 h6 s0 s1 s2 s4 s5 s6 b p)]
/-- The pieces of the output stored for sequence `b`, last first. -/
def L8 (b : Fin 3) : List (View.Piece (Elt F) S384x128 .f32) :=
  ([2, 1, 0] : List (Fin 3)).flatMap fun p =>
    [p8 b (2 * p.val + 1) (g1_lt p) (oPre1 c h0 h1 h2 h3 h4 h5 h6 s0 s1 s2 s3 s4 s5 s6 b p), p8 b (2 * p.val) (g0_lt p) (oPre0 c h0 h1 h2 h3 h4 h5 h6 s0 s1 s2 s3 s4 s5 s6 b p)]

/-! ## The run's lists are these -/

/-- The stores into the per-head queries, as one list over the heads. -/
theorem S7_eq : kernelRun.sl.S7_48 c h1 s1 = (List.finRange 48).reverse.map (p7 c h1 s1) := by sl_kernel_rfl
/-- The stores of the new keys, as one list over sequences and groups. -/
theorem S5_eq : kernelRun.sl.S5_18 c h2 s2
    = ([2, 1, 0] : List (Fin 3)).flatMap fun b => (List.finRange 6).reverse.map (p5 c h2 s2 b) := by sl_kernel_rfl
/-- The first sequence's stores into the second result. -/
theorem S10_6_eq : kernelRun.sl.S10_6 c h0 h1 h2 h4 h5 h6 s0 s1 s2 s4 s5 s6 = L10 c h0 h1 h2 h4 h5 h6 s0 s1 s2 s4 s5 s6 0 := by sl_kernel_rfl
/-- The second sequence's stores into the second result, after the first's. -/
theorem S10_12_eq : kernelRun.sl.S10_12 c h0 h1 h2 h4 h5 h6 s0 s1 s2 s4 s5 s6
    = L10 c h0 h1 h2 h4 h5 h6 s0 s1 s2 s4 s5 s6 1 ++ kernelRun.sl.S10_6 c h0 h1 h2 h4 h5 h6 s0 s1 s2 s4 s5 s6 := by sl_kernel_rfl
/-- The third sequence's stores into the second result, after the others'. -/
theorem S10_18_eq : kernelRun.sl.S10_18 c h0 h1 h2 h4 h5 h6 s0 s1 s2 s4 s5 s6
    = L10 c h0 h1 h2 h4 h5 h6 s0 s1 s2 s4 s5 s6 2 ++ kernelRun.sl.S10_12 c h0 h1 h2 h4 h5 h6 s0 s1 s2 s4 s5 s6 := by sl_kernel_rfl
/-- The stores into the per-head output, by sequence. -/
theorem S8_18_eq : kernelRun.sl.S8_18 c h0 h1 h2 h3 h4 h5 h6 s0 s1 s2 s3 s4 s5 s6
    = L8 c h0 h1 h2 h3 h4 h5 h6 s0 s1 s2 s3 s4 s5 s6 2 ++ (L8 c h0 h1 h2 h3 h4 h5 h6 s0 s1 s2 s3 s4 s5 s6 1
      ++ L8 c h0 h1 h2 h3 h4 h5 h6 s0 s1 s2 s3 s4 s5 s6 0) := by sl_kernel_rfl
/-- The stores into the first result, as one list over the heads. -/
theorem S9_eq : kernelRun.sl.S9_48 c h0 h1 h2 h3 h4 h5 h6 s0 s1 s2 s3 s4 s5 s6 s8
    = (List.finRange 48).reverse.map (p9 c s8 (kernelRun.sl.S8_18 c h0 h1 h2 h3 h4 h5 h6 s0 s1 s2 s3 s4 s5 s6)) := by sl_kernel_rfl

end Run

end Cert.Kernel.Hand
-- ==== Proof.ReadsK.lean ====
/-
  What the body reads of its staging buffers, and what it leaves in its two results, as functions of its operands.
-/
module

public import proofs.«01_k».proof.Proof.PiecesK

@[expose] public section

set_option maxRecDepth 16384

noncomputable section

namespace Cert.Kernel.Hand

open Cert.Hand Cert.Kernel Cert.Kernel.Gen
open Idealize.ShloMosaic Idealize.ShloMosaic.TcCoe Idealize.ShloMosaic.Tactic
open Idealize.SL.Sem

variable {F : FTy → Type} [FloatOps F]

/-! ## The operands' closed forms -/

section Closed
variable (L : S3.Idx → BitVec 32) (X : S3x6144.Idx → F .bf16) (KN VN : S3x6x128.Idx → F .bf16) (VS : S3x6x128.Idx → F .f32)
  (K : S3x6x131072x128.Idx → F .bf16) (W : S3x6x131072x128.Idx → F .fp8e4m3)

/-- The length of sequence `b`. -/
def lnC (b : Fin 3) : BitVec 32 := L (ix1 b)
/-- A row of the window is a row of the cache. -/
theorem win_lt (ln : BitVec 32) (l : Fin 1088) (h : l.val < 1056) : (base ln).toNat + l.val < 131072 := by have := base_le ln; omega

/-- The queries, staged: row `8 i + b` is head `i` of sequence `b`. -/
def g7 (y : S384x128.Idx) : F .f32 :=
  k0_pay29 (fun z : S3x128.Idx => X (ix2 (z 0) (⟨128 * ((y 0).val / 8) + (z 1).val, by
    have h0 : (y 0).val < 384 := (y 0).isLt
    have h1 : (z 1).val < 128 := (z 1).isLt
    omega⟩ : Fin 6144))) (ix2 (⟨min ((y 0).val % 8) 2, by omega⟩ : Fin 3) (y 1))
/-- The keys, staged: the window's rows, the sink's rows, the new key's rows. -/
def kAt (b : Fin 3) (g : Fin 6) (l : Fin 1088) (d : Fin 128) : F .bf16 :=
  if h : l.val < 1056 then K (ix4 b g (⟨(base (lnC L b)).toNat + l.val, win_lt _ l h⟩ : Fin 131072) d)
  else if l.val < 1072 then K (ix4 b g (⟨l.val - 1056, by omega⟩ : Fin 131072) d)
  else k0_pay1 (fun z : S1x1x128.Idx => KN (ix3 b g (z 2))) (ix4 (0 : Fin 1) (0 : Fin 1) (⟨l.val - 1072, by omega⟩ : Fin 16) d)
/-- The values, staged: the window's rows, the sink's rows. -/
def vAt (b : Fin 3) (g : Fin 6) (l : Fin 1088) (d : Fin 128) : F .fp8e4m3 :=
  if h : l.val < 1056 then W (ix4 b g (⟨(base (lnC L b)).toNat + l.val, win_lt _ l h⟩ : Fin 131072) d)
  else W (ix4 b g (⟨l.val - 1056, by omega⟩ : Fin 131072) d)
/-- The staged keys, entry by entry. -/
def gK (y : S3x6x1088x128.Idx) : F .bf16 := kAt L KN K (y 0) (y 1) (y 2) (y 3)
/-- The staged value codes, entry by entry. -/
def gV (y : S3x6x1088x128.Idx) : F .fp8e4m3 := vAt L W (y 0) (y 1) (y 2) (y 3)

/-- A head's row is inside the per-head rows. -/
theorem row_lt (b : Fin 3) (g : ℕ) (hg : g < 6) (j : Fin 8) : 64 * g + b.val + 8 * j.val < 384 := by omega

/-- The queries of one head group. -/
def qC (b : Fin 3) (g : ℕ) (hg : g < 6) : Vec F S8x128 .f32 := fun y => g7 X (ix2 (⟨64 * g + b.val + 8 * (y 0).val, row_lt b g hg (y 0)⟩ : Fin 384) (y 1))
/-- The staged keys of one head group. -/
def kC (b : Fin 3) (g : ℕ) (hg : g < 6) : Vec F S1x1x1088x128 .bf16 := fun y => kAt L KN K b (⟨g, hg⟩ : Fin 6) (y 2) (y 3)
/-- The staged values of one head group. -/
def vC (b : Fin 3) (g : ℕ) (hg : g < 6) : Vec F S1x1x1088x128 .fp8e4m3 := fun y => vAt L W b (⟨g, hg⟩ : Fin 6) (y 2) (y 3)
/-- The value scales of one head group. -/
def vsC (b : Fin 3) (g : ℕ) (hg : g < 6) : Vec F S1x1x128 .f32 := fun y => VS (ix3 b (⟨g, hg⟩ : Fin 6) (y 2))
/-- The new value of one head group. -/
def vnC (b : Fin 3) (g : ℕ) (hg : g < 6) : Vec F S1x1x128 .bf16 := fun y => VN (ix3 b (⟨g, hg⟩ : Fin 6) (y 2))

/-- The scores of a pair of groups, from the arrays. -/
def scC (b p : Fin 3) : FVec F S16x1088 .f32 :=
  scG (qC X b (2 * p.val) (g0_lt p)) (qC X b (2 * p.val + 1) (g1_lt p)) (kC L KN K b (2 * p.val) (g0_lt p)) (kC L KN K b (2 * p.val + 1) (g1_lt p))
/-- The inverse sums of a pair of groups, from the arrays. -/
def ilC (b p : Fin 3) : FVec F S16x1 .f32 := ilG (scC L X KN K b p) (visG (F := F) (lnC L b))
/-- The new key's weights of a pair of groups, from the arrays. -/
def pnC (b p : Fin 3) : FVec F S16x1 .f32 := pnG (scC L X KN K b p) (visG (F := F) (lnC L b))
/-- The codes of a pair of groups, from the arrays. -/
def cdC (b p : Fin 3) : FVec F S32x1088 .fp8e4m3 := cdG (scC L X KN K b p) (visG (F := F) (lnC L b))
/-- The cache's part of the output for the pair's first group, from the arrays. -/
def ocC0 (b p : Fin 3) : FVec F S1x8x128 .f32 :=
  ocG0 (ilC L X KN K b p) (cdC L X KN K b p) (vC L W b (2 * p.val) (g0_lt p)) (vC L W b (2 * p.val + 1) (g1_lt p)) (vsC VS b (2 * p.val) (g0_lt p))
/-- The cache's part of the output for the pair's second group, from the arrays. -/
def ocC1 (b p : Fin 3) : FVec F S1x8x128 .f32 :=
  ocG1 (ilC L X KN K b p) (cdC L X KN K b p) (vC L W b (2 * p.val) (g0_lt p)) (vC L W b (2 * p.val + 1) (g1_lt p)) (vsC VS b (2 * p.val + 1) (g1_lt p))
/-- The whole output for the pair's first group, from the arrays. -/
def oC0 (b p : Fin 3) : FVec F S8x128 .f32 :=
  oG0 (ilC L X KN K b p) (pnC L X KN K b p) (cdC L X KN K b p) (vC L W b (2 * p.val) (g0_lt p)) (vC L W b (2 * p.val + 1) (g1_lt p))
    (vsC VS b (2 * p.val) (g0_lt p)) (vnC VN b (2 * p.val) (g0_lt p))
/-- The whole output for the pair's second group, from the arrays. -/
def oC1 (b p : Fin 3) : FVec F S8x128 .f32 :=
  oG1 (ilC L X KN K b p) (pnC L X KN K b p) (cdC L X KN K b p) (vC L W b (2 * p.val) (g0_lt p)) (vC L W b (2 * p.val + 1) (g1_lt p))
    (vsC VS b (2 * p.val + 1) (g1_lt p)) (vnC VN b (2 * p.val + 1) (g1_lt p))

/-- The cache's part of the output: sequence `b`, head `i`. -/
def outOc (y : S3x48x128.Idx) : F .f32 :=
  if (y 1).val / 8 % 2 = 0 then
    ocC0 L X KN VS K W (y 0) (⟨(y 1).val / 16, by have h : (y 1).val < 48 := (y 1).isLt; omega⟩ : Fin 3) (ix3 (0 : Fin 1) (⟨(y 1).val % 8, by omega⟩ : Fin 8) (y 2))
  else ocC1 L X KN VS K W (y 0) (⟨(y 1).val / 16, by have h : (y 1).val < 48 := (y 1).isLt; omega⟩ : Fin 3) (ix3 (0 : Fin 1) (⟨(y 1).val % 8, by omega⟩ : Fin 8) (y 2))
/-- The whole output, staged: row `8 i + b` is head `i` of sequence `b`. -/
def g8 (y : S384x128.Idx) : F .f32 :=
  if (y 0).val / 64 % 2 = 0 then
    oC0 L X KN VN VS K W (⟨min ((y 0).val % 8) 2, by omega⟩ : Fin 3) (⟨(y 0).val / 128, by have h : (y 0).val < 384 := (y 0).isLt; omega⟩ : Fin 3) (ix2 (⟨(y 0).val / 8 % 8, by omega⟩ : Fin 8) (y 1))
  else oC1 L X KN VN VS K W (⟨min ((y 0).val % 8) 2, by omega⟩ : Fin 3) (⟨(y 0).val / 128, by have h : (y 0).val < 384 := (y 0).isLt; omega⟩ : Fin 3) (ix2 (⟨(y 0).val / 8 % 8, by omega⟩ : Fin 8) (y 1))
/-- The whole output: sequence `b`, lane `128 i + d` for head `i`. -/
def outO (y : S3x6144.Idx) : F .bf16 :=
  k0_pay246 (fun z : S3x128.Idx => g8 L X KN VN VS K W (ix2 (⟨8 * ((y 1).val / 128) + (z 0).val, by
    have h0 : (y 1).val < 6144 := (y 1).isLt
    have h1 : (z 0).val < 3 := (z 0).isLt
    omega⟩ : Fin 384) (z 1))) (ix2 (y 0) (⟨(y 1).val % 128, by omega⟩ : Fin 128))
end Closed

/-! ## The reads are these -/

section Run
variable (c : Dev nD) (h0 : Bf (F := F) c hbM0) (h1 : Bf (F := F) c hbM1) (h2 : Bf (F := F) c hbM2) (h3 : Bf (F := F) c hbM3)
  (h4 : Bf (F := F) c hbM4) (h5 : Bf (F := F) c hbM5) (h6 : Bf (F := F) c hbM6)
  (s0 : Bf (F := F) c scM0) (s1 : Bf (F := F) c scM1) (s2 : Bf (F := F) c scM2) (s3 : Bf (F := F) c scM3) (s4 : Bf (F := F) c scM4)
  (s5 : Bf (F := F) c scM5) (s6 : Bf (F := F) c scM6) (s7 : Bf (F := F) c scM7) (s8 : Bf (F := F) c scM8) (s9 : Bf (F := F) c scM9)
  (s10 : Bf (F := F) c scM10)

/-- The length that the body reads is the array's. -/
theorem lnPre_eq (b : Fin 3) : lnPre c h0 s0 b = lnC h0 b := by
  unfold lnPre
  rw [show View.write (Elt F) scM0.view s0 (kernelRun.sl.dma0 c h0) Finset.univ = h0 from View.write_whole_univ _ _ _]
  refine congrArg h0 (funext fun a => Fin.ext ?_)
  match a with
  | ⟨0, _⟩ => show b.val + 1 * 0 = b.val; omega

/-- The value scales that the body reads are the array's. -/
theorem vsPre_eq (b : Fin 3) (g : ℕ) (hg : g < 6) : vsPre c h4 s4 b g hg = vsC h4 b g hg := by
  unfold vsPre
  rw [show View.write (Elt F) scM4.view s4 (kernelRun.sl.dma0_4 c h4) Finset.univ = h4 from View.write_whole_univ _ _ _]
  refine funext fun y => congrArg h4 (funext fun a => Fin.ext ?_)
  match a with
  | ⟨0, _⟩ => have h : (y 0).val < 1 := (y 0).isLt; show b.val + 1 * (y 0).val = b.val; omega
  | ⟨1, _⟩ => have h : (y 1).val < 1 := (y 1).isLt; show g + 1 * (y 1).val = g; omega
  | ⟨2, _⟩ => show 0 + 1 * (y 2).val = (y 2).val; omega
/-- The new values that the body reads are the array's. -/
theorem vnPre_eq (b : Fin 3) (g : ℕ) (hg : g < 6) : vnPre c h3 s3 b g hg = vnC h3 b g hg := by
  unfold vnPre
  rw [show View.write (Elt F) scM3.view s3 (kernelRun.sl.dma0_3 c h3) Finset.univ = h3 from View.write_whole_univ _ _ _]
  refine funext fun y => congrArg h3 (funext fun a => Fin.ext ?_)
  match a with
  | ⟨0, _⟩ => have h : (y 0).val < 1 := (y 0).isLt; show b.val + 1 * (y 0).val = b.val; omega
  | ⟨1, _⟩ => have h : (y 1).val < 1 := (y 1).isLt; show g + 1 * (y 1).val = g; omega
  | ⟨2, _⟩ => show 0 + 1 * (y 2).val = (y 2).val; omega

/-- A stored query piece is the staged queries at the rows it lands on. -/
theorem p7_agree (i : Fin 48) (x : S3x128.Idx) : (p7 c h1 s1 i).2 x = g7 h1 ((p7 c h1 s1 i).1.emb x) := by
  have hx0 : (x 0).val < 3 := (x 0).isLt
  have hx1 : (x 1).val < 128 := (x 1).isLt
  have e0 : (((p7 c h1 s1 i).1.emb x) 0).val = 8 * i.val + 1 * (x 0).val := rfl
  have e1 : (((p7 c h1 s1 i).1.emb x) 1).val = 0 + 1 * (x 1).val := rfl
  unfold g7
  unfold p7
  dsimp only
  rw [show View.write (Elt F) scM1.view s1 (kernelRun.sl.dma0_1 c h1) Finset.univ = h1 from View.write_whole_univ _ _ _]
  refine congr (congrArg k0_pay29 (funext fun z => congrArg h1 (funext fun a => Fin.ext ?_))) (funext fun a => Fin.ext ?_)
  · match a with
    | ⟨0, _⟩ => show 0 + 1 * (z 0).val = (z 0).val; omega
    | ⟨1, _⟩ => show 128 * i.val + 1 * (z 1).val = 128 * ((((p7 c h1 s1 i).1.emb x) 0).val / 8) + (z 1).val; rw [e0]; omega
  · match a with
    | ⟨0, _⟩ => show (x 0).val = min ((((p7 c h1 s1 i).1.emb x) 0).val % 8) 2; rw [e0]; omega
    | ⟨1, _⟩ => show (x 1).val = (((p7 c h1 s1 i).1.emb x) 1).val; rw [e1]; omega

/-- The queries that the body reads are the array's. -/
theorem qPre_eq (b : Fin 3) (g : ℕ) (hg : g < 6) : qPre c h1 s1 b g hg = qC h1 b g hg := by
  funext y
  have hy : (y 0).val < 8 := (y 0).isLt
  have hy1 : (y 1).val < 128 := (y 1).isLt
  unfold qPre qC
  rw [S7_eq]
  refine (readCov_agree (Val := Elt F) scM7.view _ { off := ![64 * g + b.val, 0], size := S8x128.size, stride := ![8, 1], inb := fun a => .inr (inbQ b g hg a) }
    (g7 h1) ?_ y ?_).trans (congrArg (g7 h1) (funext fun a => Fin.ext ?_))
  · intro p hp x
    obtain ⟨i, -, rfl⟩ := List.mem_map.mp hp
    exact p7_agree c h1 s1 i x
  · refine ⟨p7 c h1 s1 (⟨8 * g + (y 0).val, by omega⟩ : Fin 48), List.mem_map.mpr ⟨_, List.mem_reverse.mpr (List.mem_finRange _), rfl⟩, ?_⟩
    refine (LoadRect.mem_set _).mpr fun a => ?_
    match a with
    | ⟨0, _⟩ => refine ⟨b.val, b.isLt, ?_⟩; show 64 * g + b.val + 8 * (y 0).val = 8 * (8 * g + (y 0).val) + 1 * b.val; omega
    | ⟨1, _⟩ => refine ⟨(y 1).val, hy1, ?_⟩; show 0 + 1 * (y 1).val = 0 + 1 * (y 1).val; rfl
  · match a with
    | ⟨0, _⟩ => show 64 * g + b.val + 8 * (y 0).val = 64 * g + b.val + 8 * (y 0).val; rfl
    | ⟨1, _⟩ => show 0 + 1 * (y 1).val = (y 1).val; omega

/-- A stored new-key piece is the staged keys at the rows it lands on. -/
theorem p5_agree (b : Fin 3) (g : Fin 6) (x : S1x1x16x128.Idx) : (p5 c h2 s2 b g).2 x = gK h0 h2 h5 ((p5 c h2 s2 b g).1.emb x) := by
  have hx0 : (x 0).val < 1 := (x 0).isLt
  have hx1 : (x 1).val < 1 := (x 1).isLt
  have hx2 : (x 2).val < 16 := (x 2).isLt
  have hx3 : (x 3).val < 128 := (x 3).isLt
  have e0 : (((p5 c h2 s2 b g).1.emb x) 0).val = b.val + 1 * (x 0).val := rfl
  have e1 : (((p5 c h2 s2 b g).1.emb x) 1).val = g.val + 1 * (x 1).val := rfl
  have e2 : (((p5 c h2 s2 b g).1.emb x) 2).val = 1072 + 1 * (x 2).val := rfl
  have e3 : (((p5 c h2 s2 b g).1.emb x) 3).val = 0 + 1 * (x 3).val := rfl
  unfold gK kAt
  rw [dif_neg (by rw [e2]; omega), if_neg (by rw [e2]; omega)]
  unfold p5
  dsimp only
  rw [show View.write (Elt F) scM2.view s2 (kernelRun.sl.dma0_2 c h2) Finset.univ = h2 from View.write_whole_univ _ _ _]
  refine congr (congrArg k0_pay1 (funext fun z => congrArg h2 (funext fun a => Fin.ext ?_))) (funext fun a => Fin.ext ?_)
  · have z0 : (z 0).val < 1 := (z 0).isLt
    have z1 : (z 1).val < 1 := (z 1).isLt
    match a with
    | ⟨0, _⟩ => show b.val + 1 * (z 0).val = (((p5 c h2 s2 b g).1.emb x) 0).val; rw [e0]; omega
    | ⟨1, _⟩ => show g.val + 1 * (z 1).val = (((p5 c h2 s2 b g).1.emb x) 1).val; rw [e1]; omega
    | ⟨2, _⟩ => show 0 + 1 * (z 2).val = (z 2).val; omega
  · match a with
    | ⟨0, _⟩ => show (x 0).val = 0; omega
    | ⟨1, _⟩ => show (x 1).val = 0; omega
    | ⟨2, _⟩ => show (x 2).val = (((p5 c h2 s2 b g).1.emb x) 2).val - 1072; rw [e2]; omega
    | ⟨3, _⟩ => show (x 3).val = (((p5 c h2 s2 b g).1.emb x) 3).val; rw [e3]; omega

/-- The first window's offset. -/
theorem off1_eq (v : BitVec 32) : k0_off1 v = ![0, 0, (base v).toNat, 0] := rfl
/-- The second window's offset. -/
theorem off2_eq (v : BitVec 32) : k0_off2 v = ![1, 0, (base v).toNat, 0] := rfl
/-- The third window's offset. -/
theorem off3_eq (v : BitVec 32) : k0_off3 v = ![2, 0, (base v).toNat, 0] := rfl
/-- The first length the body reads. -/
theorem v44_eq : kernelRun.sl.v44 c h0 s0 = lnC h0 0 := lnPre_eq c h0 s0 0
/-- The second length the body reads. -/
theorem v50_eq : kernelRun.sl.v50 c h0 s0 = lnC h0 1 := lnPre_eq c h0 s0 1
/-- The third length the body reads. -/
theorem v56_eq : kernelRun.sl.v56 c h0 s0 = lnC h0 2 := lnPre_eq c h0 s0 2
/-- The window's transfer of sequence `b` lands the staged keys. -/
theorem kw_agree (b : Fin 3) (off : Fin 4 → ℕ) (inb) (inb') (hq : S1x6x1056x128.Squeezes S6x1056x128)
    (hoff : off = ![b.val, 0, (base (lnC h0 b)).toNat, 0]) (x : S6x1056x128.Idx) :
    ((hbM5.slice (Rect.unit off S1x6x1056x128.size inb) (fun _ => rfl)).squeeze S6x1056x128 hq).view.read (Elt F) h5 x
      = gK h0 h2 h5 (((scM5.slice (Rect.unit (s := S3x6x1088x128) ![b.val, 0, 0, 0] S1x6x1056x128.size inb') (fun _ => rfl)).squeeze S6x1056x128 hq).view.emb x) := by
  subst hoff
  obtain ⟨g, l, d, rfl⟩ : ∃ (g : Fin 6) (l : Fin 1056) (d : Fin 128), x = ix3 g l d := ⟨x 0, x 1, x 2, eq_ix3 x⟩
  have hb := base_le (lnC h0 b)
  rw [show ((scM5.slice (Rect.unit (s := S3x6x1088x128) ![b.val, 0, 0, 0] S1x6x1056x128.size inb') (fun _ => rfl)).squeeze S6x1056x128 hq).view.emb (ix3 g l d)
      = ix4 b g (⟨l.val, by omega⟩ : Fin 1088) d from
    emb_sq4 scM5.view ![b.val, 0, 0, 0] inb' _ g l d (ix4 b g (⟨l.val, by omega⟩ : Fin 1088) d) rfl (Nat.zero_add _).symm (Nat.zero_add _).symm (Nat.zero_add _).symm]
  refine (congrArg h5 (emb_sq4 hbM5.view _ inb _ g l d (ix4 b g (⟨(base (lnC h0 b)).toNat + l.val, by omega⟩ : Fin 131072) d) rfl (Nat.zero_add _).symm rfl (Nat.zero_add _).symm)).trans ?_
  show _ = kAt h0 h2 h5 b g (⟨l.val, by omega⟩ : Fin 1088) d
  unfold kAt
  refine Eq.symm ?_
  rw [dif_pos (show (⟨l.val, by omega⟩ : Fin 1088).val < 1056 from l.isLt)]
  first | done | rfl

/-- The sink's transfer of sequence `b` lands the staged keys. -/
theorem ks_agree (b : Fin 3) (inb) (inb') (hq : S1x6x16x128.Squeezes S6x16x128) (x : S6x16x128.Idx) :
    ((hbM5.slice (Rect.unit (s := S3x6x131072x128) ![b.val, 0, 0, 0] S1x6x16x128.size inb) (fun _ => rfl)).squeeze S6x16x128 hq).view.read (Elt F) h5 x
      = gK h0 h2 h5 (((scM5.slice (Rect.unit (s := S3x6x1088x128) ![b.val, 0, 1056, 0] S1x6x16x128.size inb') (fun _ => rfl)).squeeze S6x16x128 hq).view.emb x) := by
  obtain ⟨g, l, d, rfl⟩ : ∃ (g : Fin 6) (l : Fin 16) (d : Fin 128), x = ix3 g l d := ⟨x 0, x 1, x 2, eq_ix3 x⟩
  rw [show ((scM5.slice (Rect.unit (s := S3x6x1088x128) ![b.val, 0, 1056, 0] S1x6x16x128.size inb') (fun _ => rfl)).squeeze S6x16x128 hq).view.emb (ix3 g l d)
      = ix4 b g (⟨1056 + l.val, by omega⟩ : Fin 1088) d from
    emb_sq4 scM5.view ![b.val, 0, 1056, 0] inb' _ g l d (ix4 b g (⟨1056 + l.val, by omega⟩ : Fin 1088) d) rfl (Nat.zero_add _).symm rfl (Nat.zero_add _).symm]
  refine (congrArg h5 (emb_sq4 hbM5.view _ inb _ g l d (ix4 b g (⟨l.val, by omega⟩ : Fin 131072) d) rfl (Nat.zero_add _).symm (Nat.zero_add _).symm (Nat.zero_add _).symm)).trans ?_
  show _ = kAt h0 h2 h5 b g (⟨1056 + l.val, by omega⟩ : Fin 1088) d
  unfold kAt
  rw [dif_neg (show ¬ (1056 + l.val < 1056) by omega), if_pos (show 1056 + l.val < 1072 by omega)]
  refine congrArg h5 (funext fun a => Fin.ext ?_)
  match a with
  | ⟨0, _⟩ => rfl
  | ⟨1, _⟩ => rfl
  | ⟨2, _⟩ => show l.val = 1056 + l.val - 1056; omega
  | ⟨3, _⟩ => rfl

/-- The window's transfer of sequence `b` lands the staged values. -/
theorem vw_agree (b : Fin 3) (off : Fin 4 → ℕ) (inb) (inb') (hq : S1x6x1056x128.Squeezes S6x1056x128)
    (hoff : off = ![b.val, 0, (base (lnC h0 b)).toNat, 0]) (x : S6x1056x128.Idx) :
    ((hbM6.slice (Rect.unit off S1x6x1056x128.size inb) (fun _ => rfl)).squeeze S6x1056x128 hq).view.read (Elt F) h6 x
      = gV h0 h6 (((scM6.slice (Rect.unit (s := S3x6x1088x128) ![b.val, 0, 0, 0] S1x6x1056x128.size inb') (fun _ => rfl)).squeeze S6x1056x128 hq).view.emb x) := by
  subst hoff
  obtain ⟨g, l, d, rfl⟩ : ∃ (g : Fin 6) (l : Fin 1056) (d : Fin 128), x = ix3 g l d := ⟨x 0, x 1, x 2, eq_ix3 x⟩
  have hb := base_le (lnC h0 b)
  rw [show ((scM6.slice (Rect.unit (s := S3x6x1088x128) ![b.val, 0, 0, 0] S1x6x1056x128.size inb') (fun _ => rfl)).squeeze S6x1056x128 hq).view.emb (ix3 g l d)
      = ix4 b g (⟨l.val, by omega⟩ : Fin 1088) d from
    emb_sq4 scM6.view ![b.val, 0, 0, 0] inb' _ g l d (ix4 b g (⟨l.val, by omega⟩ : Fin 1088) d) rfl (Nat.zero_add _).symm (Nat.zero_add _).symm (Nat.zero_add _).symm]
  refine (congrArg h6 (emb_sq4 hbM6.view _ inb _ g l d (ix4 b g (⟨(base (lnC h0 b)).toNat + l.val, by omega⟩ : Fin 131072) d) rfl (Nat.zero_add _).symm rfl (Nat.zero_add _).symm)).trans ?_
  show _ = vAt h0 h6 b g (⟨l.val, by omega⟩ : Fin 1088) d
  unfold vAt
  refine Eq.symm ?_
  rw [dif_pos (show (⟨l.val, by omega⟩ : Fin 1088).val < 1056 from l.isLt)]
  first | done | rfl

/-- The sink's transfer of sequence `b` lands the staged values. -/
theorem vs_agree (b : Fin 3) (inb) (inb') (hq : S1x6x32x128.Squeezes S6x32x128) (x : S6x32x128.Idx) :
    ((hbM6.slice (Rect.unit (s := S3x6x131072x128) ![b.val, 0, 0, 0] S1x6x32x128.size inb) (fun _ => rfl)).squeeze S6x32x128 hq).view.read (Elt F) h6 x
      = gV h0 h6 (((scM6.slice (Rect.unit (s := S3x6x1088x128) ![b.val, 0, 1056, 0] S1x6x32x128.size inb') (fun _ => rfl)).squeeze S6x32x128 hq).view.emb x) := by
  obtain ⟨g, l, d, rfl⟩ : ∃ (g : Fin 6) (l : Fin 32) (d : Fin 128), x = ix3 g l d := ⟨x 0, x 1, x 2, eq_ix3 x⟩
  rw [show ((scM6.slice (Rect.unit (s := S3x6x1088x128) ![b.val, 0, 1056, 0] S1x6x32x128.size inb') (fun _ => rfl)).squeeze S6x32x128 hq).view.emb (ix3 g l d)
      = ix4 b g (⟨1056 + l.val, by omega⟩ : Fin 1088) d from
    emb_sq4 scM6.view ![b.val, 0, 1056, 0] inb' _ g l d (ix4 b g (⟨1056 + l.val, by omega⟩ : Fin 1088) d) rfl (Nat.zero_add _).symm rfl (Nat.zero_add _).symm]
  refine (congrArg h6 (emb_sq4 hbM6.view _ inb _ g l d (ix4 b g (⟨l.val, by omega⟩ : Fin 131072) d) rfl (Nat.zero_add _).symm (Nat.zero_add _).symm (Nat.zero_add _).symm)).trans ?_
  show _ = vAt h0 h6 b g (⟨1056 + l.val, by omega⟩ : Fin 1088) d
  unfold vAt
  rw [dif_neg (show ¬ (1056 + l.val < 1056) by omega)]
  refine congrArg h6 (funext fun a => Fin.ext ?_)
  match a with
  | ⟨0, _⟩ => rfl
  | ⟨1, _⟩ => rfl
  | ⟨2, _⟩ => show l.val = 1056 + l.val - 1056; omega
  | ⟨3, _⟩ => rfl

/-- Reading the staged keys whole. -/
theorem read5 (f : Bf (F := F) c scM5) (z : S3x6x1088x128.Idx) : View.read (Elt F) scM5.view f z = f z := rfl
/-- The window's keys arrive: an entry is right after the copy, if it was right before or the copy covers it. -/
theorem kw_step (b : Fin 3) (off : Fin 4 → ℕ) (inb) (inb') (hq : S1x6x1056x128.Squeezes S6x1056x128) (hoff : off = ![b.val, 0, (base (lnC h0 b)).toNat, 0]) (f : Bf (F := F) c scM5)
    (w : S6x1056x128.Idx → F .bf16) (i : S3x6x1088x128.Idx)
    (hw : ∀ x, w x = ((hbM5.slice (Rect.unit off S1x6x1056x128.size inb) (fun _ => rfl)).squeeze S6x1056x128 hq).view.read (Elt F) h5 x)
    (hf : (∀ x, ((scM5.slice (Rect.unit (s := S3x6x1088x128) ![b.val, 0, 0, 0] S1x6x1056x128.size inb') (fun _ => rfl)).squeeze S6x1056x128 hq).view.emb x ≠ i) → f i = gK h0 h2 h5 i) :
    View.write (Elt F) ((scM5.slice (Rect.unit (s := S3x6x1088x128) ![b.val, 0, 0, 0] S1x6x1056x128.size inb') (fun _ => rfl)).squeeze S6x1056x128 hq).view f w Finset.univ i = gK h0 h2 h5 i :=
  write_agree ((scM5.slice (Rect.unit (s := S3x6x1088x128) ![b.val, 0, 0, 0] S1x6x1056x128.size inb') (fun _ => rfl)).squeeze S6x1056x128 hq).view f w (gK h0 h2 h5) i (fun x => (hw x).trans (kw_agree c h0 h2 h5 b off inb inb' hq hoff x)) hf
/-- The sinks' keys arrive: an entry is right after the copy, if it was right before or the copy covers it. -/
theorem ks_step (b : Fin 3) (inb) (inb') (hq : S1x6x16x128.Squeezes S6x16x128) (f : Bf (F := F) c scM5)
    (w : S6x16x128.Idx → F .bf16) (i : S3x6x1088x128.Idx)
    (hw : ∀ x, w x = ((hbM5.slice (Rect.unit (s := S3x6x131072x128) ![b.val, 0, 0, 0] S1x6x16x128.size inb) (fun _ => rfl)).squeeze S6x16x128 hq).view.read (Elt F) h5 x)
    (hf : (∀ x, ((scM5.slice (Rect.unit (s := S3x6x1088x128) ![b.val, 0, 1056, 0] S1x6x16x128.size inb') (fun _ => rfl)).squeeze S6x16x128 hq).view.emb x ≠ i) → f i = gK h0 h2 h5 i) :
    View.write (Elt F) ((scM5.slice (Rect.unit (s := S3x6x1088x128) ![b.val, 0, 1056, 0] S1x6x16x128.size inb') (fun _ => rfl)).squeeze S6x16x128 hq).view f w Finset.univ i = gK h0 h2 h5 i :=
  write_agree ((scM5.slice (Rect.unit (s := S3x6x1088x128) ![b.val, 0, 1056, 0] S1x6x16x128.size inb') (fun _ => rfl)).squeeze S6x16x128 hq).view f w (gK h0 h2 h5) i (fun x => (hw x).trans (ks_agree c h0 h2 h5 b inb inb' hq x)) hf
/-- The window's value codes arrive: an entry is right after the copy, if it was right before or the copy covers it. -/
theorem vw_step (b : Fin 3) (off : Fin 4 → ℕ) (inb) (inb') (hq : S1x6x1056x128.Squeezes S6x1056x128) (hoff : off = ![b.val, 0, (base (lnC h0 b)).toNat, 0]) (f : Bf (F := F) c scM6)
    (w : S6x1056x128.Idx → F .fp8e4m3) (i : S3x6x1088x128.Idx)
    (hw : ∀ x, w x = ((hbM6.slice (Rect.unit off S1x6x1056x128.size inb) (fun _ => rfl)).squeeze S6x1056x128 hq).view.read (Elt F) h6 x)
    (hf : (∀ x, ((scM6.slice (Rect.unit (s := S3x6x1088x128) ![b.val, 0, 0, 0] S1x6x1056x128.size inb') (fun _ => rfl)).squeeze S6x1056x128 hq).view.emb x ≠ i) → f i = gV h0 h6 i) :
    View.write (Elt F) ((scM6.slice (Rect.unit (s := S3x6x1088x128) ![b.val, 0, 0, 0] S1x6x1056x128.size inb') (fun _ => rfl)).squeeze S6x1056x128 hq).view f w Finset.univ i = gV h0 h6 i :=
  write_agree ((scM6.slice (Rect.unit (s := S3x6x1088x128) ![b.val, 0, 0, 0] S1x6x1056x128.size inb') (fun _ => rfl)).squeeze S6x1056x128 hq).view f w (gV h0 h6) i (fun x => (hw x).trans (vw_agree c h0 h6 b off inb inb' hq hoff x)) hf
/-- The sinks' value codes arrive: an entry is right after the copy, if it was right before or the copy covers it. -/
theorem vs_step (b : Fin 3) (inb) (inb') (hq : S1x6x32x128.Squeezes S6x32x128) (f : Bf (F := F) c scM6)
    (w : S6x32x128.Idx → F .fp8e4m3) (i : S3x6x1088x128.Idx)
    (hw : ∀ x, w x = ((hbM6.slice (Rect.unit (s := S3x6x131072x128) ![b.val, 0, 0, 0] S1x6x32x128.size inb) (fun _ => rfl)).squeeze S6x32x128 hq).view.read (Elt F) h6 x)
    (hf : (∀ x, ((scM6.slice (Rect.unit (s := S3x6x1088x128) ![b.val, 0, 1056, 0] S1x6x32x128.size inb') (fun _ => rfl)).squeeze S6x32x128 hq).view.emb x ≠ i) → f i = gV h0 h6 i) :
    View.write (Elt F) ((scM6.slice (Rect.unit (s := S3x6x1088x128) ![b.val, 0, 1056, 0] S1x6x32x128.size inb') (fun _ => rfl)).squeeze S6x32x128 hq).view f w Finset.univ i = gV h0 h6 i :=
  write_agree ((scM6.slice (Rect.unit (s := S3x6x1088x128) ![b.val, 0, 1056, 0] S1x6x32x128.size inb') (fun _ => rfl)).squeeze S6x32x128 hq).view f w (gV h0 h6) i (fun x => (hw x).trans (vs_agree c h0 h6 b inb inb' hq x)) hf
set_option maxHeartbeats 2000000 in
/-- Once the transfers have landed and the new keys are stored, the key buffer holds the staged keys. -/
theorem kBuf_eq (y : S3x6x1088x128.Idx) : kBuf c h0 h2 h5 s0 s2 s5 y = gK h0 h2 h5 y := by
  obtain ⟨b, g, l, d, rfl⟩ : ∃ (b : Fin 3) (g : Fin 6) (l : Fin 1088) (d : Fin 128), y = ix4 b g l d := ⟨y 0, y 1, y 2, y 3, eq_ix4 y⟩
  unfold kBuf
  refine (read5 c _ _).symm.trans ?_
  refine read_writes_agree (Val := Elt F) scM5.view _ (gK h0 h2 h5) (ix4 b g l d) _ ?_ fun hn => ?_
  · intro p hp x
    rw [S5_eq] at hp
    obtain ⟨b', -, hp⟩ := List.mem_flatMap.mp hp
    obtain ⟨g', -, rfl⟩ := List.mem_map.mp hp
    exact p5_agree c h0 h2 h5 s2 b' g' x
  · refine kw_step c h0 h2 h5 2 _ _ _ _ ((off3_eq _).trans (by rw [v56_eq]; rfl)) _ _ _ (fun _ => rfl) fun n2 => ?_
    refine kw_step c h0 h2 h5 1 _ _ _ _ ((off2_eq _).trans (by rw [v50_eq]; rfl)) _ _ _ (fun _ => rfl) fun n1 => ?_
    refine kw_step c h0 h2 h5 0 _ _ _ _ ((off1_eq _).trans (by rw [v44_eq]; rfl)) _ _ _ (fun _ => rfl) fun n0 => ?_
    refine ks_step c h0 h2 h5 2 _ _ _ _ _ _ (fun _ => rfl) fun m2 => ?_
    refine ks_step c h0 h2 h5 1 _ _ _ _ _ _ (fun _ => rfl) fun m1 => ?_
    refine ks_step c h0 h2 h5 0 _ _ _ _ _ _ (fun _ => rfl) fun m0 => ?_
    exfalso
    by_cases hw : l.val < 1056
    · have e : ∀ b : Fin 3, ∀ inb h, ((scM5.slice (Rect.unit (s := S3x6x1088x128) ![b.val, 0, 0, 0] S1x6x1056x128.size inb) (fun _ => rfl)).squeeze S6x1056x128 h).view.emb
          (ix3 g (⟨l.val, hw⟩ : Fin 1056) d) = ix4 b g l d := fun b inb h =>
        emb_sq4 scM5.view ![b.val, 0, 0, 0] inb _ g (⟨l.val, hw⟩ : Fin 1056) d (ix4 b g l d) rfl (Nat.zero_add _).symm (Nat.zero_add _).symm (Nat.zero_add _).symm
      match b with
      | 0 => exact n0 _ (e 0 _ _)
      | 1 => exact n1 _ (e 1 _ _)
      | 2 => exact n2 _ (e 2 _ _)
    · by_cases hs : l.val < 1072
      · have e : ∀ b : Fin 3, ∀ inb h, ((scM5.slice (Rect.unit (s := S3x6x1088x128) ![b.val, 0, 1056, 0] S1x6x16x128.size inb) (fun _ => rfl)).squeeze S6x16x128 h).view.emb
            (ix3 g (⟨l.val - 1056, by omega⟩ : Fin 16) d) = ix4 b g l d := fun b inb h =>
          emb_sq4 scM5.view ![b.val, 0, 1056, 0] inb _ g (⟨l.val - 1056, by omega⟩ : Fin 16) d (ix4 b g l d) rfl (Nat.zero_add _).symm
            (show l.val = 1056 + (l.val - 1056) by omega) (Nat.zero_add _).symm
        match b with
        | 0 => exact m0 _ (e 0 _ _)
        | 1 => exact m1 _ (e 1 _ _)
        | 2 => exact m2 _ (e 2 _ _)
      · refine hn (p5 c h2 s2 b g) ?_ ?_
        · rw [S5_eq]
          refine List.mem_flatMap.mpr ⟨b, by fin_cases b <;> simp, List.mem_map.mpr ⟨g, List.mem_reverse.mpr (List.mem_finRange _), rfl⟩⟩
        · refine (LoadRect.mem_set _).mpr fun a => ?_
          match a with
          | ⟨0, _⟩ => exact ⟨0, Nat.one_pos, rfl⟩
          | ⟨1, _⟩ => exact ⟨0, Nat.one_pos, rfl⟩
          | ⟨2, _⟩ => refine ⟨l.val - 1072, show l.val - 1072 < 16 by omega, ?_⟩; show l.val = 1072 + 1 * (l.val - 1072); omega
          | ⟨3, _⟩ => refine ⟨d.val, d.isLt, ?_⟩; show d.val = 0 + 1 * d.val; omega

set_option maxHeartbeats 2000000 in
/-- Once the transfers have landed, the value buffer holds the staged values. -/
theorem vBuf_eq (y : S3x6x1088x128.Idx) : vBuf c h0 h6 s0 s6 y = gV h0 h6 y := by
  obtain ⟨b, g, l, d, rfl⟩ : ∃ (b : Fin 3) (g : Fin 6) (l : Fin 1088) (d : Fin 128), y = ix4 b g l d := ⟨y 0, y 1, y 2, y 3, eq_ix4 y⟩
  unfold vBuf
  refine vw_step c h0 h6 2 _ _ _ _ ((off3_eq _).trans (by rw [v56_eq]; rfl)) _ _ _ (fun _ => rfl) fun n2 => ?_
  refine vw_step c h0 h6 1 _ _ _ _ ((off2_eq _).trans (by rw [v50_eq]; rfl)) _ _ _ (fun _ => rfl) fun n1 => ?_
  refine vw_step c h0 h6 0 _ _ _ _ ((off1_eq _).trans (by rw [v44_eq]; rfl)) _ _ _ (fun _ => rfl) fun n0 => ?_
  refine vs_step c h0 h6 2 _ _ _ _ _ _ (fun _ => rfl) fun m2 => ?_
  refine vs_step c h0 h6 1 _ _ _ _ _ _ (fun _ => rfl) fun m1 => ?_
  refine vs_step c h0 h6 0 _ _ _ _ _ _ (fun _ => rfl) fun m0 => ?_
  exfalso
  by_cases hw : l.val < 1056
  · have e : ∀ b : Fin 3, ∀ inb h, ((scM6.slice (Rect.unit (s := S3x6x1088x128) ![b.val, 0, 0, 0] S1x6x1056x128.size inb) (fun _ => rfl)).squeeze S6x1056x128 h).view.emb
        (ix3 g (⟨l.val, hw⟩ : Fin 1056) d) = ix4 b g l d := fun b inb h =>
      emb_sq4 scM6.view ![b.val, 0, 0, 0] inb _ g (⟨l.val, hw⟩ : Fin 1056) d (ix4 b g l d) rfl (Nat.zero_add _).symm (Nat.zero_add _).symm (Nat.zero_add _).symm
    match b with
    | 0 => exact n0 _ (e 0 _ _)
    | 1 => exact n1 _ (e 1 _ _)
    | 2 => exact n2 _ (e 2 _ _)
  · have e : ∀ b : Fin 3, ∀ inb h, ((scM6.slice (Rect.unit (s := S3x6x1088x128) ![b.val, 0, 1056, 0] S1x6x32x128.size inb) (fun _ => rfl)).squeeze S6x32x128 h).view.emb
        (ix3 g (⟨l.val - 1056, by omega⟩ : Fin 32) d) = ix4 b g l d := fun b inb h =>
      emb_sq4 scM6.view ![b.val, 0, 1056, 0] inb _ g (⟨l.val - 1056, by omega⟩ : Fin 32) d (ix4 b g l d) rfl (Nat.zero_add _).symm
        (show l.val = 1056 + (l.val - 1056) by omega) (Nat.zero_add _).symm
    match b with
    | 0 => exact m0 _ (e 0 _ _)
    | 1 => exact m1 _ (e 1 _ _)
    | 2 => exact m2 _ (e 2 _ _)

/-- One sequence's and group's plane, at coordinates. -/
theorem plane_idx (b : Fin 3) (g : ℕ) (hg : g < 6) (y : S1x1x1088x128.Idx) :
    (Rect.unit (s := S3x6x1088x128) ![b.val, g, 0, 0] S1x1x1088x128.size (inbPlane b g hg)).toLoadRect.idx y = ix4 b (⟨g, hg⟩ : Fin 6) (y 2) (y 3) := by
  refine funext fun a => Fin.ext ?_
  match a with
  | ⟨0, _⟩ => have h : (y 0).val < 1 := (y 0).isLt; show b.val + 1 * (y 0).val = b.val; omega
  | ⟨1, _⟩ => have h : (y 1).val < 1 := (y 1).isLt; show g + 1 * (y 1).val = g; omega
  | ⟨2, _⟩ => show 0 + 1 * (y 2).val = (y 2).val; omega
  | ⟨3, _⟩ => show 0 + 1 * (y 3).val = (y 3).val; omega

/-- Reading a rectangle of the staged keys. -/
theorem readAt5 (r : LoadRect S3x6x1088x128) (f : Bf (F := F) c scM5) (y : r.shape.Idx) : View.readAt (Elt F) scM5.view r f y = f (r.idx y) := rfl
/-- Reading a rectangle of the staged value codes. -/
theorem readAt6 (r : LoadRect S3x6x1088x128) (f : Bf (F := F) c scM6) (y : r.shape.Idx) : View.readAt (Elt F) scM6.view r f y = f (r.idx y) := rfl
/-- The keys that the body reads, from the arrays. -/
theorem kPre_eq (b : Fin 3) (g : ℕ) (hg : g < 6) : kPre c h0 h2 h5 s0 s2 s5 b g hg = kC h0 h2 h5 b g hg := by
  funext y
  unfold kPre
  exact (readAt5 c (Rect.unit (s := S3x6x1088x128) ![b.val, g, 0, 0] S1x1x1088x128.size (inbPlane b g hg)).toLoadRect (kBuf c h0 h2 h5 s0 s2 s5) y).trans
    ((kBuf_eq c h0 h2 h5 s0 s2 s5 _).trans (congrArg (gK h0 h2 h5) (plane_idx b g hg y)))
/-- The value codes that the body reads, from the arrays. -/
theorem vPre_eq (b : Fin 3) (g : ℕ) (hg : g < 6) : vPre c h0 h6 s0 s6 b g hg = vC h0 h6 b g hg := by
  funext y
  unfold vPre
  exact (readAt6 c (Rect.unit (s := S3x6x1088x128) ![b.val, g, 0, 0] S1x1x1088x128.size (inbPlane b g hg)).toLoadRect (vBuf c h0 h6 s0 s6) y).trans
    ((vBuf_eq c h0 h6 s0 s6 _).trans (congrArg (gV h0 h6) (plane_idx b g hg y)))

/-- The body's scores, from the arrays. -/
theorem scPre_eq (b p : Fin 3) : scPre c h0 h1 h2 h5 s0 s1 s2 s5 b p = scC h0 h1 h2 h5 b p := by
  unfold scPre scC; rw [qPre_eq, qPre_eq, kPre_eq, kPre_eq]
/-- The body's cache part for the pair's first group, from the arrays. -/
theorem ocPre0_eq (b p : Fin 3) : ocPre0 c h0 h1 h2 h4 h5 h6 s0 s1 s2 s4 s5 s6 b p = ocC0 h0 h1 h2 h4 h5 h6 b p := by
  unfold ocPre0 ocC0 ilPre ilC cdPre cdC visPre; rw [scPre_eq, lnPre_eq, vPre_eq, vPre_eq, vsPre_eq]
/-- The body's cache part for the pair's second group, from the arrays. -/
theorem ocPre1_eq (b p : Fin 3) : ocPre1 c h0 h1 h2 h4 h5 h6 s0 s1 s2 s4 s5 s6 b p = ocC1 h0 h1 h2 h4 h5 h6 b p := by
  unfold ocPre1 ocC1 ilPre ilC cdPre cdC visPre; rw [scPre_eq, lnPre_eq, vPre_eq, vPre_eq, vsPre_eq]
/-- The body's output for the pair's first group, from the arrays. -/
theorem oPre0_eq (b p : Fin 3) : oPre0 c h0 h1 h2 h3 h4 h5 h6 s0 s1 s2 s3 s4 s5 s6 b p = oC0 h0 h1 h2 h3 h4 h5 h6 b p := by
  unfold oPre0 oC0 ilPre ilC pnPre pnC cdPre cdC visPre; rw [scPre_eq, lnPre_eq, vPre_eq, vPre_eq, vsPre_eq, vnPre_eq]
/-- The body's output for the pair's second group, from the arrays. -/
theorem oPre1_eq (b p : Fin 3) : oPre1 c h0 h1 h2 h3 h4 h5 h6 s0 s1 s2 s3 s4 s5 s6 b p = oC1 h0 h1 h2 h3 h4 h5 h6 b p := by
  unfold oPre1 oC1 ilPre ilC pnPre pnC cdPre cdC visPre; rw [scPre_eq, lnPre_eq, vPre_eq, vPre_eq, vsPre_eq, vnPre_eq]

end Run

end Cert.Kernel.Hand
-- ==== Proof.ResultK.lean ====
/-
  The two results the body leaves, as functions of its operands alone.
-/
module

public import proofs.«01_k».proof.Proof.ReadsK

@[expose] public section

set_option maxRecDepth 16384

noncomputable section

namespace Cert.Kernel.Hand

open Cert.Hand Cert.Kernel Cert.Kernel.Gen
open Idealize.ShloMosaic Idealize.ShloMosaic.TcCoe Idealize.ShloMosaic.Tactic
open Idealize.SL.Sem

variable {F : FTy → Type} [FloatOps F]

section Run
variable (c : Dev nD) (h0 : Bf (F := F) c hbM0) (h1 : Bf (F := F) c hbM1) (h2 : Bf (F := F) c hbM2) (h3 : Bf (F := F) c hbM3)
  (h4 : Bf (F := F) c hbM4) (h5 : Bf (F := F) c hbM5) (h6 : Bf (F := F) c hbM6) (h7 : Bf (F := F) c hbM7) (h8 : Bf (F := F) c hbM8)
  (s0 : Bf (F := F) c scM0) (s1 : Bf (F := F) c scM1) (s2 : Bf (F := F) c scM2) (s3 : Bf (F := F) c scM3) (s4 : Bf (F := F) c scM4)
  (s5 : Bf (F := F) c scM5) (s6 : Bf (F := F) c scM6) (s7 : Bf (F := F) c scM7) (s8 : Bf (F := F) c scM8) (s9 : Bf (F := F) c scM9)
  (s10 : Bf (F := F) c scM10)

/-! ## The cache's part of the output -/

/-- An index whose first axis has length one. -/
theorem ix3_eq1 {n k : ℕ} (x : (⟨3, ![1, n, k]⟩ : Shape).Idx) : x = Idealize.ShloMosaic.ix3 (0 : Fin 1) (x 1) (x 2) := by
  refine funext fun a => Fin.ext ?_
  match a with
  | ⟨0, _⟩ => have h : (x 0).val < 1 := (x 0).isLt; show (x 0).val = 0; omega
  | ⟨1, _⟩ => rfl
  | ⟨2, _⟩ => rfl

/-- The value of the cache's output at a row named by its head group. -/
theorem outOc_row (b : Fin 3) (p : Fin 3) (q : ℕ) (hq : q < 2) (j : Fin 8) (d : Fin 128) (y : S3x48x128.Idx) (y0 : (y 0).val = b.val)
    (y1 : (y 1).val = 8 * (2 * p.val + q) + j.val) (y2 : (y 2).val = d.val) :
    outOc h0 h1 h2 h4 h5 h6 y = if q = 0 then ocC0 h0 h1 h2 h4 h5 h6 b p (ix3 (0 : Fin 1) j d) else ocC1 h0 h1 h2 h4 h5 h6 b p (ix3 (0 : Fin 1) j d) := by
  have e : y = ix3 b (⟨8 * (2 * p.val + q) + j.val, by omega⟩ : Fin 48) d := by
    refine funext fun a => Fin.ext ?_
    match a with
    | ⟨0, _⟩ => exact y0
    | ⟨1, _⟩ => exact y1
    | ⟨2, _⟩ => exact y2
  rw [e]
  unfold outOc
  have ep : (⟨(8 * (2 * p.val + q) + j.val) / 16, by omega⟩ : Fin 3) = p := Fin.ext (by show (8 * (2 * p.val + q) + j.val) / 16 = p.val; omega)
  have ej : (⟨(8 * (2 * p.val + q) + j.val) % 8, by omega⟩ : Fin 8) = j := Fin.ext (by show (8 * (2 * p.val + q) + j.val) % 8 = j.val; omega)
  show (if (8 * (2 * p.val + q) + j.val) / 8 % 2 = 0 then
      ocC0 h0 h1 h2 h4 h5 h6 b (⟨(8 * (2 * p.val + q) + j.val) / 16, by omega⟩ : Fin 3) (ix3 (0 : Fin 1) (⟨(8 * (2 * p.val + q) + j.val) % 8, by omega⟩ : Fin 8) d)
    else ocC1 h0 h1 h2 h4 h5 h6 b (⟨(8 * (2 * p.val + q) + j.val) / 16, by omega⟩ : Fin 3) (ix3 (0 : Fin 1) (⟨(8 * (2 * p.val + q) + j.val) % 8, by omega⟩ : Fin 8) d)) = _
  rw [ep, ej]
  by_cases h : q = 0
  · rw [if_pos h, if_pos (by omega)]
  · rw [if_neg h, if_neg (by omega)]

/-- What each store leaves in the second result is the stated entry. -/
theorem L10_agree (b : Fin 3) (P : View.Piece (Elt F) S3x48x128 .f32) (hP : P ∈ L10 c h0 h1 h2 h4 h5 h6 s0 s1 s2 s4 s5 s6 b) (x : P.1.shape.Idx) :
    P.2 x = outOc h0 h1 h2 h4 h5 h6 (P.1.emb x) := by
  obtain ⟨p, -, hP⟩ := List.mem_flatMap.mp hP
  rcases List.mem_cons.mp hP with rfl | hP
  · have x0 : (x 0).val < 1 := (x 0).isLt
    refine Eq.trans ?_ (outOc_row c h0 h1 h2 h4 h5 h6 b p 1 (by omega) (x 1) (x 2) _ (show b.val + 1 * (x 0).val = b.val by omega)
      (show 8 * (2 * p.val + 1) + 1 * (x 1).val = 8 * (2 * p.val + 1) + (x 1).val by omega) (show 0 + 1 * (x 2).val = (x 2).val by omega)).symm
    rw [if_neg Nat.one_ne_zero]
    exact (congrFun (ocPre1_eq c h0 h1 h2 h4 h5 h6 s0 s1 s2 s4 s5 s6 b p) x).trans (congrArg _ (ix3_eq1 x))
  · rcases List.mem_cons.mp hP with rfl | hP
    · have x0 : (x 0).val < 1 := (x 0).isLt
      refine Eq.trans ?_ (outOc_row c h0 h1 h2 h4 h5 h6 b p 0 (by omega) (x 1) (x 2) _ (show b.val + 1 * (x 0).val = b.val by omega)
        (show 8 * (2 * p.val) + 1 * (x 1).val = 8 * (2 * p.val + 0) + (x 1).val by omega) (show 0 + 1 * (x 2).val = (x 2).val by omega)).symm
      rw [if_pos rfl]
      exact (congrFun (ocPre0_eq c h0 h1 h2 h4 h5 h6 s0 s1 s2 s4 s5 s6 b p) x).trans (congrArg _ (ix3_eq1 x))
    · exact absurd hP List.not_mem_nil

/-- The stores of one sequence reach every entry of the second result. -/
theorem L10_cover (b : Fin 3) (i : Fin 48) (d : Fin 128) : ∃ P ∈ L10 c h0 h1 h2 h4 h5 h6 s0 s1 s2 s4 s5 s6 b, (ix3 b i d : S3x48x128.Idx) ∈ P.1.set := by
  have hp : ∀ p : Fin 3, p ∈ ([2, 1, 0] : List (Fin 3)) := by decide
  have key : ∀ (g : ℕ) (hg : g < 6) (w : FVec F S1x8x128 .f32), i.val / 8 = g → (ix3 b i d : S3x48x128.Idx) ∈ (p10 b g hg w).1.set := by
    intro g hg w hi
    refine (LoadRect.mem_set _).mpr fun a => ?_
    match a with
    | ⟨0, _⟩ => exact ⟨0, Nat.one_pos, rfl⟩
    | ⟨1, _⟩ => refine ⟨i.val % 8, show i.val % 8 < 8 by omega, ?_⟩; show i.val = 8 * g + 1 * (i.val % 8); omega
    | ⟨2, _⟩ => refine ⟨d.val, d.isLt, ?_⟩; show d.val = 0 + 1 * d.val; omega
  by_cases h : i.val / 8 % 2 = 0
  · exact ⟨_, List.mem_flatMap.mpr ⟨(⟨i.val / 16, by omega⟩ : Fin 3), hp _, List.mem_cons_of_mem _ List.mem_cons_self⟩,
      key _ _ _ (show i.val / 8 = 2 * (i.val / 16) by omega)⟩
  · exact ⟨_, List.mem_flatMap.mpr ⟨(⟨i.val / 16, by omega⟩ : Fin 3), hp _, List.mem_cons_self⟩,
      key _ _ _ (show i.val / 8 = 2 * (i.val / 16) + 1 by omega)⟩

/-- One sequence's transfer of the cache's output. -/
theorem oc_step (b : Fin 3) (inb) (inb') (hq : S1x48x128.Squeezes S48x128) (f : Bf (F := F) c hbM8) (w : S48x128.Idx → F .f32) (i : S3x48x128.Idx)
    (Ls : List (View.Piece (Elt F) S3x48x128 .f32))
    (hw : ∀ x, w x = ((scM10.slice (Rect.unit (s := S3x48x128) ![b.val, 0, 0] S1x48x128.size inb) (fun _ => rfl)).squeeze S48x128 hq).view.read (Elt F) (scM10.view.writes (Elt F) s10 Ls) x)
    (hL : ∀ P ∈ Ls, ∃ b', P ∈ L10 c h0 h1 h2 h4 h5 h6 s0 s1 s2 s4 s5 s6 b') (hb : ∀ P ∈ L10 c h0 h1 h2 h4 h5 h6 s0 s1 s2 s4 s5 s6 b, P ∈ Ls)
    (hf : (∀ x, ((hbM8.slice (Rect.unit (s := S3x48x128) ![b.val, 0, 0] S1x48x128.size inb') (fun _ => rfl)).squeeze S48x128 hq).view.emb x ≠ i) → f i = outOc h0 h1 h2 h4 h5 h6 i) :
    View.write (Elt F) ((hbM8.slice (Rect.unit (s := S3x48x128) ![b.val, 0, 0] S1x48x128.size inb') (fun _ => rfl)).squeeze S48x128 hq).view f w Finset.univ i = outOc h0 h1 h2 h4 h5 h6 i := by
  refine write_agree ((hbM8.slice (Rect.unit (s := S3x48x128) ![b.val, 0, 0] S1x48x128.size inb') (fun _ => rfl)).squeeze S48x128 hq).view f w (outOc h0 h1 h2 h4 h5 h6) i (fun x => (hw x).trans ?_) hf
  obtain ⟨j, d, rfl⟩ : ∃ (j : Fin 48) (d : Fin 128), x = ix2 j d := ⟨x 0, x 1, eq_ix2 x⟩
  rw [show ((hbM8.slice (Rect.unit (s := S3x48x128) ![b.val, 0, 0] S1x48x128.size inb') (fun _ => rfl)).squeeze S48x128 hq).view.emb (ix2 j d) = ix3 b j d from
    emb_sq3 hbM8.view ![b.val, 0, 0] inb' _ j d (ix3 b j d) rfl (Nat.zero_add _).symm (Nat.zero_add _).symm]
  refine (congrArg (scM10.view.writes (Elt F) s10 Ls) (emb_sq3 scM10.view ![b.val, 0, 0] inb _ j d (ix3 b j d) rfl (Nat.zero_add _).symm (Nat.zero_add _).symm)).trans ?_
  refine read_writes_agree (Val := Elt F) scM10.view s10 (outOc h0 h1 h2 h4 h5 h6) (ix3 b j d) Ls ?_ fun hn => ?_
  · intro P hP y
    obtain ⟨b', hP⟩ := hL P hP
    exact L10_agree c h0 h1 h2 h4 h5 h6 s0 s1 s2 s4 s5 s6 b' P hP y
  · obtain ⟨P, hP, hy⟩ := L10_cover c h0 h1 h2 h4 h5 h6 s0 s1 s2 s4 s5 s6 b j d
    exact absurd hy (hn P (hb P hP))

set_option maxHeartbeats 2000000 in
/-- The second result of the body's run. -/
theorem run_oc : (kernelRun c h0 h1 h2 h3 h4 h5 h6 h7 h8 s0 s1 s2 s3 s4 s5 s6 s7 s8 s9 s10).1.2 = outOc h0 h1 h2 h4 h5 h6 := by
  funext y
  obtain ⟨b, i, d, rfl⟩ : ∃ (b : Fin 3) (i : Fin 48) (d : Fin 128), y = ix3 b i d := ⟨y 0, y 1, y 2, eq_ix3 y⟩
  unfold kernelRun
  refine oc_step c h0 h1 h2 h4 h5 h6 s0 s1 s2 s4 s5 s6 s10 2 _ _ _ _ _ _ _ (fun _ => rfl) ?_ ?_ fun n2 => ?_
  · intro P hP
    rw [S10_18_eq, S10_12_eq, S10_6_eq] at hP
    rcases List.mem_append.mp hP with h | h
    · exact ⟨_, h⟩
    · rcases List.mem_append.mp h with h | h
      · exact ⟨_, h⟩
      · exact ⟨_, h⟩
  · intro P hP; rw [S10_18_eq]; exact List.mem_append.mpr (Or.inl hP)
  refine oc_step c h0 h1 h2 h4 h5 h6 s0 s1 s2 s4 s5 s6 s10 1 _ _ _ _ _ _ _ (fun _ => rfl) ?_ ?_ fun n1 => ?_
  · intro P hP
    rw [S10_12_eq, S10_6_eq] at hP
    rcases List.mem_append.mp hP with h | h
    · exact ⟨_, h⟩
    · exact ⟨_, h⟩
  · intro P hP; rw [S10_12_eq]; exact List.mem_append.mpr (Or.inl hP)
  refine oc_step c h0 h1 h2 h4 h5 h6 s0 s1 s2 s4 s5 s6 s10 0 _ _ _ _ _ _ _ (fun _ => rfl) ?_ ?_ fun n0 => ?_
  · intro P hP
    rw [S10_6_eq] at hP
    exact ⟨_, hP⟩
  · intro P hP; rw [S10_6_eq]; exact hP
  exfalso
  have e : ∀ b : Fin 3, ∀ inb h, ((hbM8.slice (Rect.unit (s := S3x48x128) ![b.val, 0, 0] S1x48x128.size inb) (fun _ => rfl)).squeeze S48x128 h).view.emb (ix2 i d) = ix3 b i d :=
    fun b inb h => emb_sq3 hbM8.view ![b.val, 0, 0] inb _ i d (ix3 b i d) rfl (Nat.zero_add _).symm (Nat.zero_add _).symm
  match b with
  | 0 => exact n0 _ (e 0 _ _)
  | 1 => exact n1 _ (e 1 _ _)
  | 2 => exact n2 _ (e 2 _ _)

/-! ## The whole output -/

/-- The staged output at a row named by its sequence and head. -/
theorem g8_row (b : Fin 3) (p : Fin 3) (q : ℕ) (hq : q < 2) (j : Fin 8) (d : Fin 128) (y : S384x128.Idx)
    (y0 : (y 0).val = 64 * (2 * p.val + q) + b.val + 8 * j.val) (y1 : (y 1).val = d.val) :
    g8 h0 h1 h2 h3 h4 h5 h6 y = if q = 0 then oC0 h0 h1 h2 h3 h4 h5 h6 b p (ix2 j d) else oC1 h0 h1 h2 h3 h4 h5 h6 b p (ix2 j d) := by
  have e : y = ix2 (⟨64 * (2 * p.val + q) + b.val + 8 * j.val, by omega⟩ : Fin 384) d := by
    refine funext fun a => Fin.ext ?_
    match a with
    | ⟨0, _⟩ => exact y0
    | ⟨1, _⟩ => exact y1
  rw [e]
  unfold g8
  have eb : (⟨min ((64 * (2 * p.val + q) + b.val + 8 * j.val) % 8) 2, by omega⟩ : Fin 3) = b := Fin.ext (by show min ((64 * (2 * p.val + q) + b.val + 8 * j.val) % 8) 2 = b.val; omega)
  have ep : (⟨(64 * (2 * p.val + q) + b.val + 8 * j.val) / 128, by omega⟩ : Fin 3) = p := Fin.ext (by show (64 * (2 * p.val + q) + b.val + 8 * j.val) / 128 = p.val; omega)
  have ej : (⟨(64 * (2 * p.val + q) + b.val + 8 * j.val) / 8 % 8, by omega⟩ : Fin 8) = j := Fin.ext (by show (64 * (2 * p.val + q) + b.val + 8 * j.val) / 8 % 8 = j.val; omega)
  show (if (64 * (2 * p.val + q) + b.val + 8 * j.val) / 64 % 2 = 0 then
      oC0 h0 h1 h2 h3 h4 h5 h6 (⟨min ((64 * (2 * p.val + q) + b.val + 8 * j.val) % 8) 2, by omega⟩ : Fin 3) (⟨(64 * (2 * p.val + q) + b.val + 8 * j.val) / 128, by omega⟩ : Fin 3)
        (ix2 (⟨(64 * (2 * p.val + q) + b.val + 8 * j.val) / 8 % 8, by omega⟩ : Fin 8) d)
    else oC1 h0 h1 h2 h3 h4 h5 h6 (⟨min ((64 * (2 * p.val + q) + b.val + 8 * j.val) % 8) 2, by omega⟩ : Fin 3) (⟨(64 * (2 * p.val + q) + b.val + 8 * j.val) / 128, by omega⟩ : Fin 3)
        (ix2 (⟨(64 * (2 * p.val + q) + b.val + 8 * j.val) / 8 % 8, by omega⟩ : Fin 8) d)) = _
  rw [eb, ep, ej]
  by_cases h : q = 0
  · rw [if_pos h, if_pos (by omega)]
  · rw [if_neg h, if_neg (by omega)]

/-- What each store leaves in the per-head output is the stated entry. -/
theorem L8_agree (b : Fin 3) (P : View.Piece (Elt F) S384x128 .f32) (hP : P ∈ L8 c h0 h1 h2 h3 h4 h5 h6 s0 s1 s2 s3 s4 s5 s6 b) (x : P.1.shape.Idx) :
    P.2 x = g8 h0 h1 h2 h3 h4 h5 h6 (P.1.emb x) := by
  obtain ⟨p, -, hP⟩ := List.mem_flatMap.mp hP
  rcases List.mem_cons.mp hP with rfl | hP
  · refine Eq.trans ?_ (g8_row c h0 h1 h2 h3 h4 h5 h6 b p 1 (by omega) (x 0) (x 1) _
      (show 64 * (2 * p.val + 1) + b.val + 8 * (x 0).val = 64 * (2 * p.val + 1) + b.val + 8 * (x 0).val from rfl) (show 0 + 1 * (x 1).val = (x 1).val by omega)).symm
    rw [if_neg Nat.one_ne_zero]
    exact (congrFun (oPre1_eq c h0 h1 h2 h3 h4 h5 h6 s0 s1 s2 s3 s4 s5 s6 b p) x).trans (congrArg _ (eq_ix2 x))
  · rcases List.mem_cons.mp hP with rfl | hP
    · refine Eq.trans ?_ (g8_row c h0 h1 h2 h3 h4 h5 h6 b p 0 (by omega) (x 0) (x 1) _
        (show 64 * (2 * p.val) + b.val + 8 * (x 0).val = 64 * (2 * p.val + 0) + b.val + 8 * (x 0).val from rfl) (show 0 + 1 * (x 1).val = (x 1).val by omega)).symm
      rw [if_pos rfl]
      exact (congrFun (oPre0_eq c h0 h1 h2 h3 h4 h5 h6 s0 s1 s2 s3 s4 s5 s6 b p) x).trans (congrArg _ (eq_ix2 x))
    · exact absurd hP List.not_mem_nil

/-- The stores of one sequence reach each of its rows of the per-head output. -/
theorem L8_cover (b : Fin 3) (i : Fin 48) (y : S384x128.Idx) (y0 : (y 0).val = 8 * i.val + b.val) :
    ∃ P ∈ L8 c h0 h1 h2 h3 h4 h5 h6 s0 s1 s2 s3 s4 s5 s6 b, y ∈ P.1.set := by
  have hp : ∀ p : Fin 3, p ∈ ([2, 1, 0] : List (Fin 3)) := by decide
  have key : ∀ (g : ℕ) (hg : g < 6) (w : FVec F S8x128 .f32), i.val / 8 = g → y ∈ (p8 b g hg w).1.set := by
    intro g hg w hi
    refine (LoadRect.mem_set _).mpr fun a => ?_
    match a with
    | ⟨0, _⟩ => refine ⟨i.val % 8, show i.val % 8 < 8 by omega, ?_⟩; show (y 0).val = 64 * g + b.val + 8 * (i.val % 8); omega
    | ⟨1, _⟩ => refine ⟨(y 1).val, (y 1).isLt, ?_⟩; show (y 1).val = 0 + 1 * (y 1).val; omega
  by_cases h : i.val / 8 % 2 = 0
  · exact ⟨_, List.mem_flatMap.mpr ⟨(⟨i.val / 16, by omega⟩ : Fin 3), hp _, List.mem_cons_of_mem _ List.mem_cons_self⟩,
      key _ _ _ (show i.val / 8 = 2 * (i.val / 16) by omega)⟩
  · exact ⟨_, List.mem_flatMap.mpr ⟨(⟨i.val / 16, by omega⟩ : Fin 3), hp _, List.mem_cons_self⟩,
      key _ _ _ (show i.val / 8 = 2 * (i.val / 16) + 1 by omega)⟩

/-- The staged output at a row of one head, whatever the buffer held. -/
theorem buf8_eq (f : Bf (F := F) c scM8) (b : Fin 3) (i : Fin 48) (y : S384x128.Idx) (y0 : (y 0).val = 8 * i.val + b.val) :
    View.read (Elt F) scM8.view (scM8.view.writes (Elt F) f (kernelRun.sl.S8_18 c h0 h1 h2 h3 h4 h5 h6 s0 s1 s2 s3 s4 s5 s6)) y = g8 h0 h1 h2 h3 h4 h5 h6 y := by
  rw [S8_18_eq]
  refine read_writes_agree (Val := Elt F) scM8.view f (g8 h0 h1 h2 h3 h4 h5 h6) y _ ?_ fun hn => ?_
  · intro P hP x
    rcases List.mem_append.mp hP with h | h
    · exact L8_agree c h0 h1 h2 h3 h4 h5 h6 s0 s1 s2 s3 s4 s5 s6 2 P h x
    · rcases List.mem_append.mp h with h | h
      · exact L8_agree c h0 h1 h2 h3 h4 h5 h6 s0 s1 s2 s3 s4 s5 s6 1 P h x
      · exact L8_agree c h0 h1 h2 h3 h4 h5 h6 s0 s1 s2 s3 s4 s5 s6 0 P h x
  · obtain ⟨P, hP, hy⟩ := L8_cover c h0 h1 h2 h3 h4 h5 h6 s0 s1 s2 s3 s4 s5 s6 b i y y0
    refine absurd hy (hn P ?_)
    match b with
    | 0 => exact List.mem_append.mpr (Or.inr (List.mem_append.mpr (Or.inr hP)))
    | 1 => exact List.mem_append.mpr (Or.inr (List.mem_append.mpr (Or.inl hP)))
    | 2 => exact List.mem_append.mpr (Or.inl hP)

/-- A stored piece of the whole output. -/
theorem p9_agree (i : Fin 48) (x : S3x128.Idx) :
    (p9 c s8 (kernelRun.sl.S8_18 c h0 h1 h2 h3 h4 h5 h6 s0 s1 s2 s3 s4 s5 s6) i).2 x
      = outO h0 h1 h2 h3 h4 h5 h6 ((p9 c s8 (kernelRun.sl.S8_18 c h0 h1 h2 h3 h4 h5 h6 s0 s1 s2 s3 s4 s5 s6) i).1.emb x) := by
  have hx1 : (x 1).val < 128 := (x 1).isLt
  have e0 : (((p9 c s8 (kernelRun.sl.S8_18 c h0 h1 h2 h3 h4 h5 h6 s0 s1 s2 s3 s4 s5 s6) i).1.emb x) 0).val = 0 + 1 * (x 0).val := rfl
  have e1 : (((p9 c s8 (kernelRun.sl.S8_18 c h0 h1 h2 h3 h4 h5 h6 s0 s1 s2 s3 s4 s5 s6) i).1.emb x) 1).val = 128 * i.val + 1 * (x 1).val := rfl
  unfold outO
  refine congr (congrArg k0_pay246 (funext fun z => ?_)) (funext fun a => Fin.ext ?_)
  · have hz : (z 0).val < 3 := (z 0).isLt
    refine (buf8_eq c h0 h1 h2 h3 h4 h5 h6 s0 s1 s2 s3 s4 s5 s6 _ (⟨(z 0).val, hz⟩ : Fin 3) i _
      (show 8 * i.val + 1 * (z 0).val = 8 * i.val + (z 0).val by omega)).trans (congrArg _ (funext fun a => Fin.ext ?_))
    match a with
    | ⟨0, _⟩ =>
      show 8 * i.val + 1 * (z 0).val = 8 * ((((p9 c s8 (kernelRun.sl.S8_18 c h0 h1 h2 h3 h4 h5 h6 s0 s1 s2 s3 s4 s5 s6) i).1.emb x) 1).val / 128) + (z 0).val
      rw [e1]; omega
    | ⟨1, _⟩ => show 0 + 1 * (z 1).val = (z 1).val; omega
  · match a with
    | ⟨0, _⟩ => show (x 0).val = (((p9 c s8 (kernelRun.sl.S8_18 c h0 h1 h2 h3 h4 h5 h6 s0 s1 s2 s3 s4 s5 s6) i).1.emb x) 0).val; rw [e0]; omega
    | ⟨1, _⟩ => show (x 1).val = (((p9 c s8 (kernelRun.sl.S8_18 c h0 h1 h2 h3 h4 h5 h6 s0 s1 s2 s3 s4 s5 s6) i).1.emb x) 1).val % 128; rw [e1]; omega

/-- The whole output's staging buffer. -/
theorem buf9_eq (y : S3x6144.Idx) :
    View.read (Elt F) scM9.view (scM9.view.writes (Elt F) s9 (kernelRun.sl.S9_48 c h0 h1 h2 h3 h4 h5 h6 s0 s1 s2 s3 s4 s5 s6 s8)) y = outO h0 h1 h2 h3 h4 h5 h6 y := by
  rw [S9_eq]
  refine read_writes_agree (Val := Elt F) scM9.view s9 (outO h0 h1 h2 h3 h4 h5 h6) y _ ?_ fun hn => ?_
  · intro P hP x
    obtain ⟨i, -, rfl⟩ := List.mem_map.mp hP
    exact p9_agree c h0 h1 h2 h3 h4 h5 h6 s0 s1 s2 s3 s4 s5 s6 s8 i x
  · have hy0 : (y 0).val < 3 := (y 0).isLt
    have hy1 : (y 1).val < 6144 := (y 1).isLt
    refine absurd ?_ (hn _ (List.mem_map.mpr ⟨(⟨(y 1).val / 128, by omega⟩ : Fin 48), List.mem_reverse.mpr (List.mem_finRange _), rfl⟩))
    refine (LoadRect.mem_set _).mpr fun a => ?_
    match a with
    | ⟨0, _⟩ => refine ⟨(y 0).val, hy0, ?_⟩; show (y 0).val = 0 + 1 * (y 0).val; omega
    | ⟨1, _⟩ => refine ⟨(y 1).val % 128, show (y 1).val % 128 < 128 by omega, ?_⟩; show (y 1).val = 128 * ((y 1).val / 128) + 1 * ((y 1).val % 128); omega

/-- The first result of the body's run. -/
theorem run_o : (kernelRun c h0 h1 h2 h3 h4 h5 h6 h7 h8 s0 s1 s2 s3 s4 s5 s6 s7 s8 s9 s10).1.1 = outO h0 h1 h2 h3 h4 h5 h6 := by
  unfold kernelRun
  show View.write (Elt F) hbM7.view h7 (kernelRun.sl.dma507 c h0 h1 h2 h3 h4 h5 h6 s0 s1 s2 s3 s4 s5 s6 s8 s9) Finset.univ = _
  refine (View.write_whole_univ _ _ _).trans (funext fun y => ?_)
  exact buf9_eq c h0 h1 h2 h3 h4 h5 h6 s0 s1 s2 s3 s4 s5 s6 s8 s9 y

end Run

end Cert.Kernel.Hand
-- ==== Proof.LaunchK.lean ====
/-
  The launch: the program terminates, nothing faults, its arguments end unchanged, every semaphore counter ends at zero, and
  its results hold what the body leaves.
-/
module

public import proofs.«01_k».proof.Proof.ResultK
public import proofs.«01_k».proof.Proof.Gen.Kernel.Frame
public import Idealize.ShloMosaic.Lib.Pipeline.FrameSuffixV

@[expose] public section

set_option maxRecDepth 16384

noncomputable section

namespace Cert.Kernel.Hand

open Cert.Hand Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands the body reads, left in HBM. -/
def H0 : Finset (Ref sig .tc) := {main_arg6, main_v0, main_v1, main_v2, main_arg5, main_v3, main_v4}
/-- The results the body writes, left in HBM. -/
def R0 : Finset (Ref sig .tc) := {main_v5_0, main_v5_1}
/-- The arrays the body reads are no window's. -/
theorem H0_sub : H0 ⊆ Pipeline.restRefs sig (cfg0.spec) := by decide
/-- The arrays the body writes are no window's and none of those it reads. -/
theorem R0_sub : R0 ⊆ Pipeline.restRefs sig (cfg0.spec) \ H0 := by decide

set_option maxHeartbeats 800000 in
/-- @main around the region at this proof's algebra. -/
theorem hmainD (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the body leaves in the two results (and, elsewhere, what the region finds). -/
def G (c : Dev nD) (b : Ref sig .tc) : Buf (Elt F) ((c : Thread nD τ).loc b) :=
  if e : b = main_v5_0 then e ▸ (outO (V m c main_arg6) (V m c main_v0) (V m c main_v1) (V m c main_v2) (V m c main_arg5) (V m c main_v3) (V m c main_v4) : Buf (Elt F) ((c : Thread nD τ).loc main_v5_0))
  else if e : b = main_v5_1 then e ▸ (outOc (V m c main_arg6) (V m c main_v0) (V m c main_v1) (V m c main_arg5) (V m c main_v3) (V m c main_v4) : Buf (Elt F) ((c : Thread nD τ).loc main_v5_1))
  else V m c b
/-- The region's first result array. -/
theorem G_0 (c : Dev nD) : G m c main_v5_0 = (outO (V m c main_arg6) (V m c main_v0) (V m c main_v1) (V m c main_v2) (V m c main_arg5) (V m c main_v3) (V m c main_v4) : Buf (Elt F) ((c : Thread nD τ).loc main_v5_0)) := by
  unfold G; rw [dif_pos rfl]
/-- The region's second result array. -/
theorem G_1 (c : Dev nD) : G m c main_v5_1 = (outOc (V m c main_arg6) (V m c main_v0) (V m c main_v1) (V m c main_arg5) (V m c main_v3) (V m c main_v4) : Buf (Elt F) ((c : Thread nD τ).loc main_v5_1)) := by
  unfold G; rw [dif_neg (by decide), dif_pos rfl]

/-- The body's twenty-one DMA cells. -/
abbrev osem0 : Fin 21 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20] : Fin 21 → SemLoc sig) j
/-- The body's semaphores are distinct and its own. -/
theorem ownSemFacts0 : Pipeline.OwnSemFacts (cfg0.spec) osem0 := by decide
/-- The body's semaphores, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20) := by
  rw [Pipeline.ownSems0_eq_of_list c osem0 [0, 1, 2, 3, 4, 5, 6, 7, 8, 9, 10, 11, 12, 13, 14, 15, 16, 17, 18, 19, 20] (by decide) (by decide)]; rfl
/-- The arrays the body reads, one by one. -/
theorem hbmPts0_eq (c : Dev nD) :
    (bigSep H0 (fun b => ((c : Thread nD τ).loc b) ↦{fullShare} V m c b) : sProp 𝕄)
      = iprop(pt c hbM0 (V m c main_arg6) ∗ pt c hbM1 (V m c main_v0) ∗ pt c hbM2 (V m c main_v1) ∗ pt c hbM3 (V m c main_v2) ∗ pt c hbM4 (V m c main_arg5) ∗ pt c hbM5 (V m c main_v3) ∗ pt c hbM6 (V m c main_v4)) := by
  rw [BI.bigSep_eq_bigSepL_of_eq [main_arg6, main_v0, main_v1, main_v2, main_arg5, main_v3, main_v4] (by decide) (by decide)]; rfl
/-- The arrays the body writes, one by one. -/
theorem resPts0_eq (c : Dev nD) (g : (b : Ref sig .tc) → Buf (Elt F) ((c : Thread nD τ).loc b)) :
    (bigSep R0 (fun b => ((c : Thread nD τ).loc b) ↦{fullShare} g b) : sProp 𝕄)
      = iprop(pt c hbM7 (g main_v5_0) ∗ pt c hbM8 (g main_v5_1)) := by
  rw [BI.bigSep_eq_bigSepL_of_eq [main_v5_0, main_v5_1] (by decide) (by decide)]; rfl
/-- The scratch buffers, one by one. -/
theorem scoped0_eq (c : Dev nD) : (Pipeline.scopedRest (cfg0.spec) c : sProp 𝕄)
      = iprop((∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f) ∗ (∃ f, pt c scM0 f)) := scopedRest0_eq c

/-- The invariant the body is run in: the two results' contents are `g`. -/
def Inv (g : (c : Dev nD) → (b : Ref sig .tc) → Buf (Elt F) ((c : Thread nD τ).loc b)) (c : Dev nD) : sProp 𝕄 :=
  Pipeline.ΦDRV osem0 (cfg0.spec) H0 R0 (V m) g c
/-- The invariant, written out buffer by buffer. -/
theorem Inv_eq (g : (c : Dev nD) → (b : Ref sig .tc) → Buf (Elt F) ((c : Thread nD τ).loc b)) (c : Dev nD) :
    Inv m g c = iprop(iprop((∃ f, pt c scM1 f) ∗ (∃ f, pt c scM2 f) ∗ (∃ f, pt c scM3 f) ∗ (∃ f, pt c scM4 f) ∗ (∃ f, pt c scM5 f) ∗ (∃ f, pt c scM6 f) ∗ (∃ f, pt c scM7 f) ∗ (∃ f, pt c scM8 f) ∗ (∃ f, pt c scM9 f) ∗ (∃ f, pt c scM10 f) ∗ (∃ f, pt c scM0 f))
      ∗ iprop(sv c 0 ∗ sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ sv c 18 ∗ sv c 19 ∗ sv c 20)
      ∗ iprop(pt c hbM0 (V m c main_arg6) ∗ pt c hbM1 (V m c main_v0) ∗ pt c hbM2 (V m c main_v1) ∗ pt c hbM3 (V m c main_v2) ∗ pt c hbM4 (V m c main_arg5) ∗ pt c hbM5 (V m c main_v3) ∗ pt c hbM6 (V m c main_v4))
      ∗ iprop(pt c hbM7 (g c main_v5_0) ∗ pt c hbM8 (g c main_v5_1))) := by
  unfold Inv
  unfold Pipeline.ΦDRV
  rw [scoped0_eq, ownSems00_eq, hbmPts0_eq, resPts0_eq]

/-- The proof data of the one region on core `c`: no window; before the step the results are as found, after it as the body leaves them. -/
def dats (_ : Fin 1) (c : Dev nD) : Dat τ (Elt F) Unit ℕ (Pipeline.UD sig nD τ) ℕ cfg0 c where
  A w := V m c (Pipeline.arrRef (cfg0.spec) w)
  after w t := w.elim0
  Φ t := if t.val = 0 then Inv m (V m) c else Inv m (G m) c
  q _ := fullShare
  owed _ := 0

/-- The region has no pipelined window to start from. -/
theorem A_eq (c : Dev nD) (w : Fin cfg0.W) : (dats m 0 c).A w = V m c (Pipeline.arrRef (cfg0.spec) w) := w.elim0

/-- The invariant before and after the one point. -/
theorem Phi_eq (c : Dev nD) (t : Fin (cfg0.N + 1)) : (dats m 0 c).Φ t = if t.val = 0 then Inv m (V m) c else Inv m (G m) c := by dsimp only [dats]
/-- The invariant before the one point. -/
theorem Phi_first (c : Dev nD) : (dats m 0 c).Φ t0_0.castSucc = Inv m (V m) c := (Phi_eq m c _).trans (if_pos rfl)
/-- The invariant at the start. -/
theorem Phi_zero (c : Dev nD) : (dats m 0 c).Φ 0 = Inv m (V m) c := (Phi_eq m c _).trans (if_pos rfl)
/-- The invariant after the one point. -/
theorem Phi_next (c : Dev nD) : (dats m 0 c).Φ t0_0.succ = Inv m (G m) c := (Phi_eq m c _).trans (if_neg (Nat.succ_ne_zero _))
/-- The invariant at the end. -/
theorem Phi_last (c : Dev nD) : (dats m 0 c).Φ (Fin.last cfg0.N) = Inv m (G m) c :=
  (Phi_eq m c _).trans (if_neg (show ¬ grid0.N = 0 by rw [N_0]; decide))
/-- The region's resources give the invariant at the start. -/
theorem hin0 (c : Dev nD) : Pipeline.ΦDRV osem0 (cfg0.spec) H0 R0 (V m) (V m) c ⊢ (dats m 0 c).Φ 0 := by rw [Phi_zero]; exact .rfl
/-- The invariant at the end gives the region's resources back. -/
theorem hout0 (c : Dev nD) : (dats m 0 c).Φ (Fin.last cfg0.N) ⊢ Pipeline.ΦDRV osem0 (cfg0.spec) H0 R0 (V m) (G m) c := by rw [Phi_last]; exact .rfl
/-- There is no pipelined window. -/
theorem noWindow (Φ : Fin cfg0.W → sProp 𝕄) : bigSep Finset.univ Φ = (iprop(emp) : sProp 𝕄) := by
  rw [show (Finset.univ : Finset (Fin cfg0.W)) = ∅ from rfl]; exact bigSep_empty

/-- What the body starts from. -/
def bodyPre (c : Dev nD) : sProp 𝕄 := iprop(Inv m (V m) c ∗ (dats m 0 c).owesAt () t0_0.castSucc ∗ emp)
/-- What the body ends with. -/
def bodyPost (c : Dev nD) : sProp 𝕄 := iprop(Inv m (G m) c ∗ (dats m 0 c).owesAt () t0_0.succ ∗ emp)

set_option maxHeartbeats 4000000 in
theorem sound_body (c : Dev nD) (t : Fin cfg0.N) :
    bodyPre m c ⊢ wp frame (wpE (defs₀ (F := F)) Variants.none c none) Set.univ (bodyAt0 t) (fun _ => bodyPost m c) := by
  unfold bodyPre bodyPost bodyAt0
  rw [Inv_eq, Inv_eq, G_0, G_1]
  unfold Dat.owesAt Pipeline.owesWithin
  rw [show (dats m 0 c).owed t0_0.castSucc = 0 from rfl, show (dats m 0 c).owed t0_0.succ = 0 from rfl]
  iintro ⟨⟨⟨⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s0, S0⟩⟩, ⟨Q0, Q1, Q2, Q3, Q4, Q5, Q6, Q7, Q8, Q9, Q10, Q11, Q12, Q13, Q14, Q15, Q16, Q17, Q18, Q19, Q20⟩, ⟨H0, H1, H2, H3, H4, H5, H6⟩, ⟨H7, H8⟩⟩, ⟨%W, -, HW⟩, He⟩
  rw [← run_o c (V m c main_arg6) (V m c main_v0) (V m c main_v1) (V m c main_v2) (V m c main_arg5) (V m c main_v3) (V m c main_v4) (V m c main_v5_0) (V m c main_v5_1) s0 s1 s2 s3 s4 s5 s6 s7 s8 s9 s10, ← run_oc c (V m c main_arg6) (V m c main_v0) (V m c main_v1) (V m c main_v2) (V m c main_arg5) (V m c main_v3) (V m c main_v4) (V m c main_v5_0) (V m c main_v5_1) s0 s1 s2 s3 s4 s5 s6 s7 s8 s9 s10]
  iapply ((kernelRun c (V m c main_arg6) (V m c main_v0) (V m c main_v1) (V m c main_v2) (V m c main_arg5) (V m c main_v3) (V m c main_v4) (V m c main_v5_0) (V m c main_v5_1) s0 s1 s2 s3 s4 s5 s6 s7 s8 s9 s10).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [HW]; · iexact HW
  iintro ⟨H0, H1, H2, H3, H4, H5, H6, H7, H8, S0, S1, S2, S3, S4, S5, S6, S7, S8, S9, S10, Q0, Q1, Q2, Q3, Q4, Q5, Q6, Q7, Q8, Q9, Q10, Q11, Q12, Q13, Q14, Q15, Q16, Q17, Q18, Q19, Q20, ⟨%W', HW'⟩⟩
  isplitl [H0 H1 H2 H3 H4 H5 H6 H7 H8 S0 S1 S2 S3 S4 S5 S6 S7 S8 S9 S10 Q0 Q1 Q2 Q3 Q4 Q5 Q6 Q7 Q8 Q9 Q10 Q11 Q12 Q13 Q14 Q15 Q16 Q17 Q18 Q19 Q20]
  · isplitl [S1 S2 S3 S4 S5 S6 S7 S8 S9 S10 S0]
    · isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S0
    isplitl [Q0 Q1 Q2 Q3 Q4 Q5 Q6 Q7 Q8 Q9 Q10 Q11 Q12 Q13 Q14 Q15 Q16 Q17 Q18 Q19 Q20]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      iexact Q20
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  isplitl [HW']
  · iexists W'; isplitr; · ipureintro; exact fun _ _ => Or.inl trivial
    iexact HW'
  iexact He

/-- The body that the region calls. -/
theorem defs₀_row (t : Fin cfg0.N) :
    defs₀ (F := F) .tc cfg0.body (cfg0.bodyArgs t (cfg0.slots t)) = bodyAt0 t := by
  unfold defs₀; rw [Defs.onTc_tc]

/-- The body meets its obligation at the one point. -/
theorem body_obligation (c : Dev nD) : BodyObligation (dats (F := F) m 0 c) (defs₀ (F := F)) Variants.none () Set.univ := fun t => by
  obtain rfl : t = t0_0 := fin_N0 t
  rw [noWindow, noWindow, defs₀_row, Phi_first, Phi_next]
  exact triple_restated (sound_body m c t0_0) rfl .rfl fun _ => .rfl

/-- What the region and the host lines after it leave in core `c`'s buffers. -/
def final (c : Dev nD) : Valuation τ sig (Elt F) :=
  StableHlo.after (List.flatten [hostOps1]) (Pipeline.withArrays cfg0.spec c (Pipeline.withR (V0 m c) R0 c (G m c)) fun w => (dats m 0 c).arrAt w cfg0.N)

set_option backward.isDefEq.respectTransparency.types false in
/-- The run: every buffer of the region's rest ends at `final`, every counter at zero. -/
theorem run_main : θ_run defs (onTc (τ := τ) (main (F := F))) (s₀ m ρ) (fun r => (∀ c : Dev nD,
      ∀ b ∈ Pipeline.restRefs sig (cfg0.spec), r.2.mem ((c.tc : Thread nD τ).loc b) = final m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m) (hin := hin0 m) (hout := hout0 m)
    (Q' := _) (hQ' := fun r h => ⟨fun c b hb => (h.1 c).2 b hb, h.2⟩)

/-- The host lines and the region leave `main_arg0` as launched. -/
theorem final_main_arg0 (c : Dev nD) : final m c (Proc.devRef .tc main_arg0) = m ((c : Thread nD τ).loc main_arg0) := by
  unfold final
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg0 (by exact (by decide : ∀ w, Pipeline.arrRef (cfg0.spec) w ≠ main_arg0)),
    Pipeline.withR_of_not_mem _ _ _ _ main_arg0 (by decide)]
  exact V_main_arg0 m c

/-- The host lines and the region leave `main_arg1` as launched. -/
theorem final_main_arg1 (c : Dev nD) : final m c (Proc.devRef .tc main_arg1) = m ((c : Thread nD τ).loc main_arg1) := by
  unfold final
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg1 (by exact (by decide : ∀ w, Pipeline.arrRef (cfg0.spec) w ≠ main_arg1)),
    Pipeline.withR_of_not_mem _ _ _ _ main_arg1 (by decide)]
  exact V_main_arg1 m c

/-- The host lines and the region leave `main_arg2` as launched. -/
theorem final_main_arg2 (c : Dev nD) : final m c (Proc.devRef .tc main_arg2) = m ((c : Thread nD τ).loc main_arg2) := by
  unfold final
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg2 (by exact (by decide : ∀ w, Pipeline.arrRef (cfg0.spec) w ≠ main_arg2)),
    Pipeline.withR_of_not_mem _ _ _ _ main_arg2 (by decide)]
  exact V_main_arg2 m c

/-- The host lines and the region leave `main_arg3` as launched. -/
theorem final_main_arg3 (c : Dev nD) : final m c (Proc.devRef .tc main_arg3) = m ((c : Thread nD τ).loc main_arg3) := by
  unfold final
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg3 (by exact (by decide : ∀ w, Pipeline.arrRef (cfg0.spec) w ≠ main_arg3)),
    Pipeline.withR_of_not_mem _ _ _ _ main_arg3 (by decide)]
  exact V_main_arg3 m c

/-- The host lines and the region leave `main_arg4` as launched. -/
theorem final_main_arg4 (c : Dev nD) : final m c (Proc.devRef .tc main_arg4) = m ((c : Thread nD τ).loc main_arg4) := by
  unfold final
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg4 (by exact (by decide : ∀ w, Pipeline.arrRef (cfg0.spec) w ≠ main_arg4)),
    Pipeline.withR_of_not_mem _ _ _ _ main_arg4 (by decide)]
  exact V_main_arg4 m c

/-- The host lines and the region leave `main_arg5` as launched. -/
theorem final_main_arg5 (c : Dev nD) : final m c (Proc.devRef .tc main_arg5) = m ((c : Thread nD τ).loc main_arg5) := by
  unfold final
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg5 (by exact (by decide : ∀ w, Pipeline.arrRef (cfg0.spec) w ≠ main_arg5)),
    Pipeline.withR_of_not_mem _ _ _ _ main_arg5 (by decide)]
  exact V_main_arg5 m c

/-- The host lines and the region leave `main_arg6` as launched. -/
theorem final_main_arg6 (c : Dev nD) : final m c (Proc.devRef .tc main_arg6) = m ((c : Thread nD τ).loc main_arg6) := by
  unfold final
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Pipeline.withArrays_of_ne _ c _ _ main_arg6 (by exact (by decide : ∀ w, Pipeline.arrRef (cfg0.spec) w ≠ main_arg6)),
    Pipeline.withR_of_not_mem _ _ _ _ main_arg6 (by decide)]
  exact V_main_arg6 m c

/-- The frame: the program terminates, nothing faults, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c main_arg0 (Pipeline.mem_restRefs_of main_arg0 (by decide) (by decide))).trans (final_main_arg0 m c), (h.1 c main_arg1 (Pipeline.mem_restRefs_of main_arg1 (by decide) (by decide))).trans (final_main_arg1 m c), (h.1 c main_arg2 (Pipeline.mem_restRefs_of main_arg2 (by decide) (by decide))).trans (final_main_arg2 m c), (h.1 c main_arg3 (Pipeline.mem_restRefs_of main_arg3 (by decide) (by decide))).trans (final_main_arg3 m c), (h.1 c main_arg4 (Pipeline.mem_restRefs_of main_arg4 (by decide) (by decide))).trans (final_main_arg4 m c), (h.1 c main_arg5 (Pipeline.mem_restRefs_of main_arg5 (by decide) (by decide))).trans (final_main_arg5 m c), (h.1 c main_arg6 (Pipeline.mem_restRefs_of main_arg6 (by decide) (by decide))).trans (final_main_arg6 m c)⟩, h.2⟩) (run_main m ρ)

end Cert.Kernel.Hand

end
-- ==== Proof.Lanes.lean ====
/-
  The 1088 staged rows of one sequence against its 131072 cache rows: the visible staged rows, apart from the new key's,
  are exactly the visible cache rows, each once; hence sums and maxima over the one are sums and maxima over the other.
-/
module

public import proofs.«01_k».proof.Proof.Base
public import Idealize.ShloMosaic.Lib.Pointwise

@[expose] public section

set_option maxRecDepth 16384

noncomputable section

namespace Cert.Hand

open Idealize.ShloMosaic

/-- The cache row a staged row was copied from. -/
def laneT (ln : BitVec 32) (l : ℕ) : ℕ := if l < 1056 then (base ln).toNat + l else l - 1056

/-- A cache row is visible: below the length, and among the first four or the last 1024. -/
def RefVis (ln : BitVec 32) (t : ℕ) : Prop := (t : Int) < ln.toInt ∧ (t < 4 ∨ (ln - 1024#32).toInt ≤ (t : Int))

/-- A staged row is visible, the new key's apart. -/
def LaneVis (ln : BitVec 32) (l : ℕ) : Prop :=
  (l < 1056 ∧ ((base ln).toNat + l : Int) < ln.toInt ∧ ((base ln).toNat + l < 4 ∨ (ln - 1024#32).toInt ≤ ((base ln).toNat + l : Int)))
  ∨ (1056 ≤ l ∧ l - 1056 < 4 ∧ (l - 1056 : Int) < ln.toInt ∧ l - 1056 < (base ln).toNat)

instance (ln : BitVec 32) (t : ℕ) : Decidable (RefVis ln t) := by unfold RefVis; infer_instance
instance (ln : BitVec 32) (l : ℕ) : Decidable (LaneVis ln l) := by unfold LaneVis; infer_instance

/-- The start of the window as an integer. -/
theorem base_int (ln : BitVec 32) : (base ln).toNat = (min (130016 : Int) (max 0 (ln - 1024#32).toInt)).toNat / 32 * 32 := by
  rw [base_toNat, clipLen_toNat]

/-- The length less 1024, as an integer, when nothing wraps. -/
theorem sub_toInt (ln : BitVec 32) : (ln - 1024#32).toInt = ln.toInt - 1024 ∨ (ln.toInt < 0 ∧ (ln - 1024#32).toInt = ln.toInt - 1024 + 4294967296) := by
  have h := BitVec.toInt_sub (x := ln) (y := 1024#32)
  have h1 : (1024#32).toInt = 1024 := by decide
  rw [h1] at h
  have h2 := ln.toInt_lt
  have h3 := ln.le_toInt
  rw [h]
  simp only [Int.bmod]
  norm_num at h2 h3 ⊢
  omega

/-- A visible staged row lies before the new key's rows, and its cache row is visible. -/
theorem lane_sound (ln : BitVec 32) (l : ℕ) (h : LaneVis ln l) : l < 1072 ∧ laneT ln l < 131072 ∧ RefVis ln (laneT ln l) := by
  have hb := base_le ln
  unfold LaneVis at h
  unfold RefVis laneT
  split <;> omega

/-- Two visible staged rows of one cache row are the same. -/
theorem lane_inj (ln : BitVec 32) (l l' : ℕ) (h : LaneVis ln l) (h' : LaneVis ln l') (e : laneT ln l = laneT ln l') : l = l' := by
  unfold LaneVis at h h'
  unfold laneT at e
  split at e <;> split at e <;> omega

/-- The staged row of a visible cache row. -/
def laneOf (ln : BitVec 32) (t : ℕ) : ℕ := if (base ln).toNat ≤ t then t - (base ln).toNat else 1056 + t

/-- Every visible cache row is staged. -/
theorem lane_complete (ln : BitVec 32) (t : ℕ) (ht : t < 131072) (h : RefVis ln t) : LaneVis ln (laneOf ln t) ∧ laneT ln (laneOf ln t) = t := by
  have hb := base_int ln
  have hs := sub_toInt ln
  unfold RefVis at h
  unfold LaneVis laneT laneOf
  generalize (base ln).toNat = B at *
  generalize (ln - 1024#32).toInt = w at *
  generalize ln.toInt = x at *
  by_cases hB : B ≤ t
  · rw [if_pos hB]
    have : t - B < 1056 := by omega
    rw [if_pos this]
    omega
  · rw [if_neg hB]
    rw [if_neg (by omega)]
    omega

/-- A sum over the staged rows is the sum over the cache rows plus the new key's term. -/
theorem lanes_sum (ln : BitVec 32) (f : Fin 1088 → EReal) (g : Fin 131072 → EReal)
    (hf : ∀ l : Fin 1088, ¬ LaneVis ln l.val → l ≠ 1072 → f l = 0) (hg : ∀ t : Fin 131072, ¬ RefVis ln t.val → g t = 0)
    (hfg : ∀ (l : Fin 1088) (t : Fin 131072), LaneVis ln l.val → laneT ln l.val = t.val → f l = g t) :
    ∑ l, f l = ∑ t, g t + f 1072 := by
  rw [← Finset.sum_erase_add _ _ (Finset.mem_univ (1072 : Fin 1088))]
  refine congrArg (· + f 1072) ?_
  rw [← Finset.sum_subset (s₁ := Finset.univ.filter fun t : Fin 131072 => RefVis ln t.val) (Finset.subset_univ _)
    (fun t _ ht => hg t (by simpa using ht))]
  rw [← Finset.sum_subset (s₁ := Finset.univ.filter fun l : Fin 1088 => LaneVis ln l.val)
    (fun l hl => Finset.mem_erase.2 ⟨fun e => by
      have := (lane_sound ln l.val (by simpa using hl)).1
      rw [e] at this
      exact absurd this (by decide), Finset.mem_univ _⟩)
    (fun l hl hn => hf l (by simpa using hn) (Finset.ne_of_mem_erase hl))]
  refine Finset.sum_bij (fun l hl => (⟨laneT ln l.val, (lane_sound ln l.val (by simpa using hl)).2.1⟩ : Fin 131072)) ?_ ?_ ?_ ?_
  · intro l hl
    simpa using (lane_sound ln l.val (by simpa using hl)).2.2
  · intro l hl l' hl' e
    exact Fin.ext (lane_inj ln _ _ (by simpa using hl) (by simpa using hl') (by simpa using e))
  · intro t ht
    have h := lane_complete ln t.val t.isLt (by simpa using ht)
    have h1 := (lane_sound ln _ h.1).1
    refine ⟨⟨laneOf ln t.val, by omega⟩, by simpa using h.1, Fin.ext h.2⟩
  · intro l hl
    exact hfg _ _ (by simpa using hl) rfl

/-- A maximum, read as a supremum. -/
theorem fold_max_eq {ι : Type} [Fintype ι] (f : ι → EReal) : Finset.univ.fold max ⊥ f = Finset.univ.sup f := rfl

/-- A maximum over the staged rows is the larger of the maximum over the cache rows and the new key's term. -/
theorem lanes_max (ln : BitVec 32) (f : Fin 1088 → EReal) (g : Fin 131072 → EReal)
    (hf : ∀ l : Fin 1088, ¬ LaneVis ln l.val → l ≠ 1072 → f l = ⊥) (hg : ∀ t : Fin 131072, ¬ RefVis ln t.val → g t = ⊥)
    (hfg : ∀ (l : Fin 1088) (t : Fin 131072), LaneVis ln l.val → laneT ln l.val = t.val → f l = g t) :
    Finset.univ.fold max ⊥ f = max (Finset.univ.fold max ⊥ g) (f 1072) := by
  rw [fold_max_eq, fold_max_eq]
  refine le_antisymm (Finset.sup_le fun l _ => ?_) (max_le (Finset.sup_le fun t _ => ?_) (Finset.le_sup (f := f) (Finset.mem_univ _)))
  · by_cases h : l = 1072
    · rw [h]; exact le_max_right _ _
    by_cases hv : LaneVis ln l.val
    · rw [hfg l ⟨laneT ln l.val, (lane_sound ln l.val hv).2.1⟩ hv rfl]
      exact le_max_of_le_left (Finset.le_sup (f := g) (Finset.mem_univ _))
    · rw [hf l hv h]; exact bot_le
  · by_cases hv : RefVis ln t.val
    · have h := lane_complete ln t.val t.isLt hv
      have h1 := (lane_sound ln _ h.1).1
      rw [← hfg ⟨laneOf ln t.val, by omega⟩ t h.1 h.2]
      exact Finset.le_sup (f := f) (Finset.mem_univ _)
    · rw [hg t hv]; exact bot_le

/-- The pattern of minus infinity is the least extended real. -/
theorem ofBits_neg_inf : Ideal.ofBits .f32 0xFF800000#32 = ⊥ := by
  simp [Ideal.ofBits, Ideal.ieee]

/-- The pattern of 448 is not negative. -/
theorem ofBits_448_nonneg : (0 : EReal) ≤ Ideal.ofBits .f32 0x43E00000#32 := by
  simp [Ideal.ofBits, Ideal.ieee, -EReal.coe_mul]

/-- The exponential of minus infinity less anything is zero. -/
theorem exp_bot_sub (x : EReal) : Ideal.exp (⊥ - x) = 0 := by
  rw [EReal.bot_sub]; rfl

/-- The staged rows' softmax: the cache's part of the output at one lane, from the masked scores `s` and the values `v`. -/
def kOC (s v : Fin 1088 → EReal) (c448 c1 vs : EReal) : EReal :=
  (∑ l, (if l = 1072 then 0 else min (Ideal.exp (s l - Finset.univ.fold max ⊥ s) * c448) c448) * v l) * c1 * vs
    * Ideal.div 1 (∑ l, Ideal.exp (s l - Finset.univ.fold max ⊥ s))
/-- The staged rows' softmax: the whole output at one lane. -/
def kO (s v : Fin 1088 → EReal) (c448 c1 vs vn : EReal) : EReal :=
  kOC s v c448 c1 vs + Ideal.exp (s 1072 - Finset.univ.fold max ⊥ s) * vn * Ideal.div 1 (∑ l, Ideal.exp (s l - Finset.univ.fold max ⊥ s))
/-- The cache rows' softmax: the cache's part of the output at one lane, from the masked scores `s`, the new key's score `sn` and the values `v`. -/
def rOC (s v : Fin 131072 → EReal) (sn c448 c1 vs : EReal) : EReal :=
  (∑ t, v t * min (Ideal.exp (s t - max (Finset.univ.fold max ⊥ s) sn) * c448) c448) * c1 * vs
    * Ideal.div 1 (∑ t, Ideal.exp (s t - max (Finset.univ.fold max ⊥ s) sn) + Ideal.exp (sn - max (Finset.univ.fold max ⊥ s) sn))
/-- The cache rows' softmax: the whole output at one lane. -/
def rO (s v : Fin 131072 → EReal) (sn c448 c1 vs vn : EReal) : EReal :=
  rOC s v sn c448 c1 vs + Ideal.exp (sn - max (Finset.univ.fold max ⊥ s) sn) * vn
    * Ideal.div 1 (∑ t, Ideal.exp (s t - max (Finset.univ.fold max ⊥ s) sn) + Ideal.exp (sn - max (Finset.univ.fold max ⊥ s) sn))

section Row
variable (ln : BitVec 32) (s v : Fin 1088 → EReal) (S V : Fin 131072 → EReal)
  (hs : ∀ l : Fin 1088, ¬ LaneVis ln l.val → l ≠ 1072 → s l = ⊥) (hS : ∀ t : Fin 131072, ¬ RefVis ln t.val → S t = ⊥)
  (hsS : ∀ (l : Fin 1088) (t : Fin 131072), LaneVis ln l.val → laneT ln l.val = t.val → s l = S t)
  (hvV : ∀ (l : Fin 1088) (t : Fin 131072), LaneVis ln l.val → laneT ln l.val = t.val → v l = V t)
include hs hS hsS

/-- The softmax's denominators agree. -/
theorem row_den (M : EReal) : ∑ l, Ideal.exp (s l - M) = ∑ t, Ideal.exp (S t - M) + Ideal.exp (s 1072 - M) :=
  lanes_sum ln _ _ (fun l h hn => by rw [hs l h hn, exp_bot_sub]) (fun t h => by rw [hS t h, exp_bot_sub])
    (fun l t h e => by rw [hsS l t h e])

include hvV in
/-- The codes against the values agree: an invisible row's code is zero, and so is the new key's. -/
theorem row_acc (M c448 : EReal) (h448 : 0 ≤ c448) :
    ∑ l, (if l = 1072 then 0 else min (Ideal.exp (s l - M) * c448) c448) * v l = ∑ t, V t * min (Ideal.exp (S t - M) * c448) c448 := by
  have z : min ((0 : EReal) * c448) c448 = 0 := by rw [zero_mul, min_eq_left h448]
  rw [lanes_sum ln (fun l => (if l = 1072 then 0 else min (Ideal.exp (s l - M) * c448) c448) * v l)
    (fun t => V t * min (Ideal.exp (S t - M) * c448) c448)
    (fun l h hn => by rw [if_neg hn, hs l h hn, exp_bot_sub, z, zero_mul])
    (fun t h => by rw [hS t h, exp_bot_sub, z, mul_zero])
    (fun l t h e => by
      rw [if_neg (fun e' => by
        have := (lane_sound ln l.val h).1
        rw [e'] at this
        exact absurd this (by decide)), hsS l t h e, hvV l t h e, mul_comm])]
  rw [if_pos rfl, zero_mul, add_zero]

/-- The softmax's maxima agree. -/
theorem row_max : Finset.univ.fold max ⊥ s = max (Finset.univ.fold max ⊥ S) (s 1072) := lanes_max ln s S hs hS hsS

include hvV in
/-- The cache's part of the output is the same from the staged rows and from the cache rows. -/
theorem row_oc (c448 c1 vs : EReal) (h448 : 0 ≤ c448) : kOC s v c448 c1 vs = rOC S V (s 1072) c448 c1 vs := by
  unfold kOC rOC
  rw [row_max ln s S hs hS hsS, row_acc ln s v S V hs hS hsS hvV _ _ h448, row_den ln s S hs hS hsS]

include hvV in
/-- The whole output is the same from the staged rows and from the cache rows. -/
theorem row_o (c448 c1 vs vn : EReal) (h448 : 0 ≤ c448) : kO s v c448 c1 vs vn = rO S V (s 1072) c448 c1 vs vn := by
  unfold kO rO
  rw [row_oc ln s v S V hs hS hsS hvV _ _ _ h448, row_max ln s S hs hS hsS, row_den ln s S hs hS hsS]
end Row

/-! ## Words -/

/-- A selection, as a conditional. -/
theorem select_eq {α : Type} (c : BitVec 1) (a b : α) : Scalar.select c a b = if c = 1#1 then a else b := rfl
/-- A disjunction of bits is set when one of them is. -/
theorem ori_one (a b : BitVec 1) : IntOp.ori a b = 1#1 ↔ a = 1#1 ∨ b = 1#1 := by
  revert a b; decide
/-- A conjunction of bits is set when both are. -/
theorem andi_one (a b : BitVec 1) : IntOp.andi a b = 1#1 ↔ a = 1#1 ∧ b = 1#1 := by
  revert a b; decide
/-- A truth value's bit is set when it holds. -/
theorem ofBool_one (b : Bool) : BitVec.ofBool b = 1#1 ↔ b = true := by cases b <;> decide
/-- The signed comparison `<`, as one of integers. -/
theorem slt_one {w : ℕ} (a b : BitVec w) : IntOp.cmpi .slt a b = 1#1 ↔ a.toInt < b.toInt := by
  unfold IntOp.cmpi
  rw [ofBool_one]
  exact BitVec.slt_iff_toInt_lt
/-- The signed comparison `≥`, as one of integers. -/
theorem sge_one {w : ℕ} (a b : BitVec w) : IntOp.cmpi .sge a b = 1#1 ↔ b.toInt ≤ a.toInt := by
  unfold IntOp.cmpi
  rw [ofBool_one]
  exact BitVec.sle_iff_toInt_le
/-- The comparison `=`, as equality. -/
theorem eq_one {w : ℕ} (a b : BitVec w) : IntOp.cmpi .eq a b = 1#1 ↔ a = b := by
  unfold IntOp.cmpi
  rw [ofBool_one]
  exact beq_iff_eq
/-- The signed minimum, as one of integers. -/
theorem minsi_toInt (a b : BitVec 32) : (Scalar.minsi a b).toInt = min a.toInt b.toInt := by
  unfold Scalar.minsi IntOp.minsi
  simp only [BitVec.slt_iff_toInt_lt, BitVec.sle_iff_toInt_le]
  split <;> omega
/-- A small number's word reads back as itself. -/
theorem toInt_small (n : ℕ) (h : n < 2 ^ 31) : (BitVec.ofNat 32 n).toInt = n := by
  rw [BitVec.toInt_ofNat']
  simp only [Int.bmod]
  norm_num at h ⊢
  omega
/-- The window's base is not negative. -/
theorem toInt_base (ln : BitVec 32) : (base ln).toInt = (base ln).toNat := by
  have := base_le ln
  rw [BitVec.toInt_eq_toNat_of_lt (by omega)]

/-- The kernel's word test of a staged row is `LaneVis`, or the row is the new key's. -/
theorem lane_word (ln : BitVec 32) (l : ℕ) (hl : l < 1088) :
    IntOp.ori (IntOp.ori
        (IntOp.andi (IntOp.andi (IntOp.cmpi .slt (BitVec.ofNat 32 l) 1056#32) (IntOp.cmpi .slt (IntOp.addi (base ln) (BitVec.ofNat 32 l)) ln))
          (IntOp.ori (IntOp.cmpi .slt (IntOp.addi (base ln) (BitVec.ofNat 32 l)) 4#32)
            (IntOp.cmpi .sge (IntOp.addi (base ln) (BitVec.ofNat 32 l)) (Scalar.subi ln 1024#32))))
        (IntOp.andi (IntOp.cmpi .sge (IntOp.subi (BitVec.ofNat 32 l) 1056#32) 0#32)
          (IntOp.cmpi .slt (IntOp.subi (BitVec.ofNat 32 l) 1056#32) (Scalar.minsi (Scalar.minsi (4#32) ln) (base ln)))))
      (IntOp.cmpi .eq (BitVec.ofNat 32 l) 1072#32) = 1#1 ↔ LaneVis ln l ∨ l = 1072 := by
  have hb := base_le ln
  have e1 : (IntOp.addi (base ln) (BitVec.ofNat 32 l)).toInt = ((base ln).toNat : Int) + l := by
    unfold IntOp.addi
    rw [BitVec.toInt_add, toInt_base, toInt_small l (by omega)]
    simp only [Int.bmod]
    norm_num
    omega
  have e2 : (IntOp.subi (BitVec.ofNat 32 l) 1056#32).toInt = (l : Int) - 1056 := by
    unfold IntOp.subi
    rw [BitVec.toInt_sub, toInt_small l (by omega), show (1056#32).toInt = 1056 from by decide]
    simp only [Int.bmod]
    norm_num
    omega
  have e3 : BitVec.ofNat 32 l = 1072#32 ↔ l = 1072 := by
    constructor
    · intro h
      have := congrArg BitVec.toNat h
      simp only [BitVec.toNat_ofNat] at this
      omega
    · rintro rfl; rfl
  rw [ori_one, ori_one, andi_one, andi_one, ori_one, andi_one, eq_one, sge_one, sge_one, slt_one, slt_one, slt_one, slt_one, e1, e2, e3,
    minsi_toInt, minsi_toInt, toInt_base, toInt_small l (by omega), show (1056#32).toInt = 1056 from by decide, show (4#32).toInt = 4 from by decide,
    show (0#32).toInt = 0 from by decide]
  unfold LaneVis Scalar.subi IntOp.subi
  omega

/-- The reference's word test of a cache row is `RefVis`. -/
theorem ref_word (ln : BitVec 32) (t : ℕ) (ht : t < 131072) :
    IntOp.andi (IntOp.cmpi .slt (BitVec.ofNat 32 t) ln)
      (IntOp.ori (IntOp.cmpi .slt (BitVec.ofNat 32 t) 4#32) (IntOp.cmpi .sge (BitVec.ofNat 32 t) (IntOp.subi ln 1024#32))) = 1#1 ↔ RefVis ln t := by
  rw [andi_one, ori_one, slt_one, slt_one, sge_one, toInt_small t (by omega), show (4#32).toInt = 4 from by decide]
  unfold RefVis IntOp.subi
  omega

end Cert.Hand
-- ==== Proof.Value.lean ====
/-
  What the kernel's pieces are over the extended reals, at an index.
-/
module

public import proofs.«01_k».proof.Proof.Result
public import proofs.«01_k».proof.Proof.Lanes
public import Idealize.ShloMosaic.Lib.Pointwise

@[expose] public section

set_option maxRecDepth 16384

noncomputable section

namespace Cert.KernelIdeal.Hand

open Cert.Hand Cert.KernelIdeal Cert.KernelIdeal.Gen
open Idealize.ShloMosaic Idealize.ShloMosaic.TcCoe
open Idealize.SL.Sem

/-- A head of the pair's first group is a row. -/
theorem row0_lt (j : Fin 8) : j.val < 16 := by omega
/-- A head of the pair's second group is a row. -/
theorem row1_lt (j : Fin 8) : 8 + j.val < 16 := by omega

/-- The scores of the first head group of a pair: the other group's half contributes nothing. -/
theorem scG_0 (q0 q1 : FVec Ideal S8x128 .f32) (k0 k1 : FVec Ideal S1x1x1088x128 .bf16) (j : Fin 8) (l : Fin 1088) :
    scG (F := Ideal) q0 q1 k0 k1 (ix2 (⟨j.val, row0_lt j⟩ : Fin 16) l) = ∑ d : Fin 128, q0 (ix2 j d) * k0 (ix4 (0 : Fin 1) (0 : Fin 1) l d) := by
  pointwise [scG, k0_pay79, k0_pay78]
  simp only [zero_mul, Finset.sum_const_zero, add_zero]

/-- The scores of the second head group of a pair: the other group's half contributes nothing. -/
theorem scG_1 (q0 q1 : FVec Ideal S8x128 .f32) (k0 k1 : FVec Ideal S1x1x1088x128 .bf16) (j : Fin 8) (l : Fin 1088) :
    scG (F := Ideal) q0 q1 k0 k1 (ix2 (⟨8 + j.val, row1_lt j⟩ : Fin 16) l) = ∑ d : Fin 128, q1 (ix2 j d) * k1 (ix4 (0 : Fin 1) (0 : Fin 1) l d) := by
  pointwise [scG, k0_pay79, k0_pay78]
  simp only [zero_mul, Finset.sum_const_zero, zero_add]

/-- Which staged rows are visible. -/
theorem visG_at (ln : BitVec 32) (r : Fin 16) (l : Fin 1088) :
    visG (F := Ideal) ln (ix2 r l) = 1#1 ↔ LaneVis ln l.val ∨ l = 1072 := by
  have h := lane_word ln l.val l.isLt
  pointwise [visG, k0_pay86]
  rw [h]
  exact or_congr_right ⟨fun e => Fin.ext e, fun e => by rw [e]; rfl⟩

/-- One row's masked scores. -/
def mS (sc : FVec Ideal S16x1088 .f32) (ln : BitVec 32) (r : Fin 16) (l : Fin 1088) : EReal :=
  if LaneVis ln l.val ∨ l = 1072 then sc (ix2 r l) * Ideal.ofBits .f32 0x3DB504F3#32 else ⊥

/-- A select on visibility is the masked score. -/
theorem sel_at (sc : FVec Ideal S16x1088 .f32) (ln : BitVec 32) (r : Fin 16) (l : Fin 1088) :
    Scalar.select (visG (F := Ideal) ln (ix2 r l)) (sc (ix2 r l) * Ideal.ofBits .f32 0x3DB504F3#32) (Ideal.ofBits .f32 0xFF800000#32) = mS sc ln r l := by
  unfold mS
  rw [select_eq, ofBits_neg_inf]
  by_cases h : LaneVis ln l.val ∨ l = 1072
  · rw [if_pos h, if_pos ((visG_at ln r l).2 h)]
  · rw [if_neg h, if_neg (fun e => h ((visG_at ln r l).1 e))]

/-- The exponentials of the masked scores less their maximum. -/
theorem pay87_at (sc : FVec Ideal S16x1088 .f32) (ln : BitVec 32) (r : Fin 16) (l : Fin 1088) :
    k0_pay87 (F := Ideal) sc (visG (F := Ideal) ln) (Ideal.ofBits .f32 0x3DB504F3#32) (ix2 r l)
      = Ideal.exp (mS sc ln r l - Finset.univ.fold max ⊥ (mS sc ln r)) := by
  pointwise [k0_pay87]
  simp only [sel_at]
  rw [ofBits_neg_inf]

/-- One row's inverse sum. -/
theorem ilG_at (sc : FVec Ideal S16x1088 .f32) (ln : BitVec 32) (r : Fin 16) :
    ilG (F := Ideal) sc (visG (F := Ideal) ln) (ix2 r (0 : Fin 1))
      = Ideal.div 1 (∑ l, Ideal.exp (mS sc ln r l - Finset.univ.fold max ⊥ (mS sc ln r))) := by
  pointwise [ilG, k0_pay89]
  simp only [pay87_at]

/-- One row's weight of the new key. -/
theorem pnG_at (sc : FVec Ideal S16x1088 .f32) (ln : BitVec 32) (r : Fin 16) :
    pnG (F := Ideal) sc (visG (F := Ideal) ln) (ix2 r (0 : Fin 1)) = Ideal.exp (mS sc ln r 1072 - Finset.univ.fold max ⊥ (mS sc ln r)) := by
  pointwise [pnG, k0_pay88]
  exact pay87_at sc ln r 1072

/-- One row's codes: zero at the new key's lane. -/
theorem cdG_at (sc : FVec Ideal S16x1088 .f32) (ln : BitVec 32) (r : Fin 16) (l : Fin 1088) :
    cdG (F := Ideal) sc (visG (F := Ideal) ln) (ix2 (⟨r.val, by omega⟩ : Fin 32) l)
      = if l = 1072 then 0 else min (Ideal.exp (mS sc ln r l - Finset.univ.fold max ⊥ (mS sc ln r)) * Ideal.ofBits .f32 0x43E00000#32) (Ideal.ofBits .f32 0x43E00000#32) := by
  have h : IntOp.cmpi .eq (BitVec.ofNat 32 l.val) 1072#32 = 1#1 ↔ l = 1072 := by
    rw [eq_one]
    constructor
    · intro h
      have := congrArg BitVec.toNat h
      simp only [BitVec.toNat_ofNat] at this
      refine Fin.ext ?_
      show l.val = 1072
      omega
    · rintro rfl; rfl
  pointwise [cdG, k0_pay90]
  simp only [pay87_at]
  rw [select_eq]
  by_cases e : l = 1072
  · rw [if_pos e, if_pos (h.2 e)]
  · rw [if_neg e, if_neg (fun e' => e (h.1 e'))]

/-- The pair's first group: the second product, scaled, at one lane. -/
theorem ocG0_at (il : FVec Ideal S16x1 .f32) (cd : FVec Ideal S32x1088 .fp8e4m3) (v0 v1 : FVec Ideal S1x1x1088x128 .fp8e4m3) (vs : FVec Ideal S1x1x128 .f32) (j : Fin 8) (d : Fin 128) :
    ocG0 (F := Ideal) il cd v0 v1 vs (ix3 (0 : Fin 1) j d)
      = (∑ l, cd (ix2 (⟨j.val, by omega⟩ : Fin 32) l) * v0 (ix4 (0 : Fin 1) (0 : Fin 1) l d)) * Ideal.ofBits .f32 0x3B124925#32
          * vs (ix3 (0 : Fin 1) (0 : Fin 1) d) * il (ix2 (⟨j.val, row0_lt j⟩ : Fin 16) (0 : Fin 1)) := by
  pointwise [ocG0, k0_pay149, k0_pay145, k0_pay147, k0_pay148, k0_pay144]

/-- The pair's second group: the second product, scaled, at one lane. -/
theorem ocG1_at (il : FVec Ideal S16x1 .f32) (cd : FVec Ideal S32x1088 .fp8e4m3) (v0 v1 : FVec Ideal S1x1x1088x128 .fp8e4m3) (vs : FVec Ideal S1x1x128 .f32) (j : Fin 8) (d : Fin 128) :
    ocG1 (F := Ideal) il cd v0 v1 vs (ix3 (0 : Fin 1) j d)
      = (∑ l, cd (ix2 (⟨8 + j.val, by omega⟩ : Fin 32) l) * v1 (ix4 (0 : Fin 1) (0 : Fin 1) l d)) * Ideal.ofBits .f32 0x3B124925#32
          * vs (ix3 (0 : Fin 1) (0 : Fin 1) d) * il (ix2 (⟨8 + j.val, row1_lt j⟩ : Fin 16) (0 : Fin 1)) := by
  pointwise [ocG1, k0_pay154, k0_pay153, k0_pay151, accG, k0_pay144]

/-- The pair's first group: the output at one lane. -/
theorem oG0_at (il pn : FVec Ideal S16x1 .f32) (cd : FVec Ideal S32x1088 .fp8e4m3) (v0 v1 : FVec Ideal S1x1x1088x128 .fp8e4m3) (vs : FVec Ideal S1x1x128 .f32)
    (vn : FVec Ideal S1x1x128 .bf16) (j : Fin 8) (d : Fin 128) :
    oG0 (F := Ideal) il pn cd v0 v1 vs vn (ix2 j d)
      = (∑ l, cd (ix2 (⟨j.val, by omega⟩ : Fin 32) l) * v0 (ix4 (0 : Fin 1) (0 : Fin 1) l d)) * Ideal.ofBits .f32 0x3B124925#32
          * vs (ix3 (0 : Fin 1) (0 : Fin 1) d) * il (ix2 (⟨j.val, row0_lt j⟩ : Fin 16) (0 : Fin 1))
        + pn (ix2 (⟨j.val, row0_lt j⟩ : Fin 16) (0 : Fin 1)) * vn (ix3 (0 : Fin 1) (0 : Fin 1) d) * il (ix2 (⟨j.val, row0_lt j⟩ : Fin 16) (0 : Fin 1)) := by
  pointwise [oG0, k0_pay150, k0_pay145, k0_pay146, k0_pay147, k0_pay148, k0_pay144]

/-- The pair's second group: the output at one lane. -/
theorem oG1_at (il pn : FVec Ideal S16x1 .f32) (cd : FVec Ideal S32x1088 .fp8e4m3) (v0 v1 : FVec Ideal S1x1x1088x128 .fp8e4m3) (vs : FVec Ideal S1x1x128 .f32)
    (vn : FVec Ideal S1x1x128 .bf16) (j : Fin 8) (d : Fin 128) :
    oG1 (F := Ideal) il pn cd v0 v1 vs vn (ix2 j d)
      = (∑ l, cd (ix2 (⟨8 + j.val, by omega⟩ : Fin 32) l) * v1 (ix4 (0 : Fin 1) (0 : Fin 1) l d)) * Ideal.ofBits .f32 0x3B124925#32
          * vs (ix3 (0 : Fin 1) (0 : Fin 1) d) * il (ix2 (⟨8 + j.val, row1_lt j⟩ : Fin 16) (0 : Fin 1))
        + pn (ix2 (⟨8 + j.val, row1_lt j⟩ : Fin 16) (0 : Fin 1)) * vn (ix3 (0 : Fin 1) (0 : Fin 1) d) * il (ix2 (⟨8 + j.val, row1_lt j⟩ : Fin 16) (0 : Fin 1)) := by
  pointwise [oG1, k0_pay156, k0_pay155, k0_pay152, k0_pay153, k0_pay151, accG, k0_pay144]

/-! ## The four results of one sequence and one pair of head groups -/

section Closed
variable (L : S3.Idx → BitVec 32) (X : S3x6144.Idx → EReal) (KN VN VS : S3x6x128.Idx → EReal) (K W : S3x6x131072x128.Idx → EReal)

/-- A head's lane is a lane. -/
theorem col_lt (g : Fin 6) (j : Fin 8) (d : Fin 128) : 128 * (8 * g.val + j.val) + d.val < 6144 := by omega

/-- The staged queries are the queries. -/
theorem qC_at (b : Fin 3) (g : ℕ) (hg : g < 6) (j : Fin 8) (d : Fin 128) :
    qC (F := Ideal) X b g hg (ix2 j d) = X (ix2 b (⟨128 * (8 * g + j.val) + d.val, col_lt ⟨g, hg⟩ j d⟩ : Fin 6144)) := by
  unfold qC g7
  pointwise [k0_pay29]
  refine congrArg X ?_
  idx_ext <;> omega

/-- A staged key's row: the cache's row it was copied from, or the new key. -/
def keyAt (b : Fin 3) (g : Fin 6) (l : Fin 1088) (d : Fin 128) : EReal :=
  if h : l.val < 1056 then K (ix4 b g (⟨(base (lnC L b)).toNat + l.val, win_lt _ l h⟩ : Fin 131072) d)
  else if l.val < 1072 then K (ix4 b g (⟨l.val - 1056, by omega⟩ : Fin 131072) d)
  else KN (ix3 b g d)

/-- Over the extended reals a staged key is the cache's, cast or not. -/
theorem kAt_eq (b : Fin 3) (g : Fin 6) (l : Fin 1088) (d : Fin 128) : kAt (F := Ideal) L KN K b g l d = keyAt L KN K b g l d := by
  unfold kAt keyAt
  pointwise [k0_pay1]

/-- One row's masked scores, from the arguments. -/
def lS (b : Fin 3) (g : Fin 6) (j : Fin 8) (l : Fin 1088) : EReal :=
  if LaneVis (lnC L b) l.val ∨ l = 1072 then
    (∑ d : Fin 128, X (ix2 b (⟨128 * (8 * g.val + j.val) + d.val, col_lt g j d⟩ : Fin 6144)) * keyAt L KN K b g l d) * Ideal.ofBits .f32 0x3DB504F3#32
  else ⊥

/-- The masked scores of the pair's first group. -/
theorem mS_0 (b p : Fin 3) (j : Fin 8) :
    mS (scC (F := Ideal) L X KN K b p) (lnC L b) (⟨j.val, row0_lt j⟩ : Fin 16) = lS L X KN K b (⟨2 * p.val, g0_lt p⟩ : Fin 6) j := by
  funext l
  unfold mS lS scC
  rw [scG_0]
  simp only [qC_at]
  simp only [kC, ix4_2, ix4_3, kAt_eq]

/-- The masked scores of the pair's second group. -/
theorem mS_1 (b p : Fin 3) (j : Fin 8) :
    mS (scC (F := Ideal) L X KN K b p) (lnC L b) (⟨8 + j.val, row1_lt j⟩ : Fin 16) = lS L X KN K b (⟨2 * p.val + 1, g1_lt p⟩ : Fin 6) j := by
  funext l
  unfold mS lS scC
  rw [scG_1]
  simp only [qC_at]
  simp only [kC, ix4_2, ix4_3, kAt_eq]

/-- The codes' largest value. -/
abbrev k448 : EReal := Ideal.ofBits .f32 0x43E00000#32
/-- Its inverse. -/
abbrev kinv : EReal := Ideal.ofBits .f32 0x3B124925#32

/-- The cache's part of the output for the pair's first group, over the lanes. -/
theorem ocC0_at (b p : Fin 3) (j : Fin 8) (d : Fin 128) :
    ocC0 (F := Ideal) L X KN VS K W b p (ix3 (0 : Fin 1) j d)
      = kOC (lS L X KN K b (⟨2 * p.val, g0_lt p⟩ : Fin 6) j) (fun l => vAt (F := Ideal) L W b (⟨2 * p.val, g0_lt p⟩ : Fin 6) l d) k448 kinv (VS (ix3 b (⟨2 * p.val, g0_lt p⟩ : Fin 6) d)) := by
  unfold ocC0 kOC ilC cdC
  rw [ocG0_at, ilG_at, mS_0]
  simp only [cdG_at _ _ (⟨j.val, row0_lt j⟩ : Fin 16), mS_0]
  rfl

/-- The cache's part of the output for the pair's second group, over the lanes. -/
theorem ocC1_at (b p : Fin 3) (j : Fin 8) (d : Fin 128) :
    ocC1 (F := Ideal) L X KN VS K W b p (ix3 (0 : Fin 1) j d)
      = kOC (lS L X KN K b (⟨2 * p.val + 1, g1_lt p⟩ : Fin 6) j) (fun l => vAt (F := Ideal) L W b (⟨2 * p.val + 1, g1_lt p⟩ : Fin 6) l d) k448 kinv (VS (ix3 b (⟨2 * p.val + 1, g1_lt p⟩ : Fin 6) d)) := by
  unfold ocC1 kOC ilC cdC
  rw [ocG1_at, ilG_at, mS_1]
  simp only [cdG_at _ _ (⟨8 + j.val, row1_lt j⟩ : Fin 16), mS_1]
  rfl

/-- The output for the pair's first group, over the lanes. -/
theorem oC0_at (b p : Fin 3) (j : Fin 8) (d : Fin 128) :
    oC0 (F := Ideal) L X KN VN VS K W b p (ix2 j d)
      = kO (lS L X KN K b (⟨2 * p.val, g0_lt p⟩ : Fin 6) j) (fun l => vAt (F := Ideal) L W b (⟨2 * p.val, g0_lt p⟩ : Fin 6) l d) k448 kinv (VS (ix3 b (⟨2 * p.val, g0_lt p⟩ : Fin 6) d)) (VN (ix3 b (⟨2 * p.val, g0_lt p⟩ : Fin 6) d)) := by
  unfold oC0 kO kOC ilC cdC pnC
  rw [oG0_at, ilG_at, pnG_at, mS_0]
  simp only [cdG_at _ _ (⟨j.val, row0_lt j⟩ : Fin 16), mS_0]
  rfl

/-- The output for the pair's second group, over the lanes. -/
theorem oC1_at (b p : Fin 3) (j : Fin 8) (d : Fin 128) :
    oC1 (F := Ideal) L X KN VN VS K W b p (ix2 j d)
      = kO (lS L X KN K b (⟨2 * p.val + 1, g1_lt p⟩ : Fin 6) j) (fun l => vAt (F := Ideal) L W b (⟨2 * p.val + 1, g1_lt p⟩ : Fin 6) l d) k448 kinv (VS (ix3 b (⟨2 * p.val + 1, g1_lt p⟩ : Fin 6) d)) (VN (ix3 b (⟨2 * p.val + 1, g1_lt p⟩ : Fin 6) d)) := by
  unfold oC1 kO kOC ilC cdC pnC
  rw [oG1_at, ilG_at, pnG_at, mS_1]
  simp only [cdG_at _ _ (⟨8 + j.val, row1_lt j⟩ : Fin 16), mS_1]
  rfl

end Closed

end Cert.KernelIdeal.Hand
-- ==== Proof.Spec.lean ====
/-
  What both programs compute, from the argument arrays: attention of one decoded token over the visible rows of its cache
  and its own key, with the probabilities' codes against the values' codes.
-/
module

public import proofs.«01_k».proof.Proof.Lanes

@[expose] public section

set_option maxRecDepth 16384

noncomputable section

namespace Cert.Hand

open Idealize.ShloMosaic

/-- The codes' largest value. -/
abbrev k448 : EReal := Ideal.ofBits .f32 0x43E00000#32
/-- Its inverse. -/
abbrev kinv : EReal := Ideal.ofBits .f32 0x3B124925#32
/-- The scores' scale. -/
abbrev kscale : EReal := Ideal.ofBits .f32 0x3DB504F3#32

/-- A head's lane is a lane. -/
theorem col_lt (g : Fin 6) (j : Fin 8) (d : Fin 128) : 128 * (8 * g.val + j.val) + d.val < 6144 := by omega
/-- The lane of head `j` of group `g` at `d`. -/
def col (g : Fin 6) (j : Fin 8) (d : Fin 128) : Fin 6144 := ⟨128 * (8 * g.val + j.val) + d.val, col_lt g j d⟩

section Spec
variable (A0 : (⟨3, ![3, 1, 6144]⟩ : Shape).Idx → EReal) (A1 A2 : (⟨4, ![3, 1, 6, 128]⟩ : Shape).Idx → EReal)
  (A3 A4 : (⟨4, ![3, 131072, 6, 128]⟩ : Shape).Idx → EReal) (A5 : (⟨3, ![3, 6, 128]⟩ : Shape).Idx → EReal)
  (A6 : (⟨1, ![3]⟩ : Shape).Idx → BitVec 32)

/-- One head's masked scores over the cache. -/
def sRow (b : Fin 3) (g : Fin 6) (j : Fin 8) (t : Fin 131072) : EReal :=
  if RefVis (A6 (ix1 b)) t.val then (∑ d : Fin 128, A3 (ix4 b t g d) * A0 (ix3 b (0 : Fin 1) (col g j d))) * kscale else ⊥
/-- One head's score of the new key. -/
def snRow (b : Fin 3) (g : Fin 6) (j : Fin 8) : EReal := (∑ d : Fin 128, A0 (ix3 b (0 : Fin 1) (col g j d)) * A1 (ix4 b (0 : Fin 1) g d)) * kscale
/-- One value lane over the cache. -/
def vRow (b : Fin 3) (g : Fin 6) (d : Fin 128) (t : Fin 131072) : EReal := A4 (ix4 b t g d)
/-- The cache's part of the output. -/
def specOC (b : Fin 3) (g : Fin 6) (j : Fin 8) (d : Fin 128) : EReal :=
  rOC (sRow A0 A3 A6 b g j) (vRow A4 b g d) (snRow A0 A1 b g j) k448 kinv (A5 (ix3 b g d))
/-- The whole output. -/
def specO (b : Fin 3) (g : Fin 6) (j : Fin 8) (d : Fin 128) : EReal :=
  rO (sRow A0 A3 A6 b g j) (vRow A4 b g d) (snRow A0 A1 b g j) k448 kinv (A5 (ix3 b g d)) (A2 (ix4 b (0 : Fin 1) g d))
end Spec

/-- Every lane is a head's lane. -/
theorem col_surj (n : Fin 6144) : ∃ (g : Fin 6) (j : Fin 8) (d : Fin 128), n = col g j d :=
  ⟨⟨n.val / 1024, by omega⟩, ⟨n.val / 128 % 8, by omega⟩, ⟨n.val % 128, by omega⟩, Fin.ext (by
    show n.val = 128 * (8 * (n.val / 1024) + n.val / 128 % 8) + n.val % 128
    omega)⟩

end Cert.Hand
-- ==== Proof.KValue.lean ====
/-
  The kernel's two results over the extended reals, from the argument arrays.
-/
module

public import proofs.«01_k».proof.Proof.Value
public import proofs.«01_k».proof.Proof.Launch
public import proofs.«01_k».proof.Proof.Spec

@[expose] public section

set_option maxRecDepth 16384

noncomputable section

namespace Cert.KernelIdeal.Hand

open Cert.Hand Cert.KernelIdeal Cert.KernelIdeal.Gen
open Idealize.ShloMosaic Idealize.ShloMosaic.TcCoe
open Idealize.SL.Sem

section Closed
variable (A0 : (⟨3, ![3, 1, 6144]⟩ : Shape).Idx → EReal) (A1 A2 : (⟨4, ![3, 1, 6, 128]⟩ : Shape).Idx → EReal)
  (A3 A4 : (⟨4, ![3, 131072, 6, 128]⟩ : Shape).Idx → EReal) (A5 : (⟨3, ![3, 6, 128]⟩ : Shape).Idx → EReal)
  (A6 : (⟨1, ![3]⟩ : Shape).Idx → BitVec 32)

/-- The queries without their unit axis. -/
def x2 (y : S3x6144.Idx) : EReal := A0 (ix3 (y 0) (0 : Fin 1) (y 1))
/-- The new key or value without its unit axis. -/
def n3 (A : (⟨4, ![3, 1, 6, 128]⟩ : Shape).Idx → EReal) (y : S3x6x128.Idx) : EReal := A (ix4 (y 0) (0 : Fin 1) (y 1) (y 2))
/-- The cache with its head axis first. -/
def t4 (A : (⟨4, ![3, 131072, 6, 128]⟩ : Shape).Idx → EReal) (y : S3x6x131072x128.Idx) : EReal := A (ix4 (y 0) (y 2) (y 1) (y 3))

/-- The masked staged scores away from the visible rows. -/
theorem lS_hid (b : Fin 3) (g : Fin 6) (j : Fin 8) (l : Fin 1088) (h : ¬ LaneVis (A6 (ix1 b)) l.val) (hn : l ≠ 1072) :
    lS A6 (x2 A0) (n3 A1) (t4 A3) b g j l = ⊥ := if_neg (by rintro (e | e); exacts [h e, hn e])

/-- A hidden position's score. -/
theorem sRow_hid (b : Fin 3) (g : Fin 6) (j : Fin 8) (t : Fin 131072) (h : ¬ RefVis (A6 (ix1 b)) t.val) : sRow A0 A3 A6 b g j t = ⊥ := if_neg h

/-- A visible staged score is its cache row's. -/
theorem lS_vis (b : Fin 3) (g : Fin 6) (j : Fin 8) (l : Fin 1088) (t : Fin 131072) (h : LaneVis (A6 (ix1 b)) l.val)
    (e : laneT (A6 (ix1 b)) l.val = t.val) : lS A6 (x2 A0) (n3 A1) (t4 A3) b g j l = sRow A0 A3 A6 b g j t := by
  have hs := lane_sound _ _ h
  have hk : ∀ d, keyAt A6 (n3 A1) (t4 A3) b g l d = A3 (ix4 b t g d) := fun d => by
    unfold keyAt
    unfold laneT at e
    by_cases hl : l.val < 1056
    · rw [dif_pos hl]
      rw [if_pos hl] at e
      have : (⟨(base (lnC A6 b)).toNat + l.val, win_lt _ l hl⟩ : Fin 131072) = t := Fin.ext e
      rw [this]; rfl
    · rw [dif_neg hl, if_pos hs.1]
      rw [if_neg hl] at e
      have : (⟨l.val - 1056, by omega⟩ : Fin 131072) = t := Fin.ext e
      rw [this]; rfl
  unfold lS sRow
  rw [if_pos (show LaneVis (lnC A6 b) l.val ∨ l = 1072 from Or.inl h), if_pos (by rw [← e]; exact hs.2.2)]
  refine congrArg (· * kscale) (Finset.sum_congr rfl fun d _ => ?_)
  rw [hk, mul_comm]
  rfl

/-- The new key's staged score. -/
theorem lS_new (b : Fin 3) (g : Fin 6) (j : Fin 8) : lS A6 (x2 A0) (n3 A1) (t4 A3) b g j 1072 = snRow A0 A1 b g j := by
  unfold lS snRow
  rw [if_pos (Or.inr rfl)]
  refine congrArg (· * kscale) (Finset.sum_congr rfl fun d _ => ?_)
  unfold keyAt
  rw [dif_neg (by decide), if_neg (by decide)]
  rfl

/-- A visible staged value is its cache row's. -/
theorem vAt_vis (b : Fin 3) (g : Fin 6) (d : Fin 128) (l : Fin 1088) (t : Fin 131072) (h : LaneVis (A6 (ix1 b)) l.val)
    (e : laneT (A6 (ix1 b)) l.val = t.val) : vAt (F := Ideal) A6 (t4 A4) b g l d = vRow A4 b g d t := by
  unfold vAt vRow
  unfold laneT at e
  by_cases hl : l.val < 1056
  · rw [dif_pos hl]
    rw [if_pos hl] at e
    have : (⟨(base (lnC A6 b)).toNat + l.val, win_lt _ l hl⟩ : Fin 131072) = t := Fin.ext e
    rw [this]; rfl
  · rw [dif_neg hl]
    rw [if_neg hl] at e
    have : (⟨l.val - 1056, by omega⟩ : Fin 131072) = t := Fin.ext e
    rw [this]; rfl

/-- One row of the cache's part. -/
theorem kOC_spec (b : Fin 3) (g : Fin 6) (j : Fin 8) (d : Fin 128) :
    kOC (lS A6 (x2 A0) (n3 A1) (t4 A3) b g j) (fun l => vAt (F := Ideal) A6 (t4 A4) b g l d) k448 kinv (A5 (ix3 b g d)) = specOC A0 A1 A3 A4 A5 A6 b g j d := by
  rw [row_oc (A6 (ix1 b)) _ _ (sRow A0 A3 A6 b g j) (vRow A4 b g d) (lS_hid A0 A1 A3 A6 b g j) (sRow_hid A0 A3 A6 b g j) (lS_vis A0 A1 A3 A6 b g j)
    (vAt_vis A4 A6 b g d) _ _ _ ofBits_448_nonneg, lS_new]
  rfl
/-- One row of the whole output. -/
theorem kO_spec (b : Fin 3) (g : Fin 6) (j : Fin 8) (d : Fin 128) :
    kO (lS A6 (x2 A0) (n3 A1) (t4 A3) b g j) (fun l => vAt (F := Ideal) A6 (t4 A4) b g l d) k448 kinv (A5 (ix3 b g d)) (n3 A2 (ix3 b g d)) = specO A0 A1 A2 A3 A4 A5 A6 b g j d := by
  rw [row_o (A6 (ix1 b)) _ _ (sRow A0 A3 A6 b g j) (vRow A4 b g d) (lS_hid A0 A1 A3 A6 b g j) (sRow_hid A0 A3 A6 b g j) (lS_vis A0 A1 A3 A6 b g j)
    (vAt_vis A4 A6 b g d) _ _ _ _ ofBits_448_nonneg, lS_new]
  rfl

/-- A head group is one of a pair's two. -/
theorem pair (g : Fin 6) : ∃ (p : Fin 3) (q : ℕ), q < 2 ∧ g.val = 2 * p.val + q :=
  ⟨⟨g.val / 2, by omega⟩, g.val % 2, by omega, by show g.val = 2 * (g.val / 2) + g.val % 2; omega⟩

/-- The cache's part of the output, at a head's row. -/
theorem outOc_spec (b : Fin 3) (g : Fin 6) (j : Fin 8) (d : Fin 128) (y : S3x48x128.Idx) (y0 : (y 0).val = b.val)
    (y1 : (y 1).val = 8 * g.val + j.val) (y2 : (y 2).val = d.val) :
    outOc (F := Ideal) A6 (x2 A0) (n3 A1) A5 (t4 A3) (t4 A4) y = specOC A0 A1 A3 A4 A5 A6 b g j d := by
  obtain ⟨p, q, hq, e⟩ := pair g
  rw [outOc_row (⟨0, by decide⟩ : Dev nD) _ _ _ _ _ _ b p q hq j d y y0 (by rw [y1, e]) y2, ← kOC_spec]
  obtain rfl | rfl : q = 0 ∨ q = 1 := by omega
  · rw [if_pos rfl, ocC0_at, show (⟨2 * p.val, g0_lt p⟩ : Fin 6) = g from Fin.ext e.symm]
  · rw [if_neg (by decide), ocC1_at, show (⟨2 * p.val + 1, g1_lt p⟩ : Fin 6) = g from Fin.ext e.symm]

/-- The whole output, staged, at a head's row. -/
theorem g8_spec (b : Fin 3) (g : Fin 6) (j : Fin 8) (d : Fin 128) (y : S384x128.Idx) (y0 : (y 0).val = 64 * g.val + b.val + 8 * j.val)
    (y1 : (y 1).val = d.val) :
    g8 (F := Ideal) A6 (x2 A0) (n3 A1) (n3 A2) A5 (t4 A3) (t4 A4) y = specO A0 A1 A2 A3 A4 A5 A6 b g j d := by
  obtain ⟨p, q, hq, e⟩ := pair g
  rw [g8_row (⟨0, by decide⟩ : Dev nD) _ _ _ _ _ _ _ b p q hq j d y (by rw [y0, e]) y1, ← kO_spec]
  obtain rfl | rfl : q = 0 ∨ q = 1 := by omega
  · rw [if_pos rfl, oC0_at, show (⟨2 * p.val, g0_lt p⟩ : Fin 6) = g from Fin.ext e.symm]
  · rw [if_neg (by decide), oC1_at, show (⟨2 * p.val + 1, g1_lt p⟩ : Fin 6) = g from Fin.ext e.symm]

/-- The whole output at a head's lane. -/
theorem outO_spec (b : Fin 3) (g : Fin 6) (j : Fin 8) (d : Fin 128) :
    outO (F := Ideal) A6 (x2 A0) (n3 A1) (n3 A2) A5 (t4 A3) (t4 A4) (ix2 b (col g j d)) = specO A0 A1 A2 A3 A4 A5 A6 b g j d := by
  unfold outO
  pointwise [k0_pay246]
  refine g8_spec A0 A1 A2 A3 A4 A5 A6 b g j d _ ?_ ?_
  · show 8 * ((128 * (8 * g.val + j.val) + d.val) / 128) + b.val = _
    omega
  · show (128 * (8 * g.val + j.val) + d.val) % 128 = d.val
    omega
end Closed

variable (m : (ℓ : Loc nD τ sig) → Buf (Elt Ideal) ℓ) (ρ : Dev nD → PrngReg)

/-- The host's reshape of the queries. -/
theorem V_v0 (c : Dev nD) : V m c main_v0 = x2 (m ((c : Thread nD τ).loc main_arg0)) := by
  simp only [V, V0, hostOps0, List.flatten_cons, List.flatten_nil, List.append_nil]
  after_results
  funext y
  idx_vars y
  pointwise [x2]
/-- The host's reshape of the new keys. -/
theorem V_v1 (c : Dev nD) : V m c main_v1 = n3 (m ((c : Thread nD τ).loc main_arg1)) := by
  simp only [V, V0, hostOps0, List.flatten_cons, List.flatten_nil, List.append_nil]
  after_results
  funext y
  idx_vars y
  pointwise [n3]
/-- The host's reshape of the new values. -/
theorem V_v2 (c : Dev nD) : V m c main_v2 = n3 (m ((c : Thread nD τ).loc main_arg2)) := by
  simp only [V, V0, hostOps0, List.flatten_cons, List.flatten_nil, List.append_nil]
  after_results
  funext y
  idx_vars y
  pointwise [n3]
/-- The host's transpose of the key cache. -/
theorem V_v3 (c : Dev nD) : V m c main_v3 = t4 (m ((c : Thread nD τ).loc main_arg3)) := by
  simp only [V, V0, hostOps0, List.flatten_cons, List.flatten_nil, List.append_nil]
  after_results
  funext y
  idx_vars y
  pointwise [t4]
/-- The host's transpose of the value codes. -/
theorem V_v4 (c : Dev nD) : V m c main_v4 = t4 (m ((c : Thread nD τ).loc main_arg4)) := by
  simp only [V, V0, hostOps0, List.flatten_cons, List.flatten_nil, List.append_nil]
  after_results
  funext y
  idx_vars y
  pointwise [t4]

/-- The first result's array: every head's lane of the whole output. -/
theorem final_v6 (c : Dev nD) (b : Fin 3) (g : Fin 6) (j : Fin 8) (d : Fin 128) :
    (final m c (Proc.devRef .tc main_v6) : S3x1x6144.Idx → EReal) (ix3 b (0 : Fin 1) (col g j d))
      = specO (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) b g j d := by
  simp only [final, hostOps1, List.flatten_cons, List.flatten_nil, List.append_nil]
  after_results
  rw [Pipeline.withArrays_of_ne _ c _ _ main_v5_0 (by exact (by decide : ∀ w, Pipeline.arrRef (cfg0.spec) w ≠ main_v5_0)),
    Pipeline.withR_of_mem _ _ _ _ main_v5_0 (by decide), G_0, V_v0, V_v1, V_v2, V_v3, V_v4, V_main_arg5, V_main_arg6]
  pointwise []
  exact outO_spec _ _ _ _ _ _ _ b g j d

/-- The second result's array: every head's lane of the cache's part. -/
theorem final_v7 (c : Dev nD) (b : Fin 3) (g : Fin 6) (j : Fin 8) (d : Fin 128) :
    (final m c (Proc.devRef .tc main_v7) : S3x1x6144.Idx → EReal) (ix3 b (0 : Fin 1) (col g j d))
      = specOC (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) b g j d := by
  simp only [final, hostOps1, List.flatten_cons, List.flatten_nil, List.append_nil]
  after_results
  rw [Pipeline.withArrays_of_ne _ c _ _ main_v5_1 (by exact (by decide : ∀ w, Pipeline.arrRef (cfg0.spec) w ≠ main_v5_1)),
    Pipeline.withR_of_mem _ _ _ _ main_v5_1 (by decide), G_1, V_v0, V_v1, V_v3, V_v4, V_main_arg5, V_main_arg6]
  pointwise []
  refine outOc_spec _ _ _ _ _ _ b g j d _ ?_ ?_ ?_
  · rfl
  · show (128 * (8 * g.val + j.val) + d.val) / 128 = 8 * g.val + j.val
    omega
  · show (128 * (8 * g.val + j.val) + d.val) % 128 = d.val
    omega

/-- The kernel runs, ends with what `final` says in its two results and leaves its arguments. -/
theorem run (ρ : Dev nD → PrngReg) : θ_run defs (onTc (τ := τ) (main (F := Ideal))) ⟨m, fun _ => 0, ρ⟩ (fun r => ∀ c : Dev nD,
      r.2.mem ((c.tc : Thread nD τ).loc main_v6) = final m c (Proc.devRef .tc main_v6)
      ∧ r.2.mem ((c.tc : Thread nD τ).loc main_v7) = final m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h.1 c main_v6 (Pipeline.mem_restRefs_of main_v6 (by decide) (by decide)),
      h.1 c main_v7 (Pipeline.mem_restRefs_of main_v7 (by decide) (by decide)),
      (h.1 c main_arg0 (Pipeline.mem_restRefs_of main_arg0 (by decide) (by decide))).trans (final_main_arg0 m c),
      (h.1 c main_arg1 (Pipeline.mem_restRefs_of main_arg1 (by decide) (by decide))).trans (final_main_arg1 m c),
      (h.1 c main_arg2 (Pipeline.mem_restRefs_of main_arg2 (by decide) (by decide))).trans (final_main_arg2 m c),
      (h.1 c main_arg3 (Pipeline.mem_restRefs_of main_arg3 (by decide) (by decide))).trans (final_main_arg3 m c),
      (h.1 c main_arg4 (Pipeline.mem_restRefs_of main_arg4 (by decide) (by decide))).trans (final_main_arg4 m c),
      (h.1 c main_arg5 (Pipeline.mem_restRefs_of main_arg5 (by decide) (by decide))).trans (final_main_arg5 m c),
      (h.1 c main_arg6 (Pipeline.mem_restRefs_of main_arg6 (by decide) (by decide))).trans (final_main_arg6 m c)⟩) (run_main m ρ)

end Cert.KernelIdeal.Hand
-- ==== Proof.RValue.lean ====
/-
  The reference's two results over the extended reals, from the argument arrays.
-/
module

public import proofs.«01_k».proof.Proof.Gen.ReferenceIdeal.Frame
public import proofs.«01_k».proof.Proof.Spec
public import Idealize.ShloMosaic.Lib.Pipeline.ValueKit

@[expose] public section

set_option maxRecDepth 16384

noncomputable section

namespace Cert.ReferenceIdeal.Hand

open Cert.Hand Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

section Reads
variable (U : Valuation τ sig (Elt Ideal))
/-- The array `main_v21`. -/
abbrev r_v21 : S3x1x1x1x131072.Idx → BitVec 1 := U (Proc.devRef .tc main_v21)
/-- The array `main_v4`. -/
abbrev r_v4 : S3x1x6x8x131072.Idx → EReal := U (Proc.devRef .tc main_v4)
/-- The array `main_cst_1`. -/
abbrev r_cst_1 : S_.Idx → EReal := U (Proc.devRef .tc main_cst_1)
/-- The array `main_arg6`. -/
abbrev r_arg6 : S3.Idx → BitVec 32 := U (Proc.devRef .tc main_arg6)
/-- The array `main_arg3`. -/
abbrev r_arg3 : S3x131072x6x128.Idx → EReal := U (Proc.devRef .tc main_arg3)
/-- The array `main_arg0`. -/
abbrev r_arg0 : S3x1x6144.Idx → EReal := U (Proc.devRef .tc main_arg0)
/-- The array `main_v22`. -/
abbrev r_v22 : S3x1x6x8x131072.Idx → EReal := U (Proc.devRef .tc main_v22)
/-- The array `main_v0`. -/
abbrev r_v0 : S3x1x6x8x128.Idx → EReal := U (Proc.devRef .tc main_v0)
/-- The array `main_arg1`. -/
abbrev r_arg1 : S3x1x6x128.Idx → EReal := U (Proc.devRef .tc main_arg1)
/-- The array `main_v36_1`. -/
abbrev r_v36_1 : S3x131072x6x128.Idx → EReal := U (Proc.devRef .tc main_v36_1)
/-- The array `main_v36_0`. -/
abbrev r_v36_0 : S3x1x6x8x131072.Idx → EReal := U (Proc.devRef .tc main_v36_0)
/-- The array `main_arg5`. -/
abbrev r_arg5 : S3x6x128.Idx → EReal := U (Proc.devRef .tc main_arg5)
/-- The array `main_v35`. -/
abbrev r_v35 : S3x1x6x8.Idx → EReal := U (Proc.devRef .tc main_v35)
/-- The array `main_v33`. -/
abbrev r_v33 : S3x1x6x8.Idx → EReal := U (Proc.devRef .tc main_v33)
/-- The array `main_arg2`. -/
abbrev r_arg2 : S3x1x6x128.Idx → EReal := U (Proc.devRef .tc main_arg2)
/-- The array `main_v31`. -/
abbrev r_v31 : S3x1x6x8x131072.Idx → EReal := U (Proc.devRef .tc main_v31)
/-- The array `main_v60`. -/
abbrev r_v60 : S3x1x6144.Idx → EReal := U (Proc.devRef .tc main_v60)
/-- The array `main_v59`. -/
abbrev r_v59 : S3x1x6144.Idx → EReal := U (Proc.devRef .tc main_v59)
/-- The array `main_v25`. -/
abbrev r_v25 : S3x1x6x8.Idx → EReal := U (Proc.devRef .tc main_v25)
/-- The array `main_v26`. -/
abbrev r_v26 : S3x1x6x8.Idx → EReal := U (Proc.devRef .tc main_v26)
/-- The array `main_v27`. -/
abbrev r_v27 : S3x1x6x8.Idx → EReal := U (Proc.devRef .tc main_v27)
end Reads

/-- The coordinates read off a column. -/
theorem col_g (g : Fin 6) (j : Fin 8) (d : Fin 128) (h) : (⟨(col g j d).val / 1024, h⟩ : Fin 6) = g :=
  Fin.ext (by show (128 * (8 * g.val + j.val) + d.val) / 1024 = g.val; omega)
/-- The head read off a lane. -/
theorem col_j (g : Fin 6) (j : Fin 8) (d : Fin 128) (h) : (⟨(col g j d).val / 128 % 8, h⟩ : Fin 8) = j :=
  Fin.ext (by show (128 * (8 * g.val + j.val) + d.val) / 128 % 8 = j.val; omega)
/-- The coordinate read off a lane. -/
theorem col_d (g : Fin 6) (j : Fin 8) (d : Fin 128) (h) : (⟨(col g j d).val % 128, h⟩ : Fin 128) = d :=
  Fin.ext (by show (128 * (8 * g.val + j.val) + d.val) % 128 = d.val; omega)

section Lines
variable (U : Valuation τ sig (Elt Ideal))

/-- The mask and the masked scores. -/
theorem l1_v22 (b : Fin 3) (g : Fin 6) (j : Fin 8) (t : Fin 131072) :
    r_v22 (StableHlo.after hostOps0_1 U) (ix5 b (0 : Fin 1) g j t)
      = Scalar.select (r_v21 U (ix5 b (0 : Fin 1) (0 : Fin 1) (0 : Fin 1) t))
          (r_v4 U (ix5 b (0 : Fin 1) g j t))
          (r_cst_1 U ix0) := by
  simp only [hostOps0_1, r_v21, r_v4, r_cst_1, r_arg6, r_arg3, r_arg0, r_v22, r_v0, r_arg1, r_v36_1, r_v36_0, r_arg5, r_v35, r_v33, r_arg2, r_v31, r_v60, r_v59]
  after_results
  simp -implicitDefEqProofs only [StableHlo.TRef.toBuf, StableHlo.TRef.ofBuf, cast_cast, cast_eq]
  pointwise [r_v21, r_v4, r_cst_1, r_arg6, r_arg3, r_arg0, r_v22, r_v0, r_arg1, r_v36_1, r_v36_0, r_arg5, r_v35, r_v33, r_arg2, r_v31, r_v60, r_v59]
  rfl

/-- The mask at a position is the stated one. -/
theorem l0_v21 (b : Fin 3) (t : Fin 131072) :
    r_v21 (StableHlo.after hostOps0 U) (ix5 b (0 : Fin 1) (0 : Fin 1) (0 : Fin 1) t) = 1#1
      ↔ RefVis (r_arg6 U (ix1 b)) t.val := by
  simp only [hostOps0, r_v21, r_v4, r_cst_1, r_arg6, r_arg3, r_arg0, r_v22, r_v0, r_arg1, r_v36_1, r_v36_0, r_arg5, r_v35, r_v33, r_arg2, r_v31, r_v60, r_v59]
  after_results
  rw [← ref_word _ _ t.isLt]
  pointwise [r_v21, r_v4, r_cst_1, r_arg6, r_arg3, r_arg0, r_v22, r_v0, r_arg1, r_v36_1, r_v36_0, r_arg5, r_v35, r_v33, r_arg2, r_v31, r_v60, r_v59]

/-- The scaled score at a position. -/
theorem l0_v4 (b : Fin 3) (g : Fin 6) (j : Fin 8) (t : Fin 131072) :
    r_v4 (StableHlo.after hostOps0 U) (ix5 b (0 : Fin 1) g j t)
      = (∑ d : Fin 128, r_arg3 U (ix4 b t g d)
          * r_arg0 U (ix3 b (0 : Fin 1) (col g j d))) * kscale := by
  simp only [hostOps0, r_v21, r_v4, r_cst_1, r_arg6, r_arg3, r_arg0, r_v22, r_v0, r_arg1, r_v36_1, r_v36_0, r_arg5, r_v35, r_v33, r_arg2, r_v31, r_v60, r_v59]
  after_results
  pointwise [r_v21, r_v4, r_cst_1, r_arg6, r_arg3, r_arg0, r_v22, r_v0, r_arg1, r_v36_1, r_v36_0, r_arg5, r_v35, r_v33, r_arg2, r_v31, r_v60, r_v59]
  refine congrArg (· * kscale) (Finset.sum_congr rfl fun d _ => congrArg (r_arg3 U (ix4 b t g d) * ·) ?_)
  exact congrArg (fun n => r_arg0 U (ix3 b (0 : Fin 1) n)) (Fin.ext (by show g.val * 1024 + j.val * 128 + d.val = 128 * (8 * g.val + j.val) + d.val; omega) : _ = col g j d)

/-- The queries by group and head. -/
theorem l0_v0 (b : Fin 3) (g : Fin 6) (j : Fin 8) (d : Fin 128) :
    r_v0 (StableHlo.after hostOps0 U) (ix5 b (0 : Fin 1) g j d)
      = r_arg0 U (ix3 b (0 : Fin 1) (col g j d)) := by
  simp only [hostOps0, r_v21, r_v4, r_cst_1, r_arg6, r_arg3, r_arg0, r_v22, r_v0, r_arg1, r_v36_1, r_v36_0, r_arg5, r_v35, r_v33, r_arg2, r_v31, r_v60, r_v59]
  after_results
  pointwise [r_v21, r_v4, r_cst_1, r_arg6, r_arg3, r_arg0, r_v22, r_v0, r_arg1, r_v36_1, r_v36_0, r_arg5, r_v35, r_v33, r_arg2, r_v31, r_v60, r_v59]
  exact congrArg (fun n => r_arg0 U (ix3 b (0 : Fin 1) n)) (Fin.ext (by show g.val * 1024 + j.val * 128 + d.val = 128 * (8 * g.val + j.val) + d.val; omega) : _ = col g j d)

/-- The masked score is -inf. -/
theorem l0_cst1 : r_cst_1 (StableHlo.after hostOps0 U) ix0 = ⊥ := by
  simp only [hostOps0, r_v21, r_v4, r_cst_1, r_arg6, r_arg3, r_arg0, r_v22, r_v0, r_arg1, r_v36_1, r_v36_0, r_arg5, r_v35, r_v33, r_arg2, r_v31, r_v60, r_v59]
  after_results
  pointwise [r_v21, r_v4, r_cst_1, r_arg6, r_arg3, r_arg0, r_v22, r_v0, r_arg1, r_v36_1, r_v36_0, r_arg5, r_v35, r_v33, r_arg2, r_v31, r_v60, r_v59]
  exact ofBits_neg_inf

/-- A maximum along the last axis, as a fold. -/
theorem reduceMax_at {n : Nat} (h : (⟨5, ![3, 1, 6, 8, n]⟩ : Shape).ReducesTo [4] S3x1x6x8) (x : (⟨5, ![3, 1, 6, 8, n]⟩ : Shape).Idx → EReal)
    (v : S_.Idx → EReal) (hv : 0 < S_.numel) (b : Fin 3) (g : Fin 6) (j : Fin 8) :
    (Host.reduce (FloatOps.maximumf (F := Ideal) (φ := .f32)) x v h hv : S3x1x6x8.Idx → EReal) (ix4 b (0 : Fin 1) g j)
      = Finset.univ.fold max (v ix0) fun t => x (ix5 b (0 : Fin 1) g j t) := by
  pointwise []
  rw [show Shape.Idx.first hv = ix0 from funext fun i => i.elim0]

/-- A sum along the last axis. -/
theorem reduceAdd_at {n : Nat} (h : (⟨5, ![3, 1, 6, 8, n]⟩ : Shape).ReducesTo [4] S3x1x6x8) (x : (⟨5, ![3, 1, 6, 8, n]⟩ : Shape).Idx → EReal)
    (v : S_.Idx → EReal) (hv : 0 < S_.numel) (b : Fin 3) (g : Fin 6) (j : Fin 8) :
    (Host.reduceAdd (F := Ideal) (φ := .f32) x v h hv : S3x1x6x8.Idx → EReal) (ix4 b (0 : Fin 1) g j)
      = v ix0 + ∑ t, x (ix5 b (0 : Fin 1) g j t) := by
  pointwise []
  rw [show Shape.Idx.first hv = ix0 from funext fun i => i.elim0]

/-- The largest score of one head. -/
def mx (U : Valuation τ sig (Elt Ideal)) (b : Fin 3) (g : Fin 6) (j : Fin 8) (sn : EReal) : EReal :=
  max (Finset.univ.fold max ⊥ fun t : Fin 131072 => r_v22 U (ix5 b (0 : Fin 1) g j t)) sn
/-- The new key's score of one head. -/
def sn (U : Valuation τ sig (Elt Ideal)) (b : Fin 3) (g : Fin 6) (j : Fin 8) : EReal :=
  (∑ d : Fin 128, r_v0 U (ix5 b (0 : Fin 1) g j d)
    * r_arg1 U (ix4 b (0 : Fin 1) g d)) * kscale

/-- The largest cached score. -/
theorem l2_v26 (b : Fin 3) (g : Fin 6) (j : Fin 8) :
    r_v26 (StableHlo.after hostOps0_2 U) (ix4 b (0 : Fin 1) g j)
      = Finset.univ.fold max (Ideal.ofBits .f32 4286578688#32) fun t => r_v22 U (ix5 b (0 : Fin 1) g j t) := by
  have e : r_v26 (StableHlo.after hostOps0_2 U) = Host.reduce (FloatOps.maximumf (F := Ideal) (φ := .f32)) (r_v22 U)
      (constant (F := Ideal) S_ .f32 0xFF800000#32) reducesTo_S3x1x6x8x131072_S3x1x6x8_d4 h_S_ := by
    simp only [hostOps0_2, r_v26, r_v22]
    after_results
  rw [e]
  exact reduceMax_at _ _ _ _ _ _ _

/-- The new key's score. -/
theorem l2_v25 (b : Fin 3) (g : Fin 6) (j : Fin 8) :
    r_v25 (StableHlo.after hostOps0_2 U) (ix4 b (0 : Fin 1) g j) = sn U b g j := by
  simp only [hostOps0_2, r_v25]
  after_results
  pointwise [sn, r_v0, r_arg1]

/-- A maximum of two arrays, entry by entry. -/
theorem maximumf_at (A B : S3x1x6x8.Idx → EReal) (i : S3x1x6x8.Idx) :
    maximumf (F := Ideal) (φ := .f32) A B i = max (A i) (B i) := by
  rfl

/-- The largest score with its starting value as printed. -/
theorem mx_eq (b : Fin 3) (g : Fin 6) (j : Fin 8) : mx U b g j (sn U b g j) =
    max (Finset.univ.fold max (Ideal.ofBits .f32 4286578688#32) fun t => r_v22 U (ix5 b (0 : Fin 1) g j t)) (sn U b g j) := by
  generalize sn U b g j = z
  rw [show Ideal.ofBits .f32 4286578688#32 = ⊥ from ofBits_neg_inf, mx]

/-- The largest score. -/
theorem l2_v27 (b : Fin 3) (g : Fin 6) (j : Fin 8) :
    r_v27 (StableHlo.after hostOps0_2 U) (ix4 b (0 : Fin 1) g j) = mx U b g j (sn U b g j) := by
  have e : r_v27 (StableHlo.after hostOps0_2 U) = maximumf (F := Ideal) (s := S3x1x6x8) (φ := .f32) (r_v26 (StableHlo.after hostOps0_2 U)) (r_v25 (StableHlo.after hostOps0_2 U)) := by
    simp only [hostOps0_2, r_v26, r_v25, r_v27]
    after_results
  rw [e]
  exact (maximumf_at _ _ _).trans ((congrArg₂ max (l2_v26 U b g j) (l2_v25 U b g j)).trans (mx_eq U b g j).symm)

/-- A position's weight. -/
theorem l2_v31 (b : Fin 3) (g : Fin 6) (j : Fin 8) (t : Fin 131072) :
    r_v31 (StableHlo.after hostOps0_2 U) (ix5 b (0 : Fin 1) g j t)
      = Ideal.exp (r_v22 U (ix5 b (0 : Fin 1) g j t) - mx U b g j (sn U b g j)) := by
  rw [← l2_v27]
  have e : r_v31 (StableHlo.after hostOps0_2 U) = Host.exp (F := Ideal) (φ := .f32) (subf (F := Ideal) (φ := .f32) (r_v22 U)
      (broadcastInDim S3x1x6x8x131072 ![0, 1, 2, 3, 4] bcast_S3x1x6x8x1_S3x1x6x8x131072_0_1_2_3_4
        (broadcastInDim S3x1x6x8x1 ![0, 1, 2, 3] bcast_S3x1x6x8_S3x1x6x8x1_0_1_2_3 (r_v27 (StableHlo.after hostOps0_2 U))))) := by
    simp only [hostOps0_2, r_v22, r_v27, r_v31]
    after_results
  rw [e]
  generalize r_v27 (StableHlo.after hostOps0_2 U) = M
  pointwise [r_v22]

/-- The new key's weight. -/
theorem l2_v33 (b : Fin 3) (g : Fin 6) (j : Fin 8) :
    r_v33 (StableHlo.after hostOps0_2 U) (ix4 b (0 : Fin 1) g j)
      = Ideal.exp (sn U b g j - mx U b g j (sn U b g j)) := by
  rw [← l2_v27, ← l2_v25]
  have e : r_v33 (StableHlo.after hostOps0_2 U) = Host.exp (F := Ideal) (φ := .f32) (subf (F := Ideal) (φ := .f32) (r_v25 (StableHlo.after hostOps0_2 U)) (r_v27 (StableHlo.after hostOps0_2 U))) := by
    simp only [hostOps0_2, r_v25, r_v27, r_v33]
    after_results
  rw [e]
  rfl

/-- The sum of the weights. -/
theorem l2_v35 (b : Fin 3) (g : Fin 6) (j : Fin 8) :
    r_v35 (StableHlo.after hostOps0_2 U) (ix4 b (0 : Fin 1) g j)
      = ∑ t : Fin 131072, Ideal.exp (r_v22 U (ix5 b (0 : Fin 1) g j t) - mx U b g j (sn U b g j))
        + Ideal.exp (sn U b g j - mx U b g j (sn U b g j)) := by
  rw [← l2_v33, Finset.sum_congr rfl fun t _ => (l2_v31 U b g j t).symm]
  have e : r_v35 (StableHlo.after hostOps0_2 U) = addf (F := Ideal) (s := S3x1x6x8) (φ := .f32) (Host.reduceAdd (F := Ideal) (φ := .f32) (r_v31 (StableHlo.after hostOps0_2 U))
      (constant (F := Ideal) S_ .f32 0x00000000#32) reducesTo_S3x1x6x8x131072_S3x1x6x8_d4 h_S_) (r_v33 (StableHlo.after hostOps0_2 U)) := by
    simp only [hostOps0_2, r_v31, r_v33, r_v35]
    after_results
  rw [e]
  generalize r_v33 (StableHlo.after hostOps0_2 U) = A
  generalize r_v31 (StableHlo.after hostOps0_2 U) = B
  show Host.reduceAdd (F := Ideal) (φ := .f32) B (constant (F := Ideal) S_ .f32 0x00000000#32) reducesTo_S3x1x6x8x131072_S3x1x6x8_d4 h_S_ (ix4 b (0 : Fin 1) g j) + A (ix4 b (0 : Fin 1) g j) = _
  rw [show Host.reduceAdd (F := Ideal) (φ := .f32) B (constant (F := Ideal) S_ .f32 0x00000000#32) reducesTo_S3x1x6x8x131072_S3x1x6x8_d4 h_S_ (ix4 b (0 : Fin 1) g j) = _ from reduceAdd_at _ _ _ _ _ _ _]
  rw [show (constant (F := Ideal) S_ .f32 0x00000000#32 : S_.Idx → EReal) ix0 = 0 from Ideal.ofBits_zero .f32, zero_add]

/-- The cache's part of the output from what the region leaves. -/
def ocU (b : Fin 3) (g : Fin 6) (j : Fin 8) (d : Fin 128) : EReal :=
  (∑ t : Fin 131072, r_v36_1 U (ix4 b t g d)
      * r_v36_0 U (ix5 b (0 : Fin 1) g j t)) * kinv
    * r_arg5 U (ix3 b g d)
    * Ideal.div 1 (r_v35 U (ix4 b (0 : Fin 1) g j))

/-- The second result after the region, entry by entry. -/
theorem l3_v60 (b : Fin 3) (g : Fin 6) (j : Fin 8) (d : Fin 128) :
    r_v60 (StableHlo.after hostOps1 U) (ix3 b (0 : Fin 1) (col g j d)) = ocU U b g j d := by
  simp only [hostOps1, r_v21, r_v4, r_cst_1, r_arg6, r_arg3, r_arg0, r_v22, r_v0, r_arg1, r_v36_1, r_v36_0, r_arg5, r_v35, r_v33, r_arg2, r_v31, r_v60, r_v59]
  after_results
  pointwise [ocU, r_v21, r_v4, r_cst_1, r_arg6, r_arg3, r_arg0, r_v22, r_v0, r_arg1, r_v36_1, r_v36_0, r_arg5, r_v35, r_v33, r_arg2, r_v31, r_v60, r_v59]
  simp only [col_g, col_j, col_d]

/-- The first result after the region, entry by entry. -/
theorem l3_v59 (b : Fin 3) (g : Fin 6) (j : Fin 8) (d : Fin 128) :
    r_v59 (StableHlo.after hostOps1 U) (ix3 b (0 : Fin 1) (col g j d))
      = ocU U b g j d + r_v33 U (ix4 b (0 : Fin 1) g j)
          * r_arg2 U (ix4 b (0 : Fin 1) g d)
          * Ideal.div 1 (r_v35 U (ix4 b (0 : Fin 1) g j)) := by
  simp only [hostOps1, r_v21, r_v4, r_cst_1, r_arg6, r_arg3, r_arg0, r_v22, r_v0, r_arg1, r_v36_1, r_v36_0, r_arg5, r_v35, r_v33, r_arg2, r_v31, r_v60, r_v59]
  after_results
  pointwise [ocU, r_v21, r_v4, r_cst_1, r_arg6, r_arg3, r_arg0, r_v22, r_v0, r_arg1, r_v36_1, r_v36_0, r_arg5, r_v35, r_v33, r_arg2, r_v31, r_v60, r_v59]
  simp only [col_g, col_j, col_d]
end Lines

end Cert.ReferenceIdeal.Hand
-- ==== Proof.RTail.lean ====
/-
  The reference's two results over the extended reals: the lines before its region, the region, the lines after.
-/
module

public import proofs.«01_k».proof.Proof.RValue

@[expose] public section

set_option maxRecDepth 16384

noncomputable section

namespace Cert.ReferenceIdeal.Hand

open Cert.Hand Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

/-- Running two lists of host lines in a row. -/
theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons x l ih => exact ih _

/-- What the first two lists of host lines leave. -/
def U1 (c : Dev nD) : Valuation τ sig (Elt Ideal) :=
  StableHlo.after hostOps0_1 (StableHlo.after hostOps0 (fun b => m (c, b)))

/-- The lines before the region, in three parts. -/
theorem V0_eq (c : Dev nD) : V0 m c = StableHlo.after hostOps0_2 (U1 m c) := by
  show StableHlo.after (hostOps0 ++ (hostOps0_1 ++ (hostOps0_2 ++ []))) _ = _
  rw [after_app, after_app, List.append_nil]
  rfl

/-- The masked scores. -/
theorem U1_v22 (c : Dev nD) (b : Fin 3) (g : Fin 6) (j : Fin 8) (t : Fin 131072) :
    r_v22 (U1 m c) (ix5 b (0 : Fin 1) g j t)
      = sRow (m ((c : Thread nD τ).loc main_arg0)) (m ((c : Thread nD τ).loc main_arg3)) (m ((c : Thread nD τ).loc main_arg6)) b g j t := by
  unfold U1
  rw [l1_v22, l0_v4, l0_cst1, select_eq]
  unfold sRow
  refine (if_congr (l0_v21 _ b t) ?_ rfl)
  rfl

/-- The new key's score, from the arguments. -/
theorem U1_sn (c : Dev nD) (b : Fin 3) (g : Fin 6) (j : Fin 8) :
    sn (U1 m c) b g j = snRow (m ((c : Thread nD τ).loc main_arg0)) (m ((c : Thread nD τ).loc main_arg1)) b g j := by
  have e0 : r_v0 (U1 m c) = r_v0 (StableHlo.after hostOps0 (fun b => m (c, b))) := by
    unfold U1
    simp only [hostOps0_1, r_v0]
    after_results
  have e1 : r_arg1 (U1 m c) = m ((c : Thread nD τ).loc main_arg1) := by
    unfold U1
    simp only [hostOps0_1, hostOps0, r_arg1]
    after_results
    all_goals rfl
  unfold sn snRow
  rw [e0, e1]
  refine congrArg (· * kscale) (Finset.sum_congr rfl fun d _ => ?_)
  rw [l0_v0]

/-- One head's largest score. -/
abbrev M (c : Dev nD) (b : Fin 3) (g : Fin 6) (j : Fin 8) : EReal :=
  max (Finset.univ.fold max ⊥ (sRow (m ((c : Thread nD τ).loc main_arg0)) (m ((c : Thread nD τ).loc main_arg3)) (m ((c : Thread nD τ).loc main_arg6)) b g j))
    (snRow (m ((c : Thread nD τ).loc main_arg0)) (m ((c : Thread nD τ).loc main_arg1)) b g j)

/-- The largest score, from the arguments. -/
theorem U1_mx (c : Dev nD) (b : Fin 3) (g : Fin 6) (j : Fin 8) :
    mx (U1 m c) b g j (sn (U1 m c) b g j) = M m c b g j := by
  rw [U1_sn]
  unfold mx M
  rw [funext fun t => U1_v22 m c b g j t]

/-- A position's weight, from the arguments. -/
theorem V0_v31 (c : Dev nD) (b : Fin 3) (g : Fin 6) (j : Fin 8) (t : Fin 131072) :
    r_v31 (V0 m c) (ix5 b (0 : Fin 1) g j t)
      = Ideal.exp (sRow (m ((c : Thread nD τ).loc main_arg0)) (m ((c : Thread nD τ).loc main_arg3)) (m ((c : Thread nD τ).loc main_arg6)) b g j t - M m c b g j) := by
  rw [V0_eq, l2_v31, U1_mx, U1_v22]

/-- The new key's weight, from the arguments. -/
theorem V0_v33 (c : Dev nD) (b : Fin 3) (g : Fin 6) (j : Fin 8) :
    r_v33 (V0 m c) (ix4 b (0 : Fin 1) g j)
      = Ideal.exp (snRow (m ((c : Thread nD τ).loc main_arg0)) (m ((c : Thread nD τ).loc main_arg1)) b g j - M m c b g j) := by
  rw [V0_eq, l2_v33, U1_mx, U1_sn]

/-- The sum of the weights, from the arguments. -/
theorem V0_v35 (c : Dev nD) (b : Fin 3) (g : Fin 6) (j : Fin 8) :
    r_v35 (V0 m c) (ix4 b (0 : Fin 1) g j)
      = ∑ t, Ideal.exp (sRow (m ((c : Thread nD τ).loc main_arg0)) (m ((c : Thread nD τ).loc main_arg3)) (m ((c : Thread nD τ).loc main_arg6)) b g j t - M m c b g j)
        + Ideal.exp (snRow (m ((c : Thread nD τ).loc main_arg0)) (m ((c : Thread nD τ).loc main_arg1)) b g j - M m c b g j) := by
  rw [V0_eq, l2_v35, U1_mx, U1_sn]
  rw [Finset.sum_congr rfl fun t _ => congrArg (fun z => Ideal.exp (z - M m c b g j)) (U1_v22 m c b g j t)]

end Cert.ReferenceIdeal.Hand
-- ==== Proof.RRegion.lean ====
/-
  What the reference's region leaves in its two output arrays.
-/
module

public import proofs.«01_k».proof.Proof.Gen.ReferenceIdeal.Frame
public import proofs.«01_k».proof.Proof.Spec
public import Idealize.ShloMosaic.Lib.Pipeline.ValueKit

@[expose] public section

set_option maxRecDepth 16384

noncomputable section

namespace Cert.ReferenceIdeal.Hand

open Cert.Hand Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

/-- The region's one grid point. -/
abbrev t0 : Fin cfg0.N := ⟨0, by decide⟩

/-- The first window's block index. -/
theorem idx0 (a) : win0_0.index t0 a = 0 := by revert a; decide
/-- The second window's block index. -/
theorem idx1 (a) : win0_1.index t0 a = 0 := by revert a; decide

/-- The one point's block of the first window is the whole array. -/
theorem read0 (X : S3x1x6x8x131072.Idx → EReal) : ((cfg0.win 0).blk t0).view.read (Elt Ideal) X = X := by
  funext x
  show X (((cfg0.win 0).blk t0).view.emb x) = X x
  blk_ext [idx0]

/-- The one point's block of the second window is the whole array. -/
theorem read1 (X : S3x131072x6x128.Idx → EReal) : ((cfg0.win 1).blk t0).view.read (Elt Ideal) X = X := by
  funext x
  show X (((cfg0.win 1).blk t0).view.emb x) = X x
  blk_ext [idx1]

/-- The codes of an array, entry by entry. -/
theorem pay1_at (X : S3x1x6x8x131072.Idx → EReal) (y : S3x1x6x8x131072.Idx) :
    (k0_pay1 (F := Ideal) X : S3x1x6x8x131072.Idx → EReal) y = min (X y * k448) k448 := by
  pointwise [k0_pay1]

/-- The values of an array, entry by entry. -/
theorem pay2_at (X : S3x131072x6x128.Idx → EReal) (y : S3x131072x6x128.Idx) :
    (k0_pay2 (F := Ideal) X : S3x131072x6x128.Idx → EReal) y = X y := by
  pointwise [k0_pay2]

/-- The codes the region leaves. -/
theorem arr2 (c : Dev nD) (X : S3x1x6x8x131072.Idx → EReal) (hX : V m c main_v31 = X) : (dats m 0 c).arrAt 2 cfg0.N
    = fun y : S3x1x6x8x131072.Idx => min (X y * k448) k448 := by
  refine (dats m 0 c).arrAt_eq_of_after_last 2 t0 (by decide +kernel) _ fun j => ?_
  blk_simp
  rw [after0_2]
  frame_out
  have e : iblk m c 0 t0 = X := by
    unfold iblk
    exact (congrArg _ hX).trans (read0 X)
  rw [e]
  exact pay1_at X j

/-- The values the region leaves. -/
theorem arr3 (c : Dev nD) (X : S3x131072x6x128.Idx → EReal) (hX : V m c main_arg4 = X) : (dats m 0 c).arrAt 3 cfg0.N
    = fun y : S3x131072x6x128.Idx => X y := by
  refine (dats m 0 c).arrAt_eq_of_after_last 3 t0 (by decide +kernel) _ fun j => ?_
  blk_simp
  rw [after0_3]
  frame_out
  have e : iblk m c 1 t0 = X := by
    unfold iblk
    exact (congrArg _ hX).trans (read1 X)
  rw [e]
  exact pay2_at X j

end Cert.ReferenceIdeal.Hand
-- ==== Proof.RSpec.lean ====
/-
  The reference's run: its two results are the stated functions of the argument arrays.
-/
module

public import proofs.«01_k».proof.Proof.RTail
public import proofs.«01_k».proof.Proof.RRegion

@[expose] public section

set_option maxRecDepth 16384

noncomputable section

namespace Cert.ReferenceIdeal.Hand

open Cert.Hand Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

/-- What the region leaves, every array in place. -/
def U3 (c : Dev nD) : Valuation τ sig (Elt Ideal) :=
  Pipeline.withArrays spec0 c (V0 m c) fun w => (dats m 0 c).arrAt w cfg0.N

/-- What the reference ends with. -/
def rfinal (c : Dev nD) : Valuation τ sig (Elt Ideal) := StableHlo.after hostOps1 (U3 m c)

/-- After the region: the codes. -/
theorem U3_v36_0 (c : Dev nD) : r_v36_0 (U3 m c) = fun y => min (r_v31 (V0 m c) y * k448) k448 := by
  refine Eq.trans ?_ (arr2 m c _ rfl)
  exact Pipeline.withArrays_arr spec0 launch0.win.arr_inj c (V0 m c) _ 2

/-- After the region: the values. -/
theorem U3_v36_1 (c : Dev nD) : r_v36_1 (U3 m c) = fun y => (m ((c : Thread nD τ).loc main_arg4) : S3x131072x6x128.Idx → EReal) y := by
  refine Eq.trans ?_ (arr3 m c _ (V_main_arg4 m c))
  exact Pipeline.withArrays_arr spec0 launch0.win.arr_inj c (V0 m c) _ 3

/-- After the region: the new key's weights, as before it. -/
theorem U3_v33 (c : Dev nD) : r_v33 (U3 m c) = r_v33 (V0 m c) :=
  Pipeline.withArrays_of_ne _ c _ _ main_v33 (by exact (by decide : ∀ w, Pipeline.arrRef spec0 w ≠ main_v33))

/-- After the region: the sums, as before it. -/
theorem U3_v35 (c : Dev nD) : r_v35 (U3 m c) = r_v35 (V0 m c) :=
  Pipeline.withArrays_of_ne _ c _ _ main_v35 (by exact (by decide : ∀ w, Pipeline.arrRef spec0 w ≠ main_v35))

/-- After the region: the new values, as given. -/
theorem U3_arg2 (c : Dev nD) : r_arg2 (U3 m c) = m ((c : Thread nD τ).loc main_arg2) :=
  (Pipeline.withArrays_of_ne _ c _ _ main_arg2 (by exact (by decide : ∀ w, Pipeline.arrRef spec0 w ≠ main_arg2))).trans (V_main_arg2 m c)

/-- After the region: the value scales, as given. -/
theorem U3_arg5 (c : Dev nD) : r_arg5 (U3 m c) = m ((c : Thread nD τ).loc main_arg5) :=
  (Pipeline.withArrays_of_ne _ c _ _ main_arg5 (by exact (by decide : ∀ w, Pipeline.arrRef spec0 w ≠ main_arg5))).trans (V_main_arg5 m c)

/-- Equal factors, equal products. -/
theorem mul3 {x y : EReal} (h : x = y) (u v w : EReal) : x * u * v * w = y * u * v * w := by rw [h]

/-- The cache's part of the output, from the argument arrays. -/
theorem U3_oc (c : Dev nD) (b : Fin 3) (g : Fin 6) (j : Fin 8) (d : Fin 128) :
    ocU (U3 m c) b g j d
      = specOC (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) b g j d := by
  unfold ocU specOC rOC
  rw [U3_v36_0, U3_v36_1, U3_arg5, U3_v35, V0_v35]
  have hs : ∀ t : Fin 131072, min (r_v31 (V0 m c) (ix5 b (0 : Fin 1) g j t) * k448) k448
      = min (Ideal.exp (sRow (m ((c : Thread nD τ).loc main_arg0)) (m ((c : Thread nD τ).loc main_arg3)) (m ((c : Thread nD τ).loc main_arg6)) b g j t - M m c b g j) * k448) k448 :=
    fun t => by rw [V0_v31]
  have hsum := Finset.sum_congr (rfl : (Finset.univ : Finset (Fin 131072)) = Finset.univ)
    (fun t _ => congrArg (vRow (m ((c : Thread nD τ).loc main_arg4)) b g d t * ·) (hs t))
  exact mul3 hsum _ _ _

/-- The first result. -/
theorem rfinal_v59 (c : Dev nD) (b : Fin 3) (g : Fin 6) (j : Fin 8) (d : Fin 128) :
    r_v59 (rfinal m c) (ix3 b (0 : Fin 1) (col g j d))
      = specO (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) b g j d := by
  unfold rfinal
  rw [l3_v59, U3_oc, U3_v33, V0_v33, U3_v35, V0_v35, U3_arg2]
  unfold specO rO specOC
  rfl

/-- The second result. -/
theorem rfinal_v60 (c : Dev nD) (b : Fin 3) (g : Fin 6) (j : Fin 8) (d : Fin 128) :
    r_v60 (rfinal m c) (ix3 b (0 : Fin 1) (col g j d))
      = specOC (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) b g j d := by
  unfold rfinal
  rw [l3_v60, U3_oc]

/-- The reference runs, ends with these two results and leaves its arguments. -/
theorem run : θ_run defs (onTc (τ := τ) (main (F := Ideal))) ⟨m, fun _ => 0, ρ⟩ (fun r => ∀ c : Dev nD,
      r.2.mem ((c.tc : Thread nD τ).loc main_v59) = rfinal m c (Proc.devRef .tc main_v59)
      ∧ r.2.mem ((c.tc : Thread nD τ).loc main_v60) = rfinal m c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h.2 c).2 main_v59 (Pipeline.mem_restRefs_of main_v59 (by decide) (by decide))),
      ((h.2 c).2 main_v60 (Pipeline.mem_restRefs_of main_v60 (by decide) (by decide))), h.1 c⟩)
    (θ_run_and (unchanged m ρ) (run_main m ρ))

end Cert.ReferenceIdeal.Hand
-- ==== Proof.Algebraic.lean ====
/-
  The kernel against its reference over the extended reals: from equal arguments, both results are equal.
-/
module

public import proofs.«01_k».proof.Defs
public import proofs.«01_k».proof.Proof.KValue
public import proofs.«01_k».proof.Proof.RSpec

@[expose] public section

noncomputable section

namespace Cert.Hand

open Idealize.ShloMosaic Idealize.SL.Sem

/-- Two arrays equal at every head's lanes are equal. -/
theorem ext_col (X Y : (⟨3, ![3, 1, 6144]⟩ : Shape).Idx → EReal)
    (h : ∀ b g j d, X (ix3 b (0 : Fin 1) (col g j d)) = Y (ix3 b (0 : Fin 1) (col g j d))) : X = Y := by
  have key : ∀ (b : Fin 3) (z : Fin 1) (n : Fin 6144), X (ix3 b z n) = Y (ix3 b z n) := by
    intro b z n
    obtain ⟨g, j, d, rfl⟩ := col_surj n
    rw [Subsingleton.elim z 0]
    exact h b g j d
  funext y
  have e := key (y 0) (y 1) (y 2)
  rwa [← eq_ix3 y] at e

/-- From arguments that agree, the kernel and the reference end with the same two results, over the extended reals. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.final m c (Proc.devRef .tc Cert.KernelIdeal.main_v6),
    fun c => Cert.KernelIdeal.Hand.final m c (Proc.devRef .tc Cert.KernelIdeal.main_v7), ?_, ?_⟩
  · exact Cert.KernelIdeal.Hand.run m g
  · refine (θ_run (Cert.ReferenceIdeal.defs (F := Ideal)) _ _).mono (fun r h c => ?_) (Cert.ReferenceIdeal.Hand.run m' g')
    obtain ⟨h59, h60, ha⟩ := h c
    obtain ⟨e0, e1, e2, e3, e4, e5, e6⟩ := hm c
    refine ⟨h59.trans ?_, h60.trans ?_, ha⟩
    · refine ext_col _ _ fun b g j d => ?_
      refine (Cert.ReferenceIdeal.Hand.rfinal_v59 m' c b g j d).trans (Eq.trans ?_ (Cert.KernelIdeal.Hand.final_v6 m c b g j d).symm)
      rw [e0, e1, e2, e3, e4, e5, e6]
    · refine ext_col _ _ fun b g j d => ?_
      refine (Cert.ReferenceIdeal.Hand.rfinal_v60 m' c b g j d).trans (Eq.trans ?_ (Cert.KernelIdeal.Hand.final_v7 m c b g j d).symm)
      rw [e0, e1, e3, e4, e5, e6]

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Launch
public import proofs.«01_k».proof.Proof.LaunchK
public import proofs.«01_k».proof.Proof.Algebraic

@[expose] public section

noncomputable section

namespace Cert.Proof

open Idealize.ShloMosaic Idealize.SL.Sem Cert.Kernel

/-- Every claim about the three programs. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial,
  Cert.Hand.algebraic⟩

end Cert.Proof

end
